-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_RefFfnFinalIdeal (m : (ℓ : Loc Cert.RefFfnFinalIdeal.nD Cert.RefFfnFinalIdeal.τ Cert.RefFfnFinalIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_RefMixInIdeal (m : (ℓ : Loc Cert.RefMixInIdeal.nD Cert.RefMixInIdeal.τ Cert.RefMixInIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_ScanCtx (m : (ℓ : Loc Cert.ScanCtx.nD Cert.ScanCtx.τ Cert.ScanCtx.sig) → Buf (Elt Bits) ℓ) : Prop :=
  True

def Pre_ScanCtxIdeal (m : (ℓ : Loc Cert.ScanCtxIdeal.nD Cert.ScanCtxIdeal.τ Cert.ScanCtxIdeal.sig) → Buf (Elt Ideal) ℓ) : Prop :=
  True

def Pre_RefScanCtxIdeal (m : (ℓ : Loc Cert.RefScanCtxIdeal.nD Cert.RefScanCtxIdeal.τ Cert.RefScanCtxIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_RefGlaInIdeal (m : (ℓ : Loc Cert.RefGlaInIdeal.nD Cert.RefGlaInIdeal.τ Cert.RefGlaInIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_RefPrenormIdeal (m : (ℓ : Loc Cert.RefPrenormIdeal.nD Cert.RefPrenormIdeal.τ Cert.RefPrenormIdeal.sig) → Buf (Elt Ideal) ℓ) : Prop :=
  True

def Pre_DftCtx (m : (ℓ : Loc Cert.DftCtx.nD Cert.DftCtx.τ Cert.DftCtx.sig) → Buf (Elt Bits) ℓ) : Prop :=
  True

def Pre_DftCtxIdeal (m : (ℓ : Loc Cert.DftCtxIdeal.nD Cert.DftCtxIdeal.τ Cert.DftCtxIdeal.sig) → Buf (Elt Ideal) ℓ) : Prop :=
  True

def Pre_RefDftCtxIdeal (m : (ℓ : Loc Cert.RefDftCtxIdeal.nD Cert.RefDftCtxIdeal.τ Cert.RefDftCtxIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5)
      ∧ r.2.mem ((c.tc : Thread Cert.FfnFinal.nD Cert.FfnFinal.τ).loc Cert.FfnFinal.main_arg6) = m ((c.tc : Thread Cert.FfnFinal.nD Cert.FfnFinal.τ).loc Cert.FfnFinal.main_arg6))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
      ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ r.2.sem = fun _ => 0)

def quiescent_RefFfnFinalIdeal [hRefFfnFinalIdeal : Cert.RefFfnFinalIdeal.Facts] : Prop :=
  ∀ (m : (ℓ : Loc Cert.RefFfnFinalIdeal.nD Cert.RefFfnFinalIdeal.τ Cert.RefFfnFinalIdeal.sig) → Buf (Elt Ideal) ℓ) (g : Dev Cert.RefFfnFinalIdeal.nD → PrngReg), Pre_RefFfnFinalIdeal m →
    θ_run (Cert.RefFfnFinalIdeal.defs (F := Ideal)) (onTc (τ := Cert.RefFfnFinalIdeal.τ) (Cert.RefFfnFinalIdeal.main (F := Ideal))) ⟨m, fun _ => 0, g⟩ (fun r => (∀ c : Dev Cert.RefFfnFinalIdeal.nD,
      r.2.mem ((c.tc : Thread Cert.RefFfnFinalIdeal.nD Cert.RefFfnFinalIdeal.τ).loc Cert.RefFfnFinalIdeal.main_arg0) = m ((c.tc : Thread Cert.RefFfnFinalIdeal.nD Cert.RefFfnFinalIdeal.τ).loc Cert.RefFfnFinalIdeal.main_arg0)
      ∧ r.2.mem ((c.tc : Thread Cert.RefFfnFinalIdeal.nD Cert.RefFfnFinalIdeal.τ).loc Cert.RefFfnFinalIdeal.main_arg1) = m ((c.tc : Thread Cert.RefFfnFinalIdeal.nD Cert.RefFfnFinalIdeal.τ).loc Cert.RefFfnFinalIdeal.main_arg1)
      ∧ r.2.mem ((c.tc : Thread Cert.RefFfnFinalIdeal.nD Cert.RefFfnFinalIdeal.τ).loc Cert.RefFfnFinalIdeal.main_arg2) = m ((c.tc : Thread Cert.RefFfnFinalIdeal.nD Cert.RefFfnFinalIdeal.τ).loc Cert.RefFfnFinalIdeal.main_arg2)
      ∧ r.2.mem ((c.tc : Thread Cert.RefFfnFinalIdeal.nD Cert.RefFfnFinalIdeal.τ).loc Cert.RefFfnFinalIdeal.main_arg3) = m ((c.tc : Thread Cert.RefFfnFinalIdeal.nD Cert.RefFfnFinalIdeal.τ).loc Cert.RefFfnFinalIdeal.main_arg3)
      ∧ r.2.mem ((c.tc : Thread Cert.RefFfnFinalIdeal.nD Cert.RefFfnFinalIdeal.τ).loc Cert.RefFfnFinalIdeal.main_arg4) = m ((c.tc : Thread Cert.RefFfnFinalIdeal.nD Cert.RefFfnFinalIdeal.τ).loc Cert.RefFfnFinalIdeal.main_arg4)
      ∧ r.2.mem ((c.tc : Thread Cert.RefFfnFinalIdeal.nD Cert.RefFfnFinalIdeal.τ).loc Cert.RefFfnFinalIdeal.main_arg5) = m ((c.tc : Thread Cert.RefFfnFinalIdeal.nD Cert.RefFfnFinalIdeal.τ).loc Cert.RefFfnFinalIdeal.main_arg5)
      ∧ r.2.mem ((c.tc : Thread Cert.RefFfnFinalIdeal.nD Cert.RefFfnFinalIdeal.τ).loc Cert.RefFfnFinalIdeal.main_arg6) = m ((c.tc : Thread Cert.RefFfnFinalIdeal.nD Cert.RefFfnFinalIdeal.τ).loc Cert.RefFfnFinalIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_RefMixInIdeal [hRefMixInIdeal : Cert.RefMixInIdeal.Facts] : Prop :=
  ∀ (m : (ℓ : Loc Cert.RefMixInIdeal.nD Cert.RefMixInIdeal.τ Cert.RefMixInIdeal.sig) → Buf (Elt Ideal) ℓ) (g : Dev Cert.RefMixInIdeal.nD → PrngReg), Pre_RefMixInIdeal m →
    θ_run (Cert.RefMixInIdeal.defs (F := Ideal)) (onTc (τ := Cert.RefMixInIdeal.τ) (Cert.RefMixInIdeal.main (F := Ideal))) ⟨m, fun _ => 0, g⟩ (fun r => (∀ c : Dev Cert.RefMixInIdeal.nD,
      r.2.mem ((c.tc : Thread Cert.RefMixInIdeal.nD Cert.RefMixInIdeal.τ).loc Cert.RefMixInIdeal.main_arg0) = m ((c.tc : Thread Cert.RefMixInIdeal.nD Cert.RefMixInIdeal.τ).loc Cert.RefMixInIdeal.main_arg0)
      ∧ r.2.mem ((c.tc : Thread Cert.RefMixInIdeal.nD Cert.RefMixInIdeal.τ).loc Cert.RefMixInIdeal.main_arg1) = m ((c.tc : Thread Cert.RefMixInIdeal.nD Cert.RefMixInIdeal.τ).loc Cert.RefMixInIdeal.main_arg1)
      ∧ r.2.mem ((c.tc : Thread Cert.RefMixInIdeal.nD Cert.RefMixInIdeal.τ).loc Cert.RefMixInIdeal.main_arg2) = m ((c.tc : Thread Cert.RefMixInIdeal.nD Cert.RefMixInIdeal.τ).loc Cert.RefMixInIdeal.main_arg2)
      ∧ r.2.mem ((c.tc : Thread Cert.RefMixInIdeal.nD Cert.RefMixInIdeal.τ).loc Cert.RefMixInIdeal.main_arg3) = m ((c.tc : Thread Cert.RefMixInIdeal.nD Cert.RefMixInIdeal.τ).loc Cert.RefMixInIdeal.main_arg3)
      ∧ r.2.mem ((c.tc : Thread Cert.RefMixInIdeal.nD Cert.RefMixInIdeal.τ).loc Cert.RefMixInIdeal.main_arg4) = m ((c.tc : Thread Cert.RefMixInIdeal.nD Cert.RefMixInIdeal.τ).loc Cert.RefMixInIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13)
      ∧ r.2.mem ((c.tc : Thread Cert.MixOut.nD Cert.MixOut.τ).loc Cert.MixOut.main_arg14) = m ((c.tc : Thread Cert.MixOut.nD Cert.MixOut.τ).loc Cert.MixOut.main_arg14)
      ∧ r.2.mem ((c.tc : Thread Cert.MixOut.nD Cert.MixOut.τ).loc Cert.MixOut.main_arg15) = m ((c.tc : Thread Cert.MixOut.nD Cert.MixOut.τ).loc Cert.MixOut.main_arg15)
      ∧ r.2.mem ((c.tc : Thread Cert.MixOut.nD Cert.MixOut.τ).loc Cert.MixOut.main_arg16) = m ((c.tc : Thread Cert.MixOut.nD Cert.MixOut.τ).loc Cert.MixOut.main_arg16))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13)
      ∧ r.2.mem ((c.tc : Thread Cert.MixOutIdeal.nD Cert.MixOutIdeal.τ).loc Cert.MixOutIdeal.main_arg14) = m ((c.tc : Thread Cert.MixOutIdeal.nD Cert.MixOutIdeal.τ).loc Cert.MixOutIdeal.main_arg14)
      ∧ r.2.mem ((c.tc : Thread Cert.MixOutIdeal.nD Cert.MixOutIdeal.τ).loc Cert.MixOutIdeal.main_arg15) = m ((c.tc : Thread Cert.MixOutIdeal.nD Cert.MixOutIdeal.τ).loc Cert.MixOutIdeal.main_arg15)
      ∧ r.2.mem ((c.tc : Thread Cert.MixOutIdeal.nD Cert.MixOutIdeal.τ).loc Cert.MixOutIdeal.main_arg16) = m ((c.tc : Thread Cert.MixOutIdeal.nD Cert.MixOutIdeal.τ).loc Cert.MixOutIdeal.main_arg16))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3)
      ∧ r.2.mem ((c.tc : Thread Cert.RefMixOutIdeal.nD Cert.RefMixOutIdeal.τ).loc Cert.RefMixOutIdeal.main_arg4) = m ((c.tc : Thread Cert.RefMixOutIdeal.nD Cert.RefMixOutIdeal.τ).loc Cert.RefMixOutIdeal.main_arg4)
      ∧ r.2.mem ((c.tc : Thread Cert.RefMixOutIdeal.nD Cert.RefMixOutIdeal.τ).loc Cert.RefMixOutIdeal.main_arg5) = m ((c.tc : Thread Cert.RefMixOutIdeal.nD Cert.RefMixOutIdeal.τ).loc Cert.RefMixOutIdeal.main_arg5)
      ∧ r.2.mem ((c.tc : Thread Cert.RefMixOutIdeal.nD Cert.RefMixOutIdeal.τ).loc Cert.RefMixOutIdeal.main_arg6) = m ((c.tc : Thread Cert.RefMixOutIdeal.nD Cert.RefMixOutIdeal.τ).loc Cert.RefMixOutIdeal.main_arg6)
      ∧ r.2.mem ((c.tc : Thread Cert.RefMixOutIdeal.nD Cert.RefMixOutIdeal.τ).loc Cert.RefMixOutIdeal.main_arg7) = m ((c.tc : Thread Cert.RefMixOutIdeal.nD Cert.RefMixOutIdeal.τ).loc Cert.RefMixOutIdeal.main_arg7)
      ∧ r.2.mem ((c.tc : Thread Cert.RefMixOutIdeal.nD Cert.RefMixOutIdeal.τ).loc Cert.RefMixOutIdeal.main_arg8) = m ((c.tc : Thread Cert.RefMixOutIdeal.nD Cert.RefMixOutIdeal.τ).loc Cert.RefMixOutIdeal.main_arg8)
      ∧ r.2.mem ((c.tc : Thread Cert.RefMixOutIdeal.nD Cert.RefMixOutIdeal.τ).loc Cert.RefMixOutIdeal.main_arg9) = m ((c.tc : Thread Cert.RefMixOutIdeal.nD Cert.RefMixOutIdeal.τ).loc Cert.RefMixOutIdeal.main_arg9)
      ∧ r.2.mem ((c.tc : Thread Cert.RefMixOutIdeal.nD Cert.RefMixOutIdeal.τ).loc Cert.RefMixOutIdeal.main_arg10) = m ((c.tc : Thread Cert.RefMixOutIdeal.nD Cert.RefMixOutIdeal.τ).loc Cert.RefMixOutIdeal.main_arg10)
      ∧ r.2.mem ((c.tc : Thread Cert.RefMixOutIdeal.nD Cert.RefMixOutIdeal.τ).loc Cert.RefMixOutIdeal.main_arg11) = m ((c.tc : Thread Cert.RefMixOutIdeal.nD Cert.RefMixOutIdeal.τ).loc Cert.RefMixOutIdeal.main_arg11)
      ∧ r.2.mem ((c.tc : Thread Cert.RefMixOutIdeal.nD Cert.RefMixOutIdeal.τ).loc Cert.RefMixOutIdeal.main_arg12) = m ((c.tc : Thread Cert.RefMixOutIdeal.nD Cert.RefMixOutIdeal.τ).loc Cert.RefMixOutIdeal.main_arg12)
      ∧ r.2.mem ((c.tc : Thread Cert.RefMixOutIdeal.nD Cert.RefMixOutIdeal.τ).loc Cert.RefMixOutIdeal.main_arg13) = m ((c.tc : Thread Cert.RefMixOutIdeal.nD Cert.RefMixOutIdeal.τ).loc Cert.RefMixOutIdeal.main_arg13)
      ∧ r.2.mem ((c.tc : Thread Cert.RefMixOutIdeal.nD Cert.RefMixOutIdeal.τ).loc Cert.RefMixOutIdeal.main_arg14) = m ((c.tc : Thread Cert.RefMixOutIdeal.nD Cert.RefMixOutIdeal.τ).loc Cert.RefMixOutIdeal.main_arg14)
      ∧ r.2.mem ((c.tc : Thread Cert.RefMixOutIdeal.nD Cert.RefMixOutIdeal.τ).loc Cert.RefMixOutIdeal.main_arg15) = m ((c.tc : Thread Cert.RefMixOutIdeal.nD Cert.RefMixOutIdeal.τ).loc Cert.RefMixOutIdeal.main_arg15)
      ∧ r.2.mem ((c.tc : Thread Cert.RefMixOutIdeal.nD Cert.RefMixOutIdeal.τ).loc Cert.RefMixOutIdeal.main_arg16) = m ((c.tc : Thread Cert.RefMixOutIdeal.nD Cert.RefMixOutIdeal.τ).loc Cert.RefMixOutIdeal.main_arg16))
      ∧ r.2.sem = fun _ => 0)

def quiescent_ScanCtx [hScanCtx : Cert.ScanCtx.Facts] : Prop :=
  ∀ (m : (ℓ : Loc Cert.ScanCtx.nD Cert.ScanCtx.τ Cert.ScanCtx.sig) → Buf (Elt Bits) ℓ) (g : Dev Cert.ScanCtx.nD → PrngReg), Pre_ScanCtx m →
    θ_run (Cert.ScanCtx.defs (F := Bits)) (onTc (τ := Cert.ScanCtx.τ) (Cert.ScanCtx.main (F := Bits))) ⟨m, fun _ => 0, g⟩ (fun r => (∀ c : Dev Cert.ScanCtx.nD,
      r.2.mem ((c.tc : Thread Cert.ScanCtx.nD Cert.ScanCtx.τ).loc Cert.ScanCtx.main_arg0) = m ((c.tc : Thread Cert.ScanCtx.nD Cert.ScanCtx.τ).loc Cert.ScanCtx.main_arg0)
      ∧ r.2.mem ((c.tc : Thread Cert.ScanCtx.nD Cert.ScanCtx.τ).loc Cert.ScanCtx.main_arg1) = m ((c.tc : Thread Cert.ScanCtx.nD Cert.ScanCtx.τ).loc Cert.ScanCtx.main_arg1)
      ∧ r.2.mem ((c.tc : Thread Cert.ScanCtx.nD Cert.ScanCtx.τ).loc Cert.ScanCtx.main_arg2) = m ((c.tc : Thread Cert.ScanCtx.nD Cert.ScanCtx.τ).loc Cert.ScanCtx.main_arg2))
      ∧ r.2.sem = fun _ => 0)

def quiescent_ScanCtxIdeal [hScanCtxIdeal : Cert.ScanCtxIdeal.Facts] : Prop :=
  ∀ (m : (ℓ : Loc Cert.ScanCtxIdeal.nD Cert.ScanCtxIdeal.τ Cert.ScanCtxIdeal.sig) → Buf (Elt Ideal) ℓ) (g : Dev Cert.ScanCtxIdeal.nD → PrngReg), Pre_ScanCtxIdeal m →
    θ_run (Cert.ScanCtxIdeal.defs (F := Ideal)) (onTc (τ := Cert.ScanCtxIdeal.τ) (Cert.ScanCtxIdeal.main (F := Ideal))) ⟨m, fun _ => 0, g⟩ (fun r => (∀ c : Dev Cert.ScanCtxIdeal.nD,
      r.2.mem ((c.tc : Thread Cert.ScanCtxIdeal.nD Cert.ScanCtxIdeal.τ).loc Cert.ScanCtxIdeal.main_arg0) = m ((c.tc : Thread Cert.ScanCtxIdeal.nD Cert.ScanCtxIdeal.τ).loc Cert.ScanCtxIdeal.main_arg0)
      ∧ r.2.mem ((c.tc : Thread Cert.ScanCtxIdeal.nD Cert.ScanCtxIdeal.τ).loc Cert.ScanCtxIdeal.main_arg1) = m ((c.tc : Thread Cert.ScanCtxIdeal.nD Cert.ScanCtxIdeal.τ).loc Cert.ScanCtxIdeal.main_arg1)
      ∧ r.2.mem ((c.tc : Thread Cert.ScanCtxIdeal.nD Cert.ScanCtxIdeal.τ).loc Cert.ScanCtxIdeal.main_arg2) = m ((c.tc : Thread Cert.ScanCtxIdeal.nD Cert.ScanCtxIdeal.τ).loc Cert.ScanCtxIdeal.main_arg2))
      ∧ r.2.sem = fun _ => 0)

def quiescent_RefScanCtxIdeal [hRefScanCtxIdeal : Cert.RefScanCtxIdeal.Facts] : Prop :=
  ∀ (m : (ℓ : Loc Cert.RefScanCtxIdeal.nD Cert.RefScanCtxIdeal.τ Cert.RefScanCtxIdeal.sig) → Buf (Elt Ideal) ℓ) (g : Dev Cert.RefScanCtxIdeal.nD → PrngReg), Pre_RefScanCtxIdeal m →
    θ_run (Cert.RefScanCtxIdeal.defs (F := Ideal)) (onTc (τ := Cert.RefScanCtxIdeal.τ) (Cert.RefScanCtxIdeal.main (F := Ideal))) ⟨m, fun _ => 0, g⟩ (fun r => (∀ c : Dev Cert.RefScanCtxIdeal.nD,
      r.2.mem ((c.tc : Thread Cert.RefScanCtxIdeal.nD Cert.RefScanCtxIdeal.τ).loc Cert.RefScanCtxIdeal.main_arg0) = m ((c.tc : Thread Cert.RefScanCtxIdeal.nD Cert.RefScanCtxIdeal.τ).loc Cert.RefScanCtxIdeal.main_arg0)
      ∧ r.2.mem ((c.tc : Thread Cert.RefScanCtxIdeal.nD Cert.RefScanCtxIdeal.τ).loc Cert.RefScanCtxIdeal.main_arg1) = m ((c.tc : Thread Cert.RefScanCtxIdeal.nD Cert.RefScanCtxIdeal.τ).loc Cert.RefScanCtxIdeal.main_arg1)
      ∧ r.2.mem ((c.tc : Thread Cert.RefScanCtxIdeal.nD Cert.RefScanCtxIdeal.τ).loc Cert.RefScanCtxIdeal.main_arg2) = m ((c.tc : Thread Cert.RefScanCtxIdeal.nD Cert.RefScanCtxIdeal.τ).loc Cert.RefScanCtxIdeal.main_arg2))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4)
      ∧ r.2.mem ((c.tc : Thread Cert.GlaIn.nD Cert.GlaIn.τ).loc Cert.GlaIn.main_arg5) = m ((c.tc : Thread Cert.GlaIn.nD Cert.GlaIn.τ).loc Cert.GlaIn.main_arg5))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
      ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ r.2.sem = fun _ => 0)

def quiescent_RefGlaInIdeal [hRefGlaInIdeal : Cert.RefGlaInIdeal.Facts] : Prop :=
  ∀ (m : (ℓ : Loc Cert.RefGlaInIdeal.nD Cert.RefGlaInIdeal.τ Cert.RefGlaInIdeal.sig) → Buf (Elt Ideal) ℓ) (g : Dev Cert.RefGlaInIdeal.nD → PrngReg), Pre_RefGlaInIdeal m →
    θ_run (Cert.RefGlaInIdeal.defs (F := Ideal)) (onTc (τ := Cert.RefGlaInIdeal.τ) (Cert.RefGlaInIdeal.main (F := Ideal))) ⟨m, fun _ => 0, g⟩ (fun r => (∀ c : Dev Cert.RefGlaInIdeal.nD,
      r.2.mem ((c.tc : Thread Cert.RefGlaInIdeal.nD Cert.RefGlaInIdeal.τ).loc Cert.RefGlaInIdeal.main_arg0) = m ((c.tc : Thread Cert.RefGlaInIdeal.nD Cert.RefGlaInIdeal.τ).loc Cert.RefGlaInIdeal.main_arg0)
      ∧ r.2.mem ((c.tc : Thread Cert.RefGlaInIdeal.nD Cert.RefGlaInIdeal.τ).loc Cert.RefGlaInIdeal.main_arg1) = m ((c.tc : Thread Cert.RefGlaInIdeal.nD Cert.RefGlaInIdeal.τ).loc Cert.RefGlaInIdeal.main_arg1)
      ∧ r.2.mem ((c.tc : Thread Cert.RefGlaInIdeal.nD Cert.RefGlaInIdeal.τ).loc Cert.RefGlaInIdeal.main_arg2) = m ((c.tc : Thread Cert.RefGlaInIdeal.nD Cert.RefGlaInIdeal.τ).loc Cert.RefGlaInIdeal.main_arg2)
      ∧ r.2.mem ((c.tc : Thread Cert.RefGlaInIdeal.nD Cert.RefGlaInIdeal.τ).loc Cert.RefGlaInIdeal.main_arg3) = m ((c.tc : Thread Cert.RefGlaInIdeal.nD Cert.RefGlaInIdeal.τ).loc Cert.RefGlaInIdeal.main_arg3)
      ∧ r.2.mem ((c.tc : Thread Cert.RefGlaInIdeal.nD Cert.RefGlaInIdeal.τ).loc Cert.RefGlaInIdeal.main_arg4) = m ((c.tc : Thread Cert.RefGlaInIdeal.nD Cert.RefGlaInIdeal.τ).loc Cert.RefGlaInIdeal.main_arg4)
      ∧ r.2.mem ((c.tc : Thread Cert.RefGlaInIdeal.nD Cert.RefGlaInIdeal.τ).loc Cert.RefGlaInIdeal.main_arg5) = m ((c.tc : Thread Cert.RefGlaInIdeal.nD Cert.RefGlaInIdeal.τ).loc Cert.RefGlaInIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_RefPrenormIdeal [hRefPrenormIdeal : Cert.RefPrenormIdeal.Facts] : Prop :=
  ∀ (m : (ℓ : Loc Cert.RefPrenormIdeal.nD Cert.RefPrenormIdeal.τ Cert.RefPrenormIdeal.sig) → Buf (Elt Ideal) ℓ) (g : Dev Cert.RefPrenormIdeal.nD → PrngReg), Pre_RefPrenormIdeal m →
    θ_run (Cert.RefPrenormIdeal.defs (F := Ideal)) (onTc (τ := Cert.RefPrenormIdeal.τ) (Cert.RefPrenormIdeal.main (F := Ideal))) ⟨m, fun _ => 0, g⟩ (fun r => (∀ c : Dev Cert.RefPrenormIdeal.nD,
      r.2.mem ((c.tc : Thread Cert.RefPrenormIdeal.nD Cert.RefPrenormIdeal.τ).loc Cert.RefPrenormIdeal.main_arg0) = m ((c.tc : Thread Cert.RefPrenormIdeal.nD Cert.RefPrenormIdeal.τ).loc Cert.RefPrenormIdeal.main_arg0)
      ∧ r.2.mem ((c.tc : Thread Cert.RefPrenormIdeal.nD Cert.RefPrenormIdeal.τ).loc Cert.RefPrenormIdeal.main_arg1) = m ((c.tc : Thread Cert.RefPrenormIdeal.nD Cert.RefPrenormIdeal.τ).loc Cert.RefPrenormIdeal.main_arg1)
      ∧ r.2.mem ((c.tc : Thread Cert.RefPrenormIdeal.nD Cert.RefPrenormIdeal.τ).loc Cert.RefPrenormIdeal.main_arg2) = m ((c.tc : Thread Cert.RefPrenormIdeal.nD Cert.RefPrenormIdeal.τ).loc Cert.RefPrenormIdeal.main_arg2))
      ∧ r.2.sem = fun _ => 0)

def quiescent_DftCtx [hDftCtx : Cert.DftCtx.Facts] : Prop :=
  ∀ (m : (ℓ : Loc Cert.DftCtx.nD Cert.DftCtx.τ Cert.DftCtx.sig) → Buf (Elt Bits) ℓ) (g : Dev Cert.DftCtx.nD → PrngReg), Pre_DftCtx m →
    θ_run (Cert.DftCtx.defs (F := Bits)) (onTc (τ := Cert.DftCtx.τ) (Cert.DftCtx.main (F := Bits))) ⟨m, fun _ => 0, g⟩ (fun r => (∀ c : Dev Cert.DftCtx.nD,
      r.2.mem ((c.tc : Thread Cert.DftCtx.nD Cert.DftCtx.τ).loc Cert.DftCtx.main_arg0) = m ((c.tc : Thread Cert.DftCtx.nD Cert.DftCtx.τ).loc Cert.DftCtx.main_arg0)
      ∧ r.2.mem ((c.tc : Thread Cert.DftCtx.nD Cert.DftCtx.τ).loc Cert.DftCtx.main_arg1) = m ((c.tc : Thread Cert.DftCtx.nD Cert.DftCtx.τ).loc Cert.DftCtx.main_arg1)
      ∧ r.2.mem ((c.tc : Thread Cert.DftCtx.nD Cert.DftCtx.τ).loc Cert.DftCtx.main_arg2) = m ((c.tc : Thread Cert.DftCtx.nD Cert.DftCtx.τ).loc Cert.DftCtx.main_arg2))
      ∧ r.2.sem = fun _ => 0)

def quiescent_DftCtxIdeal [hDftCtxIdeal : Cert.DftCtxIdeal.Facts] : Prop :=
  ∀ (m : (ℓ : Loc Cert.DftCtxIdeal.nD Cert.DftCtxIdeal.τ Cert.DftCtxIdeal.sig) → Buf (Elt Ideal) ℓ) (g : Dev Cert.DftCtxIdeal.nD → PrngReg), Pre_DftCtxIdeal m →
    θ_run (Cert.DftCtxIdeal.defs (F := Ideal)) (onTc (τ := Cert.DftCtxIdeal.τ) (Cert.DftCtxIdeal.main (F := Ideal))) ⟨m, fun _ => 0, g⟩ (fun r => (∀ c : Dev Cert.DftCtxIdeal.nD,
      r.2.mem ((c.tc : Thread Cert.DftCtxIdeal.nD Cert.DftCtxIdeal.τ).loc Cert.DftCtxIdeal.main_arg0) = m ((c.tc : Thread Cert.DftCtxIdeal.nD Cert.DftCtxIdeal.τ).loc Cert.DftCtxIdeal.main_arg0)
      ∧ r.2.mem ((c.tc : Thread Cert.DftCtxIdeal.nD Cert.DftCtxIdeal.τ).loc Cert.DftCtxIdeal.main_arg1) = m ((c.tc : Thread Cert.DftCtxIdeal.nD Cert.DftCtxIdeal.τ).loc Cert.DftCtxIdeal.main_arg1)
      ∧ r.2.mem ((c.tc : Thread Cert.DftCtxIdeal.nD Cert.DftCtxIdeal.τ).loc Cert.DftCtxIdeal.main_arg2) = m ((c.tc : Thread Cert.DftCtxIdeal.nD Cert.DftCtxIdeal.τ).loc Cert.DftCtxIdeal.main_arg2))
      ∧ r.2.sem = fun _ => 0)

def quiescent_RefDftCtxIdeal [hRefDftCtxIdeal : Cert.RefDftCtxIdeal.Facts] : Prop :=
  ∀ (m : (ℓ : Loc Cert.RefDftCtxIdeal.nD Cert.RefDftCtxIdeal.τ Cert.RefDftCtxIdeal.sig) → Buf (Elt Ideal) ℓ) (g : Dev Cert.RefDftCtxIdeal.nD → PrngReg), Pre_RefDftCtxIdeal m →
    θ_run (Cert.RefDftCtxIdeal.defs (F := Ideal)) (onTc (τ := Cert.RefDftCtxIdeal.τ) (Cert.RefDftCtxIdeal.main (F := Ideal))) ⟨m, fun _ => 0, g⟩ (fun r => (∀ c : Dev Cert.RefDftCtxIdeal.nD,
      r.2.mem ((c.tc : Thread Cert.RefDftCtxIdeal.nD Cert.RefDftCtxIdeal.τ).loc Cert.RefDftCtxIdeal.main_arg0) = m ((c.tc : Thread Cert.RefDftCtxIdeal.nD Cert.RefDftCtxIdeal.τ).loc Cert.RefDftCtxIdeal.main_arg0)
      ∧ r.2.mem ((c.tc : Thread Cert.RefDftCtxIdeal.nD Cert.RefDftCtxIdeal.τ).loc Cert.RefDftCtxIdeal.main_arg1) = m ((c.tc : Thread Cert.RefDftCtxIdeal.nD Cert.RefDftCtxIdeal.τ).loc Cert.RefDftCtxIdeal.main_arg1)
      ∧ r.2.mem ((c.tc : Thread Cert.RefDftCtxIdeal.nD Cert.RefDftCtxIdeal.τ).loc Cert.RefDftCtxIdeal.main_arg2) = m ((c.tc : Thread Cert.RefDftCtxIdeal.nD Cert.RefDftCtxIdeal.τ).loc Cert.RefDftCtxIdeal.main_arg2))
      ∧ r.2.sem = fun _ => 0)

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v40) = v0 c
          ∧ r.2.mem ((c.tc : Thread Cert.RefFfnIdeal.nD Cert.RefFfnIdeal.τ).loc Cert.RefFfnIdeal.main_v42) = v1 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_FfnFinal_FfnFinalIdeal : Prop :=
  True

def algebraic_FfnFinalIdeal_RefFfnFinalIdeal [hFfnFinalIdeal : Cert.FfnFinalIdeal.Facts] [hRefFfnFinalIdeal : Cert.RefFfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.RefFfnFinalIdeal.nD Cert.RefFfnFinalIdeal.τ Cert.RefFfnFinalIdeal.sig) → Buf (Elt Ideal) ℓ) (g' : Dev Cert.RefFfnFinalIdeal.nD → PrngReg), Pre_FfnFinalIdeal m →
    (∀ c : Dev Cert.FfnFinalIdeal.nD,
      m' ((c.tc : Thread Cert.RefFfnFinalIdeal.nD Cert.RefFfnFinalIdeal.τ).loc Cert.RefFfnFinalIdeal.main_arg0) = m ((c.tc : Thread Cert.FfnFinalIdeal.nD Cert.FfnFinalIdeal.τ).loc Cert.FfnFinalIdeal.main_arg0)
      ∧ m' ((c.tc : Thread Cert.RefFfnFinalIdeal.nD Cert.RefFfnFinalIdeal.τ).loc Cert.RefFfnFinalIdeal.main_arg1) = m ((c.tc : Thread Cert.FfnFinalIdeal.nD Cert.FfnFinalIdeal.τ).loc Cert.FfnFinalIdeal.main_arg1)
      ∧ m' ((c.tc : Thread Cert.RefFfnFinalIdeal.nD Cert.RefFfnFinalIdeal.τ).loc Cert.RefFfnFinalIdeal.main_arg2) = m ((c.tc : Thread Cert.FfnFinalIdeal.nD Cert.FfnFinalIdeal.τ).loc Cert.FfnFinalIdeal.main_arg2)
      ∧ m' ((c.tc : Thread Cert.RefFfnFinalIdeal.nD Cert.RefFfnFinalIdeal.τ).loc Cert.RefFfnFinalIdeal.main_arg3) = m ((c.tc : Thread Cert.FfnFinalIdeal.nD Cert.FfnFinalIdeal.τ).loc Cert.FfnFinalIdeal.main_arg3)
      ∧ m' ((c.tc : Thread Cert.RefFfnFinalIdeal.nD Cert.RefFfnFinalIdeal.τ).loc Cert.RefFfnFinalIdeal.main_arg4) = m ((c.tc : Thread Cert.FfnFinalIdeal.nD Cert.FfnFinalIdeal.τ).loc Cert.FfnFinalIdeal.main_arg4)
      ∧ m' ((c.tc : Thread Cert.RefFfnFinalIdeal.nD Cert.RefFfnFinalIdeal.τ).loc Cert.RefFfnFinalIdeal.main_arg5) = m ((c.tc : Thread Cert.FfnFinalIdeal.nD Cert.FfnFinalIdeal.τ).loc Cert.FfnFinalIdeal.main_arg5)
      ∧ m' ((c.tc : Thread Cert.RefFfnFinalIdeal.nD Cert.RefFfnFinalIdeal.τ).loc Cert.RefFfnFinalIdeal.main_arg6) = m ((c.tc : Thread Cert.FfnFinalIdeal.nD Cert.FfnFinalIdeal.τ).loc Cert.FfnFinalIdeal.main_arg6)) →
    ∃ (v0 : (c : Dev Cert.FfnFinalIdeal.nD) → Buf (Elt Ideal) ((c.tc : Thread Cert.FfnFinalIdeal.nD Cert.FfnFinalIdeal.τ).loc Cert.FfnFinalIdeal.main_v3)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v3) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5)
          ∧ r.2.mem ((c.tc : Thread Cert.FfnFinalIdeal.nD Cert.FfnFinalIdeal.τ).loc Cert.FfnFinalIdeal.main_arg6) = m ((c.tc : Thread Cert.FfnFinalIdeal.nD Cert.FfnFinalIdeal.τ).loc Cert.FfnFinalIdeal.main_arg6))
      ∧ θ_run (Cert.RefFfnFinalIdeal.defs (F := Ideal)) (onTc (τ := Cert.RefFfnFinalIdeal.τ) (Cert.RefFfnFinalIdeal.main (F := Ideal))) ⟨m', fun _ => 0, g'⟩ (fun r => ∀ c : Dev Cert.RefFfnFinalIdeal.nD,
          r.2.mem ((c.tc : Thread Cert.RefFfnFinalIdeal.nD Cert.RefFfnFinalIdeal.τ).loc Cert.RefFfnFinalIdeal.main_v28) = v0 c
          ∧ r.2.mem ((c.tc : Thread Cert.RefFfnFinalIdeal.nD Cert.RefFfnFinalIdeal.τ).loc Cert.RefFfnFinalIdeal.main_arg0) = m' ((c.tc : Thread Cert.RefFfnFinalIdeal.nD Cert.RefFfnFinalIdeal.τ).loc Cert.RefFfnFinalIdeal.main_arg0)
          ∧ r.2.mem ((c.tc : Thread Cert.RefFfnFinalIdeal.nD Cert.RefFfnFinalIdeal.τ).loc Cert.RefFfnFinalIdeal.main_arg1) = m' ((c.tc : Thread Cert.RefFfnFinalIdeal.nD Cert.RefFfnFinalIdeal.τ).loc Cert.RefFfnFinalIdeal.main_arg1)
          ∧ r.2.mem ((c.tc : Thread Cert.RefFfnFinalIdeal.nD Cert.RefFfnFinalIdeal.τ).loc Cert.RefFfnFinalIdeal.main_arg2) = m' ((c.tc : Thread Cert.RefFfnFinalIdeal.nD Cert.RefFfnFinalIdeal.τ).loc Cert.RefFfnFinalIdeal.main_arg2)
          ∧ r.2.mem ((c.tc : Thread Cert.RefFfnFinalIdeal.nD Cert.RefFfnFinalIdeal.τ).loc Cert.RefFfnFinalIdeal.main_arg3) = m' ((c.tc : Thread Cert.RefFfnFinalIdeal.nD Cert.RefFfnFinalIdeal.τ).loc Cert.RefFfnFinalIdeal.main_arg3)
          ∧ r.2.mem ((c.tc : Thread Cert.RefFfnFinalIdeal.nD Cert.RefFfnFinalIdeal.τ).loc Cert.RefFfnFinalIdeal.main_arg4) = m' ((c.tc : Thread Cert.RefFfnFinalIdeal.nD Cert.RefFfnFinalIdeal.τ).loc Cert.RefFfnFinalIdeal.main_arg4)
          ∧ r.2.mem ((c.tc : Thread Cert.RefFfnFinalIdeal.nD Cert.RefFfnFinalIdeal.τ).loc Cert.RefFfnFinalIdeal.main_arg5) = m' ((c.tc : Thread Cert.RefFfnFinalIdeal.nD Cert.RefFfnFinalIdeal.τ).loc Cert.RefFfnFinalIdeal.main_arg5)
          ∧ r.2.mem ((c.tc : Thread Cert.RefFfnFinalIdeal.nD Cert.RefFfnFinalIdeal.τ).loc Cert.RefFfnFinalIdeal.main_arg6) = m' ((c.tc : Thread Cert.RefFfnFinalIdeal.nD Cert.RefFfnFinalIdeal.τ).loc Cert.RefFfnFinalIdeal.main_arg6))

def preserves_MixIn_MixInIdeal : Prop :=
  True

def algebraic_MixInIdeal_RefMixInIdeal [hMixInIdeal : Cert.MixInIdeal.Facts] [hRefMixInIdeal : Cert.RefMixInIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.RefMixInIdeal.nD Cert.RefMixInIdeal.τ Cert.RefMixInIdeal.sig) → Buf (Elt Ideal) ℓ) (g' : Dev Cert.RefMixInIdeal.nD → PrngReg), Pre_MixInIdeal m →
    (∀ c : Dev Cert.MixInIdeal.nD,
      m' ((c.tc : Thread Cert.RefMixInIdeal.nD Cert.RefMixInIdeal.τ).loc Cert.RefMixInIdeal.main_arg0) = m ((c.tc : Thread Cert.MixInIdeal.nD Cert.MixInIdeal.τ).loc Cert.MixInIdeal.main_arg0)
      ∧ m' ((c.tc : Thread Cert.RefMixInIdeal.nD Cert.RefMixInIdeal.τ).loc Cert.RefMixInIdeal.main_arg1) = m ((c.tc : Thread Cert.MixInIdeal.nD Cert.MixInIdeal.τ).loc Cert.MixInIdeal.main_arg1)
      ∧ m' ((c.tc : Thread Cert.RefMixInIdeal.nD Cert.RefMixInIdeal.τ).loc Cert.RefMixInIdeal.main_arg2) = m ((c.tc : Thread Cert.MixInIdeal.nD Cert.MixInIdeal.τ).loc Cert.MixInIdeal.main_arg2)
      ∧ m' ((c.tc : Thread Cert.RefMixInIdeal.nD Cert.RefMixInIdeal.τ).loc Cert.RefMixInIdeal.main_arg3) = m ((c.tc : Thread Cert.MixInIdeal.nD Cert.MixInIdeal.τ).loc Cert.MixInIdeal.main_arg3)
      ∧ m' ((c.tc : Thread Cert.RefMixInIdeal.nD Cert.RefMixInIdeal.τ).loc Cert.RefMixInIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v7_0)) (v1 : (c : Dev Cert.MixInIdeal.nD) → Buf (Elt Ideal) ((c.tc : Thread Cert.MixInIdeal.nD Cert.MixInIdeal.τ).loc Cert.MixInIdeal.main_v7_1)) (v2 : (c : Dev Cert.MixInIdeal.nD) → Buf (Elt Ideal) ((c.tc : Thread Cert.MixInIdeal.nD Cert.MixInIdeal.τ).loc Cert.MixInIdeal.main_v7_2)) (v3 : (c : Dev Cert.MixInIdeal.nD) → Buf (Elt Ideal) ((c.tc : Thread Cert.MixInIdeal.nD Cert.MixInIdeal.τ).loc Cert.MixInIdeal.main_v7_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7_0) = v0 c
          ∧ r.2.mem ((c.tc : Thread Cert.MixInIdeal.nD Cert.MixInIdeal.τ).loc Cert.MixInIdeal.main_v7_1) = v1 c
          ∧ r.2.mem ((c.tc : Thread Cert.MixInIdeal.nD Cert.MixInIdeal.τ).loc Cert.MixInIdeal.main_v7_2) = v2 c
          ∧ r.2.mem ((c.tc : Thread Cert.MixInIdeal.nD Cert.MixInIdeal.τ).loc Cert.MixInIdeal.main_v7_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.RefMixInIdeal.defs (F := Ideal)) (onTc (τ := Cert.RefMixInIdeal.τ) (Cert.RefMixInIdeal.main (F := Ideal))) ⟨m', fun _ => 0, g'⟩ (fun r => ∀ c : Dev Cert.RefMixInIdeal.nD,
          r.2.mem ((c.tc : Thread Cert.RefMixInIdeal.nD Cert.RefMixInIdeal.τ).loc Cert.RefMixInIdeal.main_v77) = v0 c
          ∧ r.2.mem ((c.tc : Thread Cert.RefMixInIdeal.nD Cert.RefMixInIdeal.τ).loc Cert.RefMixInIdeal.main_v80) = v1 c
          ∧ r.2.mem ((c.tc : Thread Cert.RefMixInIdeal.nD Cert.RefMixInIdeal.τ).loc Cert.RefMixInIdeal.main_v83) = v2 c
          ∧ r.2.mem ((c.tc : Thread Cert.RefMixInIdeal.nD Cert.RefMixInIdeal.τ).loc Cert.RefMixInIdeal.main_v87) = v3 c
          ∧ r.2.mem ((c.tc : Thread Cert.RefMixInIdeal.nD Cert.RefMixInIdeal.τ).loc Cert.RefMixInIdeal.main_arg0) = m' ((c.tc : Thread Cert.RefMixInIdeal.nD Cert.RefMixInIdeal.τ).loc Cert.RefMixInIdeal.main_arg0)
          ∧ r.2.mem ((c.tc : Thread Cert.RefMixInIdeal.nD Cert.RefMixInIdeal.τ).loc Cert.RefMixInIdeal.main_arg1) = m' ((c.tc : Thread Cert.RefMixInIdeal.nD Cert.RefMixInIdeal.τ).loc Cert.RefMixInIdeal.main_arg1)
          ∧ r.2.mem ((c.tc : Thread Cert.RefMixInIdeal.nD Cert.RefMixInIdeal.τ).loc Cert.RefMixInIdeal.main_arg2) = m' ((c.tc : Thread Cert.RefMixInIdeal.nD Cert.RefMixInIdeal.τ).loc Cert.RefMixInIdeal.main_arg2)
          ∧ r.2.mem ((c.tc : Thread Cert.RefMixInIdeal.nD Cert.RefMixInIdeal.τ).loc Cert.RefMixInIdeal.main_arg3) = m' ((c.tc : Thread Cert.RefMixInIdeal.nD Cert.RefMixInIdeal.τ).loc Cert.RefMixInIdeal.main_arg3)
          ∧ r.2.mem ((c.tc : Thread Cert.RefMixInIdeal.nD Cert.RefMixInIdeal.τ).loc Cert.RefMixInIdeal.main_arg4) = m' ((c.tc : Thread Cert.RefMixInIdeal.nD Cert.RefMixInIdeal.τ).loc Cert.RefMixInIdeal.main_arg4))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)
      ∧ m' ((c.tc : Thread Cert.RefMixOutIdeal.nD Cert.RefMixOutIdeal.τ).loc Cert.RefMixOutIdeal.main_arg3) = m ((c.tc : Thread Cert.MixOutIdeal.nD Cert.MixOutIdeal.τ).loc Cert.MixOutIdeal.main_arg3)
      ∧ m' ((c.tc : Thread Cert.RefMixOutIdeal.nD Cert.RefMixOutIdeal.τ).loc Cert.RefMixOutIdeal.main_arg4) = m ((c.tc : Thread Cert.MixOutIdeal.nD Cert.MixOutIdeal.τ).loc Cert.MixOutIdeal.main_arg4)
      ∧ m' ((c.tc : Thread Cert.RefMixOutIdeal.nD Cert.RefMixOutIdeal.τ).loc Cert.RefMixOutIdeal.main_arg5) = m ((c.tc : Thread Cert.MixOutIdeal.nD Cert.MixOutIdeal.τ).loc Cert.MixOutIdeal.main_arg5)
      ∧ m' ((c.tc : Thread Cert.RefMixOutIdeal.nD Cert.RefMixOutIdeal.τ).loc Cert.RefMixOutIdeal.main_arg6) = m ((c.tc : Thread Cert.MixOutIdeal.nD Cert.MixOutIdeal.τ).loc Cert.MixOutIdeal.main_arg6)
      ∧ m' ((c.tc : Thread Cert.RefMixOutIdeal.nD Cert.RefMixOutIdeal.τ).loc Cert.RefMixOutIdeal.main_arg7) = m ((c.tc : Thread Cert.MixOutIdeal.nD Cert.MixOutIdeal.τ).loc Cert.MixOutIdeal.main_arg7)
      ∧ m' ((c.tc : Thread Cert.RefMixOutIdeal.nD Cert.RefMixOutIdeal.τ).loc Cert.RefMixOutIdeal.main_arg8) = m ((c.tc : Thread Cert.MixOutIdeal.nD Cert.MixOutIdeal.τ).loc Cert.MixOutIdeal.main_arg8)
      ∧ m' ((c.tc : Thread Cert.RefMixOutIdeal.nD Cert.RefMixOutIdeal.τ).loc Cert.RefMixOutIdeal.main_arg9) = m ((c.tc : Thread Cert.MixOutIdeal.nD Cert.MixOutIdeal.τ).loc Cert.MixOutIdeal.main_arg9)
      ∧ m' ((c.tc : Thread Cert.RefMixOutIdeal.nD Cert.RefMixOutIdeal.τ).loc Cert.RefMixOutIdeal.main_arg10) = m ((c.tc : Thread Cert.MixOutIdeal.nD Cert.MixOutIdeal.τ).loc Cert.MixOutIdeal.main_arg10)
      ∧ m' ((c.tc : Thread Cert.RefMixOutIdeal.nD Cert.RefMixOutIdeal.τ).loc Cert.RefMixOutIdeal.main_arg11) = m ((c.tc : Thread Cert.MixOutIdeal.nD Cert.MixOutIdeal.τ).loc Cert.MixOutIdeal.main_arg11)
      ∧ m' ((c.tc : Thread Cert.RefMixOutIdeal.nD Cert.RefMixOutIdeal.τ).loc Cert.RefMixOutIdeal.main_arg12) = m ((c.tc : Thread Cert.MixOutIdeal.nD Cert.MixOutIdeal.τ).loc Cert.MixOutIdeal.main_arg12)
      ∧ m' ((c.tc : Thread Cert.RefMixOutIdeal.nD Cert.RefMixOutIdeal.τ).loc Cert.RefMixOutIdeal.main_arg13) = m ((c.tc : Thread Cert.MixOutIdeal.nD Cert.MixOutIdeal.τ).loc Cert.MixOutIdeal.main_arg13)
      ∧ m' ((c.tc : Thread Cert.RefMixOutIdeal.nD Cert.RefMixOutIdeal.τ).loc Cert.RefMixOutIdeal.main_arg14) = m ((c.tc : Thread Cert.MixOutIdeal.nD Cert.MixOutIdeal.τ).loc Cert.MixOutIdeal.main_arg14)
      ∧ m' ((c.tc : Thread Cert.RefMixOutIdeal.nD Cert.RefMixOutIdeal.τ).loc Cert.RefMixOutIdeal.main_arg15) = m ((c.tc : Thread Cert.MixOutIdeal.nD Cert.MixOutIdeal.τ).loc Cert.MixOutIdeal.main_arg15)
      ∧ m' ((c.tc : Thread Cert.RefMixOutIdeal.nD Cert.RefMixOutIdeal.τ).loc Cert.RefMixOutIdeal.main_arg16) = m ((c.tc : Thread Cert.MixOutIdeal.nD Cert.MixOutIdeal.τ).loc Cert.MixOutIdeal.main_arg16)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13)
          ∧ r.2.mem ((c.tc : Thread Cert.MixOutIdeal.nD Cert.MixOutIdeal.τ).loc Cert.MixOutIdeal.main_arg14) = m ((c.tc : Thread Cert.MixOutIdeal.nD Cert.MixOutIdeal.τ).loc Cert.MixOutIdeal.main_arg14)
          ∧ r.2.mem ((c.tc : Thread Cert.MixOutIdeal.nD Cert.MixOutIdeal.τ).loc Cert.MixOutIdeal.main_arg15) = m ((c.tc : Thread Cert.MixOutIdeal.nD Cert.MixOutIdeal.τ).loc Cert.MixOutIdeal.main_arg15)
          ∧ r.2.mem ((c.tc : Thread Cert.MixOutIdeal.nD Cert.MixOutIdeal.τ).loc Cert.MixOutIdeal.main_arg16) = m ((c.tc : Thread Cert.MixOutIdeal.nD Cert.MixOutIdeal.τ).loc Cert.MixOutIdeal.main_arg16))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v73) = v0 c
          ∧ r.2.mem ((c.tc : Thread Cert.RefMixOutIdeal.nD Cert.RefMixOutIdeal.τ).loc Cert.RefMixOutIdeal.main_v75) = v1 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3)
          ∧ r.2.mem ((c.tc : Thread Cert.RefMixOutIdeal.nD Cert.RefMixOutIdeal.τ).loc Cert.RefMixOutIdeal.main_arg4) = m' ((c.tc : Thread Cert.RefMixOutIdeal.nD Cert.RefMixOutIdeal.τ).loc Cert.RefMixOutIdeal.main_arg4)
          ∧ r.2.mem ((c.tc : Thread Cert.RefMixOutIdeal.nD Cert.RefMixOutIdeal.τ).loc Cert.RefMixOutIdeal.main_arg5) = m' ((c.tc : Thread Cert.RefMixOutIdeal.nD Cert.RefMixOutIdeal.τ).loc Cert.RefMixOutIdeal.main_arg5)
          ∧ r.2.mem ((c.tc : Thread Cert.RefMixOutIdeal.nD Cert.RefMixOutIdeal.τ).loc Cert.RefMixOutIdeal.main_arg6) = m' ((c.tc : Thread Cert.RefMixOutIdeal.nD Cert.RefMixOutIdeal.τ).loc Cert.RefMixOutIdeal.main_arg6)
          ∧ r.2.mem ((c.tc : Thread Cert.RefMixOutIdeal.nD Cert.RefMixOutIdeal.τ).loc Cert.RefMixOutIdeal.main_arg7) = m' ((c.tc : Thread Cert.RefMixOutIdeal.nD Cert.RefMixOutIdeal.τ).loc Cert.RefMixOutIdeal.main_arg7)
          ∧ r.2.mem ((c.tc : Thread Cert.RefMixOutIdeal.nD Cert.RefMixOutIdeal.τ).loc Cert.RefMixOutIdeal.main_arg8) = m' ((c.tc : Thread Cert.RefMixOutIdeal.nD Cert.RefMixOutIdeal.τ).loc Cert.RefMixOutIdeal.main_arg8)
          ∧ r.2.mem ((c.tc : Thread Cert.RefMixOutIdeal.nD Cert.RefMixOutIdeal.τ).loc Cert.RefMixOutIdeal.main_arg9) = m' ((c.tc : Thread Cert.RefMixOutIdeal.nD Cert.RefMixOutIdeal.τ).loc Cert.RefMixOutIdeal.main_arg9)
          ∧ r.2.mem ((c.tc : Thread Cert.RefMixOutIdeal.nD Cert.RefMixOutIdeal.τ).loc Cert.RefMixOutIdeal.main_arg10) = m' ((c.tc : Thread Cert.RefMixOutIdeal.nD Cert.RefMixOutIdeal.τ).loc Cert.RefMixOutIdeal.main_arg10)
          ∧ r.2.mem ((c.tc : Thread Cert.RefMixOutIdeal.nD Cert.RefMixOutIdeal.τ).loc Cert.RefMixOutIdeal.main_arg11) = m' ((c.tc : Thread Cert.RefMixOutIdeal.nD Cert.RefMixOutIdeal.τ).loc Cert.RefMixOutIdeal.main_arg11)
          ∧ r.2.mem ((c.tc : Thread Cert.RefMixOutIdeal.nD Cert.RefMixOutIdeal.τ).loc Cert.RefMixOutIdeal.main_arg12) = m' ((c.tc : Thread Cert.RefMixOutIdeal.nD Cert.RefMixOutIdeal.τ).loc Cert.RefMixOutIdeal.main_arg12)
          ∧ r.2.mem ((c.tc : Thread Cert.RefMixOutIdeal.nD Cert.RefMixOutIdeal.τ).loc Cert.RefMixOutIdeal.main_arg13) = m' ((c.tc : Thread Cert.RefMixOutIdeal.nD Cert.RefMixOutIdeal.τ).loc Cert.RefMixOutIdeal.main_arg13)
          ∧ r.2.mem ((c.tc : Thread Cert.RefMixOutIdeal.nD Cert.RefMixOutIdeal.τ).loc Cert.RefMixOutIdeal.main_arg14) = m' ((c.tc : Thread Cert.RefMixOutIdeal.nD Cert.RefMixOutIdeal.τ).loc Cert.RefMixOutIdeal.main_arg14)
          ∧ r.2.mem ((c.tc : Thread Cert.RefMixOutIdeal.nD Cert.RefMixOutIdeal.τ).loc Cert.RefMixOutIdeal.main_arg15) = m' ((c.tc : Thread Cert.RefMixOutIdeal.nD Cert.RefMixOutIdeal.τ).loc Cert.RefMixOutIdeal.main_arg15)
          ∧ r.2.mem ((c.tc : Thread Cert.RefMixOutIdeal.nD Cert.RefMixOutIdeal.τ).loc Cert.RefMixOutIdeal.main_arg16) = m' ((c.tc : Thread Cert.RefMixOutIdeal.nD Cert.RefMixOutIdeal.τ).loc Cert.RefMixOutIdeal.main_arg16))

def preserves_ScanCtx_ScanCtxIdeal : Prop :=
  True

def algebraic_ScanCtxIdeal_RefScanCtxIdeal [hScanCtxIdeal : Cert.ScanCtxIdeal.Facts] [hRefScanCtxIdeal : Cert.RefScanCtxIdeal.Facts] : Prop :=
  ∀ (m : (ℓ : Loc Cert.ScanCtxIdeal.nD Cert.ScanCtxIdeal.τ Cert.ScanCtxIdeal.sig) → Buf (Elt Ideal) ℓ) (g : Dev Cert.ScanCtxIdeal.nD → PrngReg)
    (m' : (ℓ : Loc Cert.RefScanCtxIdeal.nD Cert.RefScanCtxIdeal.τ Cert.RefScanCtxIdeal.sig) → Buf (Elt Ideal) ℓ) (g' : Dev Cert.RefScanCtxIdeal.nD → PrngReg), Pre_ScanCtxIdeal m →
    (∀ c : Dev Cert.ScanCtxIdeal.nD,
      m' ((c.tc : Thread Cert.RefScanCtxIdeal.nD Cert.RefScanCtxIdeal.τ).loc Cert.RefScanCtxIdeal.main_arg0) = m ((c.tc : Thread Cert.ScanCtxIdeal.nD Cert.ScanCtxIdeal.τ).loc Cert.ScanCtxIdeal.main_arg0)
      ∧ m' ((c.tc : Thread Cert.RefScanCtxIdeal.nD Cert.RefScanCtxIdeal.τ).loc Cert.RefScanCtxIdeal.main_arg1) = m ((c.tc : Thread Cert.ScanCtxIdeal.nD Cert.ScanCtxIdeal.τ).loc Cert.ScanCtxIdeal.main_arg1)
      ∧ m' ((c.tc : Thread Cert.RefScanCtxIdeal.nD Cert.RefScanCtxIdeal.τ).loc Cert.RefScanCtxIdeal.main_arg2) = m ((c.tc : Thread Cert.ScanCtxIdeal.nD Cert.ScanCtxIdeal.τ).loc Cert.ScanCtxIdeal.main_arg2)) →
    ∃ (v0 : (c : Dev Cert.ScanCtxIdeal.nD) → Buf (Elt Ideal) ((c.tc : Thread Cert.ScanCtxIdeal.nD Cert.ScanCtxIdeal.τ).loc Cert.ScanCtxIdeal.main_v0_0)) (v1 : (c : Dev Cert.ScanCtxIdeal.nD) → Buf (Elt Ideal) ((c.tc : Thread Cert.ScanCtxIdeal.nD Cert.ScanCtxIdeal.τ).loc Cert.ScanCtxIdeal.main_v0_1)),
      θ_run (Cert.ScanCtxIdeal.defs (F := Ideal)) (onTc (τ := Cert.ScanCtxIdeal.τ) (Cert.ScanCtxIdeal.main (F := Ideal))) ⟨m, fun _ => 0, g⟩ (fun r => ∀ c : Dev Cert.ScanCtxIdeal.nD,
          r.2.mem ((c.tc : Thread Cert.ScanCtxIdeal.nD Cert.ScanCtxIdeal.τ).loc Cert.ScanCtxIdeal.main_v0_0) = v0 c
          ∧ r.2.mem ((c.tc : Thread Cert.ScanCtxIdeal.nD Cert.ScanCtxIdeal.τ).loc Cert.ScanCtxIdeal.main_v0_1) = v1 c
          ∧ r.2.mem ((c.tc : Thread Cert.ScanCtxIdeal.nD Cert.ScanCtxIdeal.τ).loc Cert.ScanCtxIdeal.main_arg0) = m ((c.tc : Thread Cert.ScanCtxIdeal.nD Cert.ScanCtxIdeal.τ).loc Cert.ScanCtxIdeal.main_arg0)
          ∧ r.2.mem ((c.tc : Thread Cert.ScanCtxIdeal.nD Cert.ScanCtxIdeal.τ).loc Cert.ScanCtxIdeal.main_arg1) = m ((c.tc : Thread Cert.ScanCtxIdeal.nD Cert.ScanCtxIdeal.τ).loc Cert.ScanCtxIdeal.main_arg1)
          ∧ r.2.mem ((c.tc : Thread Cert.ScanCtxIdeal.nD Cert.ScanCtxIdeal.τ).loc Cert.ScanCtxIdeal.main_arg2) = m ((c.tc : Thread Cert.ScanCtxIdeal.nD Cert.ScanCtxIdeal.τ).loc Cert.ScanCtxIdeal.main_arg2))
      ∧ θ_run (Cert.RefScanCtxIdeal.defs (F := Ideal)) (onTc (τ := Cert.RefScanCtxIdeal.τ) (Cert.RefScanCtxIdeal.main (F := Ideal))) ⟨m', fun _ => 0, g'⟩ (fun r => ∀ c : Dev Cert.RefScanCtxIdeal.nD,
          r.2.mem ((c.tc : Thread Cert.RefScanCtxIdeal.nD Cert.RefScanCtxIdeal.τ).loc Cert.RefScanCtxIdeal.main_v83) = v0 c
          ∧ r.2.mem ((c.tc : Thread Cert.RefScanCtxIdeal.nD Cert.RefScanCtxIdeal.τ).loc Cert.RefScanCtxIdeal.main_v84) = v1 c
          ∧ r.2.mem ((c.tc : Thread Cert.RefScanCtxIdeal.nD Cert.RefScanCtxIdeal.τ).loc Cert.RefScanCtxIdeal.main_arg0) = m' ((c.tc : Thread Cert.RefScanCtxIdeal.nD Cert.RefScanCtxIdeal.τ).loc Cert.RefScanCtxIdeal.main_arg0)
          ∧ r.2.mem ((c.tc : Thread Cert.RefScanCtxIdeal.nD Cert.RefScanCtxIdeal.τ).loc Cert.RefScanCtxIdeal.main_arg1) = m' ((c.tc : Thread Cert.RefScanCtxIdeal.nD Cert.RefScanCtxIdeal.τ).loc Cert.RefScanCtxIdeal.main_arg1)
          ∧ r.2.mem ((c.tc : Thread Cert.RefScanCtxIdeal.nD Cert.RefScanCtxIdeal.τ).loc Cert.RefScanCtxIdeal.main_arg2) = m' ((c.tc : Thread Cert.RefScanCtxIdeal.nD Cert.RefScanCtxIdeal.τ).loc Cert.RefScanCtxIdeal.main_arg2))

def preserves_GlaIn_GlaInIdeal : Prop :=
  True

def algebraic_GlaInIdeal_RefGlaInIdeal [hGlaInIdeal : Cert.GlaInIdeal.Facts] [hRefGlaInIdeal : Cert.RefGlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.RefGlaInIdeal.nD Cert.RefGlaInIdeal.τ Cert.RefGlaInIdeal.sig) → Buf (Elt Ideal) ℓ) (g' : Dev Cert.RefGlaInIdeal.nD → PrngReg), Pre_GlaInIdeal m →
    (∀ c : Dev Cert.GlaInIdeal.nD,
      m' ((c.tc : Thread Cert.RefGlaInIdeal.nD Cert.RefGlaInIdeal.τ).loc Cert.RefGlaInIdeal.main_arg0) = m ((c.tc : Thread Cert.GlaInIdeal.nD Cert.GlaInIdeal.τ).loc Cert.GlaInIdeal.main_arg0)
      ∧ m' ((c.tc : Thread Cert.RefGlaInIdeal.nD Cert.RefGlaInIdeal.τ).loc Cert.RefGlaInIdeal.main_arg1) = m ((c.tc : Thread Cert.GlaInIdeal.nD Cert.GlaInIdeal.τ).loc Cert.GlaInIdeal.main_arg1)
      ∧ m' ((c.tc : Thread Cert.RefGlaInIdeal.nD Cert.RefGlaInIdeal.τ).loc Cert.RefGlaInIdeal.main_arg2) = m ((c.tc : Thread Cert.GlaInIdeal.nD Cert.GlaInIdeal.τ).loc Cert.GlaInIdeal.main_arg2)
      ∧ m' ((c.tc : Thread Cert.RefGlaInIdeal.nD Cert.RefGlaInIdeal.τ).loc Cert.RefGlaInIdeal.main_arg3) = m ((c.tc : Thread Cert.GlaInIdeal.nD Cert.GlaInIdeal.τ).loc Cert.GlaInIdeal.main_arg3)
      ∧ m' ((c.tc : Thread Cert.RefGlaInIdeal.nD Cert.RefGlaInIdeal.τ).loc Cert.RefGlaInIdeal.main_arg4) = m ((c.tc : Thread Cert.GlaInIdeal.nD Cert.GlaInIdeal.τ).loc Cert.GlaInIdeal.main_arg4)
      ∧ m' ((c.tc : Thread Cert.RefGlaInIdeal.nD Cert.RefGlaInIdeal.τ).loc Cert.RefGlaInIdeal.main_arg5) = m ((c.tc : Thread Cert.GlaInIdeal.nD Cert.GlaInIdeal.τ).loc Cert.GlaInIdeal.main_arg5)) →
    ∃ (v0 : (c : Dev Cert.GlaInIdeal.nD) → Buf (Elt Ideal) ((c.tc : Thread Cert.GlaInIdeal.nD Cert.GlaInIdeal.τ).loc Cert.GlaInIdeal.main_v39_0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v39_0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
          ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ θ_run (Cert.RefGlaInIdeal.defs (F := Ideal)) (onTc (τ := Cert.RefGlaInIdeal.τ) (Cert.RefGlaInIdeal.main (F := Ideal))) ⟨m', fun _ => 0, g'⟩ (fun r => ∀ c : Dev Cert.RefGlaInIdeal.nD,
          r.2.mem ((c.tc : Thread Cert.RefGlaInIdeal.nD Cert.RefGlaInIdeal.τ).loc Cert.RefGlaInIdeal.main_v3) = v0 c
          ∧ r.2.mem ((c.tc : Thread Cert.RefGlaInIdeal.nD Cert.RefGlaInIdeal.τ).loc Cert.RefGlaInIdeal.main_arg0) = m' ((c.tc : Thread Cert.RefGlaInIdeal.nD Cert.RefGlaInIdeal.τ).loc Cert.RefGlaInIdeal.main_arg0)
          ∧ r.2.mem ((c.tc : Thread Cert.RefGlaInIdeal.nD Cert.RefGlaInIdeal.τ).loc Cert.RefGlaInIdeal.main_arg1) = m' ((c.tc : Thread Cert.RefGlaInIdeal.nD Cert.RefGlaInIdeal.τ).loc Cert.RefGlaInIdeal.main_arg1)
          ∧ r.2.mem ((c.tc : Thread Cert.RefGlaInIdeal.nD Cert.RefGlaInIdeal.τ).loc Cert.RefGlaInIdeal.main_arg2) = m' ((c.tc : Thread Cert.RefGlaInIdeal.nD Cert.RefGlaInIdeal.τ).loc Cert.RefGlaInIdeal.main_arg2)
          ∧ r.2.mem ((c.tc : Thread Cert.RefGlaInIdeal.nD Cert.RefGlaInIdeal.τ).loc Cert.RefGlaInIdeal.main_arg3) = m' ((c.tc : Thread Cert.RefGlaInIdeal.nD Cert.RefGlaInIdeal.τ).loc Cert.RefGlaInIdeal.main_arg3)
          ∧ r.2.mem ((c.tc : Thread Cert.RefGlaInIdeal.nD Cert.RefGlaInIdeal.τ).loc Cert.RefGlaInIdeal.main_arg4) = m' ((c.tc : Thread Cert.RefGlaInIdeal.nD Cert.RefGlaInIdeal.τ).loc Cert.RefGlaInIdeal.main_arg4)
          ∧ r.2.mem ((c.tc : Thread Cert.RefGlaInIdeal.nD Cert.RefGlaInIdeal.τ).loc Cert.RefGlaInIdeal.main_arg5) = m' ((c.tc : Thread Cert.RefGlaInIdeal.nD Cert.RefGlaInIdeal.τ).loc Cert.RefGlaInIdeal.main_arg5))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v5) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2))

def preserves_Prenorm_PrenormIdeal : Prop :=
  True

def algebraic_PrenormIdeal_RefPrenormIdeal [hPrenormIdeal : Cert.PrenormIdeal.Facts] [hRefPrenormIdeal : Cert.RefPrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.RefPrenormIdeal.nD Cert.RefPrenormIdeal.τ Cert.RefPrenormIdeal.sig) → Buf (Elt Ideal) ℓ) (g' : Dev Cert.RefPrenormIdeal.nD → PrngReg), Pre_PrenormIdeal m →
    (∀ c : Dev Cert.PrenormIdeal.nD,
      m' ((c.tc : Thread Cert.RefPrenormIdeal.nD Cert.RefPrenormIdeal.τ).loc Cert.RefPrenormIdeal.main_arg0) = m ((c.tc : Thread Cert.PrenormIdeal.nD Cert.PrenormIdeal.τ).loc Cert.PrenormIdeal.main_arg0)
      ∧ m' ((c.tc : Thread Cert.RefPrenormIdeal.nD Cert.RefPrenormIdeal.τ).loc Cert.RefPrenormIdeal.main_arg1) = m ((c.tc : Thread Cert.PrenormIdeal.nD Cert.PrenormIdeal.τ).loc Cert.PrenormIdeal.main_arg1)
      ∧ m' ((c.tc : Thread Cert.RefPrenormIdeal.nD Cert.RefPrenormIdeal.τ).loc Cert.RefPrenormIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.RefPrenormIdeal.defs (F := Ideal)) (onTc (τ := Cert.RefPrenormIdeal.τ) (Cert.RefPrenormIdeal.main (F := Ideal))) ⟨m', fun _ => 0, g'⟩ (fun r => ∀ c : Dev Cert.RefPrenormIdeal.nD,
          r.2.mem ((c.tc : Thread Cert.RefPrenormIdeal.nD Cert.RefPrenormIdeal.τ).loc Cert.RefPrenormIdeal.main_v27) = v0 c
          ∧ r.2.mem ((c.tc : Thread Cert.RefPrenormIdeal.nD Cert.RefPrenormIdeal.τ).loc Cert.RefPrenormIdeal.main_arg0) = m' ((c.tc : Thread Cert.RefPrenormIdeal.nD Cert.RefPrenormIdeal.τ).loc Cert.RefPrenormIdeal.main_arg0)
          ∧ r.2.mem ((c.tc : Thread Cert.RefPrenormIdeal.nD Cert.RefPrenormIdeal.τ).loc Cert.RefPrenormIdeal.main_arg1) = m' ((c.tc : Thread Cert.RefPrenormIdeal.nD Cert.RefPrenormIdeal.τ).loc Cert.RefPrenormIdeal.main_arg1)
          ∧ r.2.mem ((c.tc : Thread Cert.RefPrenormIdeal.nD Cert.RefPrenormIdeal.τ).loc Cert.RefPrenormIdeal.main_arg2) = m' ((c.tc : Thread Cert.RefPrenormIdeal.nD Cert.RefPrenormIdeal.τ).loc Cert.RefPrenormIdeal.main_arg2))

def preserves_DftCtx_DftCtxIdeal : Prop :=
  True

def algebraic_DftCtxIdeal_RefDftCtxIdeal [hDftCtxIdeal : Cert.DftCtxIdeal.Facts] [hRefDftCtxIdeal : Cert.RefDftCtxIdeal.Facts] : Prop :=
  ∀ (m : (ℓ : Loc Cert.DftCtxIdeal.nD Cert.DftCtxIdeal.τ Cert.DftCtxIdeal.sig) → Buf (Elt Ideal) ℓ) (g : Dev Cert.DftCtxIdeal.nD → PrngReg)
    (m' : (ℓ : Loc Cert.RefDftCtxIdeal.nD Cert.RefDftCtxIdeal.τ Cert.RefDftCtxIdeal.sig) → Buf (Elt Ideal) ℓ) (g' : Dev Cert.RefDftCtxIdeal.nD → PrngReg), Pre_DftCtxIdeal m →
    (∀ c : Dev Cert.DftCtxIdeal.nD,
      m' ((c.tc : Thread Cert.RefDftCtxIdeal.nD Cert.RefDftCtxIdeal.τ).loc Cert.RefDftCtxIdeal.main_arg0) = m ((c.tc : Thread Cert.DftCtxIdeal.nD Cert.DftCtxIdeal.τ).loc Cert.DftCtxIdeal.main_arg0)
      ∧ m' ((c.tc : Thread Cert.RefDftCtxIdeal.nD Cert.RefDftCtxIdeal.τ).loc Cert.RefDftCtxIdeal.main_arg1) = m ((c.tc : Thread Cert.DftCtxIdeal.nD Cert.DftCtxIdeal.τ).loc Cert.DftCtxIdeal.main_arg1)
      ∧ m' ((c.tc : Thread Cert.RefDftCtxIdeal.nD Cert.RefDftCtxIdeal.τ).loc Cert.RefDftCtxIdeal.main_arg2) = m ((c.tc : Thread Cert.DftCtxIdeal.nD Cert.DftCtxIdeal.τ).loc Cert.DftCtxIdeal.main_arg2)) →
    ∃ (v0 : (c : Dev Cert.DftCtxIdeal.nD) → Buf (Elt Ideal) ((c.tc : Thread Cert.DftCtxIdeal.nD Cert.DftCtxIdeal.τ).loc Cert.DftCtxIdeal.main_v0)),
      θ_run (Cert.DftCtxIdeal.defs (F := Ideal)) (onTc (τ := Cert.DftCtxIdeal.τ) (Cert.DftCtxIdeal.main (F := Ideal))) ⟨m, fun _ => 0, g⟩ (fun r => ∀ c : Dev Cert.DftCtxIdeal.nD,
          r.2.mem ((c.tc : Thread Cert.DftCtxIdeal.nD Cert.DftCtxIdeal.τ).loc Cert.DftCtxIdeal.main_v0) = v0 c
          ∧ r.2.mem ((c.tc : Thread Cert.DftCtxIdeal.nD Cert.DftCtxIdeal.τ).loc Cert.DftCtxIdeal.main_arg0) = m ((c.tc : Thread Cert.DftCtxIdeal.nD Cert.DftCtxIdeal.τ).loc Cert.DftCtxIdeal.main_arg0)
          ∧ r.2.mem ((c.tc : Thread Cert.DftCtxIdeal.nD Cert.DftCtxIdeal.τ).loc Cert.DftCtxIdeal.main_arg1) = m ((c.tc : Thread Cert.DftCtxIdeal.nD Cert.DftCtxIdeal.τ).loc Cert.DftCtxIdeal.main_arg1)
          ∧ r.2.mem ((c.tc : Thread Cert.DftCtxIdeal.nD Cert.DftCtxIdeal.τ).loc Cert.DftCtxIdeal.main_arg2) = m ((c.tc : Thread Cert.DftCtxIdeal.nD Cert.DftCtxIdeal.τ).loc Cert.DftCtxIdeal.main_arg2))
      ∧ θ_run (Cert.RefDftCtxIdeal.defs (F := Ideal)) (onTc (τ := Cert.RefDftCtxIdeal.τ) (Cert.RefDftCtxIdeal.main (F := Ideal))) ⟨m', fun _ => 0, g'⟩ (fun r => ∀ c : Dev Cert.RefDftCtxIdeal.nD,
          r.2.mem ((c.tc : Thread Cert.RefDftCtxIdeal.nD Cert.RefDftCtxIdeal.τ).loc Cert.RefDftCtxIdeal.main_v15) = v0 c
          ∧ r.2.mem ((c.tc : Thread Cert.RefDftCtxIdeal.nD Cert.RefDftCtxIdeal.τ).loc Cert.RefDftCtxIdeal.main_arg0) = m' ((c.tc : Thread Cert.RefDftCtxIdeal.nD Cert.RefDftCtxIdeal.τ).loc Cert.RefDftCtxIdeal.main_arg0)
          ∧ r.2.mem ((c.tc : Thread Cert.RefDftCtxIdeal.nD Cert.RefDftCtxIdeal.τ).loc Cert.RefDftCtxIdeal.main_arg1) = m' ((c.tc : Thread Cert.RefDftCtxIdeal.nD Cert.RefDftCtxIdeal.τ).loc Cert.RefDftCtxIdeal.main_arg1)
          ∧ r.2.mem ((c.tc : Thread Cert.RefDftCtxIdeal.nD Cert.RefDftCtxIdeal.τ).loc Cert.RefDftCtxIdeal.main_arg2) = m' ((c.tc : Thread Cert.RefDftCtxIdeal.nD Cert.RefDftCtxIdeal.τ).loc Cert.RefDftCtxIdeal.main_arg2))

def Claim : Prop :=
  ∃ (hFfn : Cert.Ffn.Facts) (hFfnIdeal : Cert.FfnIdeal.Facts) (hRefFfnIdeal : Cert.RefFfnIdeal.Facts) (hFfnFinal : Cert.FfnFinal.Facts) (hFfnFinalIdeal : Cert.FfnFinalIdeal.Facts) (hRefFfnFinalIdeal : Cert.RefFfnFinalIdeal.Facts) (hMixIn : Cert.MixIn.Facts) (hMixInIdeal : Cert.MixInIdeal.Facts) (hRefMixInIdeal : Cert.RefMixInIdeal.Facts) (hMixOut : Cert.MixOut.Facts) (hMixOutIdeal : Cert.MixOutIdeal.Facts) (hRefMixOutIdeal : Cert.RefMixOutIdeal.Facts) (hScanCtx : Cert.ScanCtx.Facts) (hScanCtxIdeal : Cert.ScanCtxIdeal.Facts) (hRefScanCtxIdeal : Cert.RefScanCtxIdeal.Facts) (hGlaIn : Cert.GlaIn.Facts) (hGlaInIdeal : Cert.GlaInIdeal.Facts) (hRefGlaInIdeal : Cert.RefGlaInIdeal.Facts) (hAda : Cert.Ada.Facts) (hAdaIdeal : Cert.AdaIdeal.Facts) (hRefAdaIdeal : Cert.RefAdaIdeal.Facts) (hPrenorm : Cert.Prenorm.Facts) (hPrenormIdeal : Cert.PrenormIdeal.Facts) (hRefPrenormIdeal : Cert.RefPrenormIdeal.Facts) (hDftCtx : Cert.DftCtx.Facts) (hDftCtxIdeal : Cert.DftCtxIdeal.Facts) (hRefDftCtxIdeal : Cert.RefDftCtxIdeal.Facts),
    quiescent_Ffn (hFfn := hFfn)
    ∧ quiescent_FfnIdeal (hFfnIdeal := hFfnIdeal)
    ∧ quiescent_RefFfnIdeal (hRefFfnIdeal := hRefFfnIdeal)
    ∧ quiescent_FfnFinal (hFfnFinal := hFfnFinal)
    ∧ quiescent_FfnFinalIdeal (hFfnFinalIdeal := hFfnFinalIdeal)
    ∧ quiescent_RefFfnFinalIdeal (hRefFfnFinalIdeal := hRefFfnFinalIdeal)
    ∧ quiescent_MixIn (hMixIn := hMixIn)
    ∧ quiescent_MixInIdeal (hMixInIdeal := hMixInIdeal)
    ∧ quiescent_RefMixInIdeal (hRefMixInIdeal := hRefMixInIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_ScanCtx (hScanCtx := hScanCtx)
    ∧ quiescent_ScanCtxIdeal (hScanCtxIdeal := hScanCtxIdeal)
    ∧ quiescent_RefScanCtxIdeal (hRefScanCtxIdeal := hRefScanCtxIdeal)
    ∧ quiescent_GlaIn (hGlaIn := hGlaIn)
    ∧ quiescent_GlaInIdeal (hGlaInIdeal := hGlaInIdeal)
    ∧ quiescent_RefGlaInIdeal (hRefGlaInIdeal := hRefGlaInIdeal)
    ∧ quiescent_Ada (hAda := hAda)
    ∧ quiescent_AdaIdeal (hAdaIdeal := hAdaIdeal)
    ∧ quiescent_RefAdaIdeal (hRefAdaIdeal := hRefAdaIdeal)
    ∧ quiescent_Prenorm (hPrenorm := hPrenorm)
    ∧ quiescent_PrenormIdeal (hPrenormIdeal := hPrenormIdeal)
    ∧ quiescent_RefPrenormIdeal (hRefPrenormIdeal := hRefPrenormIdeal)
    ∧ quiescent_DftCtx (hDftCtx := hDftCtx)
    ∧ quiescent_DftCtxIdeal (hDftCtxIdeal := hDftCtxIdeal)
    ∧ quiescent_RefDftCtxIdeal (hRefDftCtxIdeal := hRefDftCtxIdeal)
    ∧ preserves_Ffn_FfnIdeal
    ∧ algebraic_FfnIdeal_RefFfnIdeal (hFfnIdeal := hFfnIdeal) (hRefFfnIdeal := hRefFfnIdeal)
    ∧ preserves_FfnFinal_FfnFinalIdeal
    ∧ algebraic_FfnFinalIdeal_RefFfnFinalIdeal (hFfnFinalIdeal := hFfnFinalIdeal) (hRefFfnFinalIdeal := hRefFfnFinalIdeal)
    ∧ preserves_MixIn_MixInIdeal
    ∧ algebraic_MixInIdeal_RefMixInIdeal (hMixInIdeal := hMixInIdeal) (hRefMixInIdeal := hRefMixInIdeal)
    ∧ preserves_MixOut_MixOutIdeal
    ∧ algebraic_MixOutIdeal_RefMixOutIdeal (hMixOutIdeal := hMixOutIdeal) (hRefMixOutIdeal := hRefMixOutIdeal)
    ∧ preserves_ScanCtx_ScanCtxIdeal
    ∧ algebraic_ScanCtxIdeal_RefScanCtxIdeal (hScanCtxIdeal := hScanCtxIdeal) (hRefScanCtxIdeal := hRefScanCtxIdeal)
    ∧ preserves_GlaIn_GlaInIdeal
    ∧ algebraic_GlaInIdeal_RefGlaInIdeal (hGlaInIdeal := hGlaInIdeal) (hRefGlaInIdeal := hRefGlaInIdeal)
    ∧ preserves_Ada_AdaIdeal
    ∧ algebraic_AdaIdeal_RefAdaIdeal (hAdaIdeal := hAdaIdeal) (hRefAdaIdeal := hRefAdaIdeal)
    ∧ preserves_Prenorm_PrenormIdeal
    ∧ algebraic_PrenormIdeal_RefPrenormIdeal (hPrenormIdeal := hPrenormIdeal) (hRefPrenormIdeal := hRefPrenormIdeal)
    ∧ preserves_DftCtx_DftCtxIdeal
    ∧ algebraic_DftCtxIdeal_RefDftCtxIdeal (hDftCtxIdeal := hDftCtxIdeal) (hRefDftCtxIdeal := hRefDftCtxIdeal)
-- ==== Ffn.lean ====
abbrev S20480x1024 : Shape := ⟨2, ![20480, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 12
  | .vmem => 20
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x5632, .f32⟩
  | .hbm, ⟨3, _⟩ => ⟨S2816x1024, .f32⟩
  | .hbm, ⟨4, _⟩ => ⟨S8x6x1024, .f32⟩
  | .hbm, ⟨5, _⟩ => ⟨S8x6x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S20480x1024, .f32⟩
  | .hbm, ⟨11, _⟩ => ⟨S20480x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1x6x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![20, 11], ![false, false]⟩

def k0_cond3 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefFfnIdeal.lean ====
abbrev S20480x1024 : Shape := ⟨2, ![20480, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S5x4096x1024 : Shape := ⟨3, ![5, 4096, 1024]⟩
abbrev S5x1x1024 : Shape := ⟨3, ![5, 1, 1024]⟩
abbrev S5x1024 : Shape := ⟨2, ![5, 1024]⟩
abbrev S20480x5632 : Shape := ⟨2, ![20480, 5632]⟩
abbrev S20480x2816 : Shape := ⟨2, ![20480, 2816]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x5632, .f32⟩
  | .hbm, ⟨3, _⟩ => ⟨S2816x1024, .f32⟩
  | .hbm, ⟨4, _⟩ => ⟨S8x6x1024, .f32⟩
  | .hbm, ⟨5, _⟩ => ⟨S8x6x1024, .f32⟩
  | .hbm, ⟨6, _⟩ => ⟨S1024, .f32⟩
  | .hbm, ⟨7, _⟩ => ⟨S5x4096x1024, .f32⟩
  | .hbm, ⟨8, _⟩ => ⟨S5x1x1024, .f32⟩
  | .hbm, ⟨9, _⟩ => ⟨S5x1024, .f32⟩
  | .hbm, ⟨10, _⟩ => ⟨S5x1x1024, .f32⟩
  | .hbm, ⟨11, _⟩ => ⟨S20480x1024, .f32⟩
  | .hbm, ⟨12, _⟩ => ⟨S20480x5632, .f32⟩
  | .hbm, ⟨13, _⟩ => ⟨S20480x2816, .f32⟩
  | .hbm, ⟨14, _⟩ => ⟨S20480x2816, .f32⟩
  | .hbm, ⟨15, _⟩ => ⟨S20480x2816, .f32⟩
  | .hbm, ⟨16, _⟩ => ⟨S20480x2816, .f32⟩
  | .hbm, ⟨17, _⟩ => ⟨S_, .f32⟩
  | .hbm, ⟨18, _⟩ => ⟨S20480x2816, .f32⟩
  | .hbm, ⟨19, _⟩ => ⟨S20480x2816, .f32⟩
  | .hbm, ⟨20, _⟩ => ⟨S_, .f32⟩
  | .hbm, ⟨21, _⟩ => ⟨S20480x2816, .f32⟩
  | .hbm, ⟨22, _⟩ => ⟨S20480x2816, .f32⟩
  | .hbm, ⟨23, _⟩ => ⟨S20480x2816, .f32⟩
  | .hbm, ⟨24, _⟩ => ⟨S20480x2816, .f32⟩
  | .hbm, ⟨25, _⟩ => ⟨S20480x1024, .f32⟩
  | .hbm, ⟨26, _⟩ => ⟨S5x4096x1024, .f32⟩
  | .hbm, ⟨27, _⟩ => ⟨S5x4096x1024, .f32⟩
  | .hbm, ⟨28, _⟩ => ⟨S5x4096x1024, .f32⟩
  | .hbm, ⟨29, _⟩ => ⟨S5x4096x1024, .f32⟩
  | .hbm, ⟨30, _⟩ => ⟨S5x4096x1024, .f32⟩
  | .hbm, ⟨31, _⟩ => ⟨S_, .f32⟩
  | .hbm, ⟨32, _⟩ => ⟨S5x4096, .f32⟩
  | .hbm, ⟨33, _⟩ => ⟨S5x4096x1, .f32⟩
  | .hbm, ⟨34, _⟩ => ⟨S_, .f32⟩
  | .hbm, ⟨35, _⟩ => ⟨S5x4096x1, .f32⟩
  | .hbm, ⟨36, _⟩ => ⟨S5x4096x1, .f32⟩
  | .hbm, ⟨37, _⟩ => ⟨S_, .f32⟩
  | .hbm, ⟨38, _⟩ => ⟨S5x4096x1, .f32⟩
  | .hbm, ⟨39, _⟩ => ⟨S5x4096x1, .f32⟩
  | .hbm, ⟨40, _⟩ => ⟨S5x4096x1, .f32⟩
  | .hbm, ⟨41, _⟩ => ⟨S5x4096x1024, .f32⟩
  | .hbm, ⟨42, _⟩ => ⟨S5x4096x1024, .f32⟩
  | .hbm, ⟨43, _⟩ => ⟨S1x1x1024, .f32⟩
  | .hbm, ⟨44, _⟩ => ⟨S5x4096x1024, .f32⟩
  | .hbm, ⟨45, _⟩ => ⟨S5x4096x1024, .f32⟩
  | .hbm, ⟨46, _⟩ => ⟨S5x1x1024, .f32⟩
  | .hbm, ⟨47, _⟩ => ⟨S5x1024, .f32⟩
  | .hbm, ⟨48, _⟩ => ⟨S5x1x1024, .f32⟩
  | .hbm, ⟨49, _⟩ => ⟨S_, .f32⟩
  | .hbm, ⟨50, _⟩ => ⟨S5x1x1024, .f32⟩
  | .hbm, ⟨51, _⟩ => ⟨S5x1x1024, .f32⟩
  | .hbm, ⟨52, _⟩ => ⟨S5x4096x1024, .f32⟩
  | .hbm, ⟨53, _⟩ => ⟨S5x4096x1024, .f32⟩
  | .hbm, ⟨54, _⟩ => ⟨S5x1x1024, .f32⟩
  | .hbm, ⟨55, _⟩ => ⟨S5x1024, .f32⟩
  | .hbm, ⟨56, _⟩ => ⟨S5x1x1024, .f32⟩
  | .hbm, ⟨57, _⟩ => ⟨S5x4096x1024, .f32⟩
  | .hbm, ⟨58, _⟩ => ⟨S5x4096x1024, .f32⟩
  | .hbm, ⟨59, _⟩ => ⟨S20480x1024, .f32⟩
  | .hbm, ⟨60, _⟩ => ⟨S20480x1024, .f32⟩
  | .hbm, ⟨61, _⟩ => ⟨S20480x1024, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== FfnFinal.lean ====
abbrev S20480x1024 : Shape := ⟨2, ![20480, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x5632, .f32⟩
  | .hbm, ⟨3, _⟩ => ⟨S2816x1024, .f32⟩
  | .hbm, ⟨4, _⟩ => ⟨S8x6x1024, .f32⟩
  | .hbm, ⟨5, _⟩ => ⟨S8x6x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S20480x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1x6x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![20, 11], ![false, false]⟩

def k0_cond3 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefFfnFinalIdeal.lean ====
abbrev S20480x1024 : Shape := ⟨2, ![20480, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S5x4096x1024 : Shape := ⟨3, ![5, 4096, 1024]⟩
abbrev S5x1x1024 : Shape := ⟨3, ![5, 1, 1024]⟩
abbrev S5x1024 : Shape := ⟨2, ![5, 1024]⟩
abbrev S20480x5632 : Shape := ⟨2, ![20480, 5632]⟩
abbrev S20480x2816 : Shape := ⟨2, ![20480, 2816]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x5632, .f32⟩
  | .hbm, ⟨3, _⟩ => ⟨S2816x1024, .f32⟩
  | .hbm, ⟨4, _⟩ => ⟨S8x6x1024, .f32⟩
  | .hbm, ⟨5, _⟩ => ⟨S8x6x1024, .f32⟩
  | .hbm, ⟨6, _⟩ => ⟨S1024, .f32⟩
  | .hbm, ⟨7, _⟩ => ⟨S5x4096x1024, .f32⟩
  | .hbm, ⟨8, _⟩ => ⟨S5x1x1024, .f32⟩
  | .hbm, ⟨9, _⟩ => ⟨S5x1024, .f32⟩
  | .hbm, ⟨10, _⟩ => ⟨S5x1x1024, .f32⟩
  | .hbm, ⟨11, _⟩ => ⟨S20480x1024, .f32⟩
  | .hbm, ⟨12, _⟩ => ⟨S20480x5632, .f32⟩
  | .hbm, ⟨13, _⟩ => ⟨S20480x2816, .f32⟩
  | .hbm, ⟨14, _⟩ => ⟨S20480x2816, .f32⟩
  | .hbm, ⟨15, _⟩ => ⟨S20480x2816, .f32⟩
  | .hbm, ⟨16, _⟩ => ⟨S20480x2816, .f32⟩
  | .hbm, ⟨17, _⟩ => ⟨S_, .f32⟩
  | .hbm, ⟨18, _⟩ => ⟨S20480x2816, .f32⟩
  | .hbm, ⟨19, _⟩ => ⟨S20480x2816, .f32⟩
  | .hbm, ⟨20, _⟩ => ⟨S_, .f32⟩
  | .hbm, ⟨21, _⟩ => ⟨S20480x2816, .f32⟩
  | .hbm, ⟨22, _⟩ => ⟨S20480x2816, .f32⟩
  | .hbm, ⟨23, _⟩ => ⟨S20480x2816, .f32⟩
  | .hbm, ⟨24, _⟩ => ⟨S20480x2816, .f32⟩
  | .hbm, ⟨25, _⟩ => ⟨S20480x1024, .f32⟩
  | .hbm, ⟨26, _⟩ => ⟨S5x4096x1024, .f32⟩
  | .hbm, ⟨27, _⟩ => ⟨S5x4096x1024, .f32⟩
  | .hbm, ⟨28, _⟩ => ⟨S5x4096x1024, .f32⟩
  | .hbm, ⟨29, _⟩ => ⟨S5x4096x1024, .f32⟩
  | .hbm, ⟨30, _⟩ => ⟨S5x4096x1024, .f32⟩
  | .hbm, ⟨31, _⟩ => ⟨S_, .f32⟩
  | .hbm, ⟨32, _⟩ => ⟨S5x4096, .f32⟩
  | .hbm, ⟨33, _⟩ => ⟨S5x4096x1, .f32⟩
  | .hbm, ⟨34, _⟩ => ⟨S_, .f32⟩
  | .hbm, ⟨35, _⟩ => ⟨S5x4096x1, .f32⟩
  | .hbm, ⟨36, _⟩ => ⟨S5x4096x1, .f32⟩
  | .hbm, ⟨37, _⟩ => ⟨S_, .f32⟩
  | .hbm, ⟨38, _⟩ => ⟨S5x4096x1, .f32⟩
  | .hbm, ⟨39, _⟩ => ⟨S5x4096x1, .f32⟩
  | .hbm, ⟨40, _⟩ => ⟨S5x4096x1, .f32⟩
  | .hbm, ⟨41, _⟩ => ⟨S5x4096x1024, .f32⟩
  | .hbm, ⟨42, _⟩ => ⟨S5x4096x1024, .f32⟩
  | .hbm, ⟨43, _⟩ => ⟨S1x1x1024, .f32⟩
  | .hbm, ⟨44, _⟩ => ⟨S5x4096x1024, .f32⟩
  | .hbm, ⟨45, _⟩ => ⟨S5x4096x1024, .f32⟩
  | .hbm, ⟨46, _⟩ => ⟨S20480x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== MixIn.lean ====
abbrev S20480x1024 : Shape := ⟨2, ![20480, 1024]⟩
abbrev S1024x6688 : Shape := ⟨2, ![1024, 6688]⟩
abbrev S3x512 : Shape := ⟨2, ![3, 512]⟩
abbrev S128x256 : Shape := ⟨2, ![128, 256]⟩
abbrev S512x1024 : Shape := ⟨2, ![512, 1024]⟩
abbrev S1024x1536 : Shape := ⟨2, ![1024, 1536]⟩
abbrev S1024x512 : Shape := ⟨2, ![1024, 512]⟩
abbrev S1024x3072 : Shape := ⟨2, ![1024, 3072]⟩
abbrev S2x20480x512 : Shape := ⟨3, ![2, 20480, 512]⟩
abbrev S2x512x512 : Shape := ⟨3, ![2, 512, 512]⟩
abbrev S512x1536 : Shape := ⟨2, ![512, 1536]⟩
abbrev S512x512 : Shape := ⟨2, ![512, 512]⟩
abbrev S512x1 : Shape := ⟨2, ![512, 1]⟩
abbrev S1x512 : Shape := ⟨2, ![1, 512]⟩
abbrev S512x128 : Shape := ⟨2, ![512, 128]⟩
abbrev S512x256 : Shape := ⟨2, ![512, 256]⟩
abbrev S1x512x128 : Shape := ⟨3, ![1, 512, 128]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S20480x1024, .bf16⟩
  | .hbm, ⟨1, _⟩ => ⟨S1024x6688, .f32⟩
  | .hbm, ⟨2, _⟩ => ⟨S3x512, .f32⟩
  | .hbm, ⟨3, _⟩ => ⟨S128x256, .bf16⟩
  | .hbm, ⟨4, _⟩ => ⟨S512x1024, .f32⟩
  | .hbm, ⟨5, _⟩ => ⟨S1024x1536, .f32⟩
  | .hbm, ⟨6, _⟩ => ⟨S1024x1536, .bf16⟩
  | .hbm, ⟨7, _⟩ => ⟨S1024x512, .f32⟩
  | .hbm, ⟨8, _⟩ => ⟨S1024x512, .bf16⟩
  | .hbm, ⟨9, _⟩ => ⟨S1024x3072, .f32⟩
  | .hbm, ⟨10, _⟩ => ⟨S1024x3072, .bf16⟩
  | .hbm, ⟨11, _⟩ => ⟨S512x1024, .bf16⟩
  | .hbm, ⟨12, _⟩ => ⟨S2x20480x512, .bf16⟩
  | .hbm, ⟨13, _⟩ => ⟨S20480x1024, .bf16⟩
  | .hbm, ⟨14, _⟩ => ⟨S20480x1024, .bf16⟩
  | .hbm, ⟨15, _⟩ => ⟨S20480x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x512, .bf16⟩
  | .local _ .vmem, ⟨4, _⟩ => ⟨S1024x3072, .bf16⟩
  | .local _ .vmem, ⟨5, _⟩ => ⟨S3x512, .f32⟩
  | .local _ .vmem, ⟨6, _⟩ => ⟨S128x256, .bf16⟩
  | .local _ .vmem, ⟨7, _⟩ => ⟨S512x1024, .bf16⟩
  | .local _ .vmem, ⟨8, _⟩ => ⟨S2x512x512, .bf16⟩
  | .local _ .vmem, ⟨9, _⟩ => ⟨S2x512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMixInIdeal.lean ====
abbrev S20480x1024 : Shape := ⟨2, ![20480, 1024]⟩
abbrev S1024x6688 : Shape := ⟨2, ![1024, 6688]⟩
abbrev S3x512 : Shape := ⟨2, ![3, 512]⟩
abbrev S128x256 : Shape := ⟨2, ![128, 256]⟩
abbrev S512x1024 : Shape := ⟨2, ![512, 1024]⟩
abbrev S20480x6688 : Shape := ⟨2, ![20480, 6688]⟩
abbrev S20480x512 : Shape := ⟨2, ![20480, 512]⟩
abbrev S20480x3072 : Shape := ⟨2, ![20480, 3072]⟩
abbrev S4096x512 : Shape := ⟨2, ![4096, 512]⟩
abbrev S16x256x512 : Shape := ⟨3, ![16, 256, 512]⟩
abbrev S_ : Shape := ⟨0, ![]⟩
abbrev S16x258x512 : Shape := ⟨3, ![16, 258, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩
abbrev S256x64x512 : Shape := ⟨3, ![256, 64, 512]⟩
abbrev S256x66x512 : Shape := ⟨3, ![256, 66, 512]⟩
abbrev S20480x4x128 : Shape := ⟨3, ![20480, 4, 128]⟩
abbrev S128x128 : Shape := ⟨2, ![128, 128]⟩
abbrev S20480x3x1024 : Shape := ⟨3, ![20480, 3, 1024]⟩
abbrev S1x20480x512 : Shape := ⟨3, ![1, 20480, 512]⟩
abbrev S2x20480x512 : Shape := ⟨3, ![2, 20480, 512]⟩
abbrev S20480x1x1024 : Shape := ⟨3, ![20480, 1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1024x6688, .f32⟩
  | .hbm, ⟨2, _⟩ => ⟨S3x512, .f32⟩
  | .hbm, ⟨3, _⟩ => ⟨S128x256, .bf16⟩
  | .hbm, ⟨4, _⟩ => ⟨S512x1024, .f32⟩
  | .hbm, ⟨5, _⟩ => ⟨S20480x1024, .f32⟩
  | .hbm, ⟨6, _⟩ => ⟨S20480x6688, .f32⟩
  | .hbm, ⟨7, _⟩ => ⟨S20480x512, .f32⟩
  | .hbm, ⟨8, _⟩ => ⟨S20480x512, .f32⟩
  | .hbm, ⟨9, _⟩ => ⟨S20480x512, .f32⟩
  | .hbm, ⟨10, _⟩ => ⟨S20480x512, .f32⟩
  | .hbm, ⟨11, _⟩ => ⟨S20480x3072, .f32⟩
  | .hbm, ⟨12, _⟩ => ⟨S20480x512, .f32⟩
  | .hbm, ⟨13, _⟩ => ⟨S4096x512, .f32⟩
  | .hbm, ⟨14, _⟩ => ⟨S16x256x512, .f32⟩
  | .hbm, ⟨15, _⟩ => ⟨S_, .i32⟩
  | .hbm, ⟨16, _⟩ => ⟨S_, .f32⟩
  | .hbm, ⟨17, _⟩ => ⟨S16x258x512, .f32⟩
  | .hbm, ⟨18, _⟩ => ⟨S1x512, .f32⟩
  | .hbm, ⟨19, _⟩ => ⟨S512, .f32⟩
  | .hbm, ⟨20, _⟩ => ⟨S16x256x512, .f32⟩
  | .hbm, ⟨21, _⟩ => ⟨S1x1x512, .f32⟩
  | .hbm, ⟨22, _⟩ => ⟨S16x256x512, .f32⟩
  | .hbm, ⟨23, _⟩ => ⟨S16x256x512, .f32⟩
  | .hbm, ⟨24, _⟩ => ⟨S1x512, .f32⟩
  | .hbm, ⟨25, _⟩ => ⟨S512, .f32⟩
  | .hbm, ⟨26, _⟩ => ⟨S16x256x512, .f32⟩
  | .hbm, ⟨27, _⟩ => ⟨S1x1x512, .f32⟩
  | .hbm, ⟨28, _⟩ => ⟨S16x256x512, .f32⟩
  | .hbm, ⟨29, _⟩ => ⟨S16x256x512, .f32⟩
  | .hbm, ⟨30, _⟩ => ⟨S16x256x512, .f32⟩
  | .hbm, ⟨31, _⟩ => ⟨S1x512, .f32⟩
  | .hbm, ⟨32, _⟩ => ⟨S512, .f32⟩
  | .hbm, ⟨33, _⟩ => ⟨S16x256x512, .f32⟩
  | .hbm, ⟨34, _⟩ => ⟨S1x1x512, .f32⟩
  | .hbm, ⟨35, _⟩ => ⟨S16x256x512, .f32⟩
  | .hbm, ⟨36, _⟩ => ⟨S16x256x512, .f32⟩
  | .hbm, ⟨37, _⟩ => ⟨S16x256x512, .f32⟩
  | .hbm, ⟨38, _⟩ => ⟨S4096x512, .f32⟩
  | .hbm, ⟨39, _⟩ => ⟨S16384x512, .f32⟩
  | .hbm, ⟨40, _⟩ => ⟨S256x64x512, .f32⟩
  | .hbm, ⟨41, _⟩ => ⟨S_, .i32⟩
  | .hbm, ⟨42, _⟩ => ⟨S_, .f32⟩
  | .hbm, ⟨43, _⟩ => ⟨S256x66x512, .f32⟩
  | .hbm, ⟨44, _⟩ => ⟨S1x512, .f32⟩
  | .hbm, ⟨45, _⟩ => ⟨S512, .f32⟩
  | .hbm, ⟨46, _⟩ => ⟨S256x64x512, .f32⟩
  | .hbm, ⟨47, _⟩ => ⟨S1x1x512, .f32⟩
  | .hbm, ⟨48, _⟩ => ⟨S256x64x512, .f32⟩
  | .hbm, ⟨49, _⟩ => ⟨S256x64x512, .f32⟩
  | .hbm, ⟨50, _⟩ => ⟨S1x512, .f32⟩
  | .hbm, ⟨51, _⟩ => ⟨S512, .f32⟩
  | .hbm, ⟨52, _⟩ => ⟨S256x64x512, .f32⟩
  | .hbm, ⟨53, _⟩ => ⟨S1x1x512, .f32⟩
  | .hbm, ⟨54, _⟩ => ⟨S256x64x512, .f32⟩
  | .hbm, ⟨55, _⟩ => ⟨S256x64x512, .f32⟩
  | .hbm, ⟨56, _⟩ => ⟨S256x64x512, .f32⟩
  | .hbm, ⟨57, _⟩ => ⟨S1x512, .f32⟩
  | .hbm, ⟨58, _⟩ => ⟨S512, .f32⟩
  | .hbm, ⟨59, _⟩ => ⟨S256x64x512, .f32⟩
  | .hbm, ⟨60, _⟩ => ⟨S1x1x512, .f32⟩
  | .hbm, ⟨61, _⟩ => ⟨S256x64x512, .f32⟩
  | .hbm, ⟨62, _⟩ => ⟨S256x64x512, .f32⟩
  | .hbm, ⟨63, _⟩ => ⟨S256x64x512, .f32⟩
  | .hbm, ⟨64, _⟩ => ⟨S16384x512, .f32⟩
  | .hbm, ⟨65, _⟩ => ⟨S20480x512, .f32⟩
  | .hbm, ⟨66, _⟩ => ⟨S20480x512, .f32⟩
  | .hbm, ⟨67, _⟩ => ⟨S20480x1024, .f32⟩
  | .hbm, ⟨68, _⟩ => ⟨S20480x4x128, .f32⟩
  | .hbm, ⟨69, _⟩ => ⟨S128x256, .f32⟩
  | .hbm, ⟨70, _⟩ => ⟨S128x128, .f32⟩
  | .hbm, ⟨71, _⟩ => ⟨S20480x4x128, .f32⟩
  | .hbm, ⟨72, _⟩ => ⟨S20480x512, .f32⟩
  | .hbm, ⟨73, _⟩ => ⟨S128x128, .f32⟩
  | .hbm, ⟨74, _⟩ => ⟨S20480x4x128, .f32⟩
  | .hbm, ⟨75, _⟩ => ⟨S20480x512, .f32⟩
  | .hbm, ⟨76, _⟩ => ⟨S20480x3x1024, .f32⟩
  | .hbm, ⟨77, _⟩ => ⟨S20480x3x1024, .f32⟩
  | .hbm, ⟨78, _⟩ => ⟨S20480x3x1024, .f32⟩
  | .hbm, ⟨79, _⟩ => ⟨S_, .f32⟩
  | .hbm, ⟨80, _⟩ => ⟨S20480x3x1024, .f32⟩
  | .hbm, ⟨81, _⟩ => ⟨S20480x3x1024, .f32⟩
  | .hbm, ⟨82, _⟩ => ⟨S_, .f32⟩
  | .hbm, ⟨83, _⟩ => ⟨S20480x3x1024, .f32⟩
  | .hbm, ⟨84, _⟩ => ⟨S20480x3x1024, .f32⟩
  | .hbm, ⟨85, _⟩ => ⟨S1x20480x512, .f32⟩
  | .hbm, ⟨86, _⟩ => ⟨S1x20480x512, .f32⟩
  | .hbm, ⟨87, _⟩ => ⟨S2x20480x512, .f32⟩
  | .hbm, ⟨88, _⟩ => ⟨S2x20480x512, .bf16⟩
  | .hbm, ⟨89, _⟩ => ⟨S20480x1x1024, .f32⟩
  | .hbm, ⟨90, _⟩ => ⟨S20480x1024, .f32⟩
  | .hbm, ⟨91, _⟩ => ⟨S20480x1024, .bf16⟩
  | .hbm, ⟨92, _⟩ => ⟨S20480x1x1024, .f32⟩
  | .hbm, ⟨93, _⟩ => ⟨S20480x1024, .f32⟩
  | .hbm, ⟨94, _⟩ => ⟨S20480x1024, .bf16⟩
  | .hbm, ⟨95, _⟩ => ⟨S20480x1x1024, .f32⟩
  | .hbm, ⟨96, _⟩ => ⟨S20480x1024, .f32⟩
  | .hbm, ⟨97, _⟩ => ⟨S20480x1024, .f32⟩
  | .hbm, ⟨98, _⟩ => ⟨S20480x1024, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_0 : Ref sig .tc := ⟨.hbm, 41, rfl⟩
abbrev main_call1_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst : Ref sig .tc := ⟨.hbm, 79, rfl⟩
abbrev main_v70 : Ref sig .tc := ⟨.hbm, 80, rfl⟩
abbrev main_v71 : Ref sig .tc := ⟨.hbm, 81, rfl⟩
abbrev main_cst_1 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩

abbrev nD : Nat := 1
abbrev τ : Topo := Topo.v7x

variable {F : FTy → Type} [FloatOps F]
-- ==== MixOut.lean ====
abbrev S20480x1024 : Shape := ⟨2, ![20480, 1024]⟩
abbrev S20480x512 : Shape := ⟨2, ![20480, 512]⟩
abbrev S16x4x128x512 : Shape := ⟨4, ![16, 4, 128, 512]⟩
abbrev S64x4x128x512 : Shape := ⟨4, ![64, 4, 128, 512]⟩
abbrev S4096x512 : Shape := ⟨2, ![4096, 512]⟩
abbrev S16384x512 : Shape := ⟨2, ![16384, 512]⟩
abbrev S8x6x1024 : Shape := ⟨3, ![8, 6, 1024]⟩
abbrev S128 : Shape := ⟨1, ![128]⟩
abbrev S1024 : Shape := ⟨1, ![1024]⟩
abbrev S512x1024 : Shape := ⟨2, ![512, 1024]⟩
abbrev S1024x1024 : Shape := ⟨2, ![1024, 1024]⟩
abbrev S1x128 : Shape := ⟨2, ![1, 128]⟩
abbrev S1x1024 : Shape := ⟨2, ![1, 1024]⟩
abbrev S512x512 : Shape := ⟨2, ![512, 512]⟩
abbrev S2x4x128x512 : Shape := ⟨4, ![2, 4, 128, 512]⟩
abbrev S1x6x1024 : Shape := ⟨3, ![1, 6, 1024]⟩
abbrev S1x1x128x512 : Shape := ⟨4, ![1, 1, 128, 512]⟩
abbrev S128x512 : Shape := ⟨2, ![128, 512]⟩
abbrev S64x128 : Shape := ⟨2, ![64, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S6x1024 : Shape := ⟨2, ![6, 1024]⟩

abbrev nBuf : Space → Nat
  | .hbm => 24
  | .vmem => 34
  | .smem => 0
  | _ => 0

abbrev bufTy : (tb : Table) → Fin (tcTables nBuf tb) → BufTy
  | .hbm, ⟨0, _⟩ => ⟨S20480x1024, .f32⟩
  | .hbm, ⟨1, _⟩ => ⟨S20480x512, .f32⟩
  | .hbm, ⟨2, _⟩ => ⟨S20480x512, .bf16⟩
  | .hbm, ⟨3, _⟩ => ⟨S16x4x128x512, .bf16⟩
  | .hbm, ⟨4, _⟩ => ⟨S64x4x128x512, .bf16⟩
  | .hbm, ⟨5, _⟩ => ⟨S20480x512, .bf16⟩
  | .hbm, ⟨6, _⟩ => ⟨S4096x512, .bf16⟩
  | .hbm, ⟨7, _⟩ => ⟨S16384x512, .bf16⟩
  | .hbm, ⟨8, _⟩ => ⟨S20480x1024, .bf16⟩
  | .hbm, ⟨9, _⟩ => ⟨S20480x1024, .bf16⟩
  | .hbm, ⟨10, _⟩ => ⟨S20480x1024, .bf16⟩
  | .hbm, ⟨11, _⟩ => ⟨S8x6x1024, .f32⟩
  | .hbm, ⟨12, _⟩ => ⟨S128, .f32⟩
  | .hbm, ⟨13, _⟩ => ⟨S1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1x128, .f32⟩
  | .hbm, ⟨18, _⟩ => ⟨S1x1024, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S20480x1024, .f32⟩
  | .hbm, ⟨23, _⟩ => ⟨S20480x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S2x4x128x512, .bf16⟩
  | .local _ .vmem, ⟨7, _⟩ => ⟨S2x4x128x512, .bf16⟩
  | .local _ .vmem, ⟨8, _⟩ => ⟨S2x4x128x512, .bf16⟩
  | .local _ .vmem, ⟨9, _⟩ => ⟨S2x4x128x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x6x1024, .f32⟩
  | .local _ .vmem, ⟨23, _⟩ => ⟨S1x6x1024, .f32⟩
  | .local _ .vmem, ⟨24, _⟩ => ⟨S1x128, .f32⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S512x512, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RefMixOutIdeal.lean ====
abbrev S20480x1024 : Shape := ⟨2, ![20480, 1024]⟩
abbrev S20480x512 : Shape := ⟨2, ![20480, 512]⟩
abbrev S16x4x128x512 : Shape := ⟨4, ![16, 4, 128, 512]⟩
abbrev S64x4x128x512 : Shape := ⟨4, ![64, 4, 128, 512]⟩
abbrev S4096x512 : Shape := ⟨2, ![4096, 512]⟩
abbrev S16384x512 : Shape := ⟨2, ![16384, 512]⟩
abbrev S8x6x1024 : Shape := ⟨3, ![8, 6, 1024]⟩
abbrev S128 : Shape := ⟨1, ![128]⟩
abbrev S1024 : Shape := ⟨1, ![1024]⟩
abbrev S512x1024 : Shape := ⟨2, ![512, 1024]⟩
abbrev S1024x1024 : Shape := ⟨2, ![1024, 1024]⟩
abbrev S80x4x128x512 : Shape := ⟨4, ![80, 4, 128, 512]⟩
abbrev S80x4x128x4x128 : Shape := ⟨5, ![80, 4, 128, 4, 128]⟩
abbrev S80x4x4x128x128 : Shape := ⟨5, ![80, 4, 4, 128, 128]⟩
abbrev S320x4x128x128 : Shape := ⟨4, ![320, 4, 128, 128]⟩
abbrev S320x64x4x128 : Shape := ⟨4, ![320, 64, 4, 128]⟩
abbrev S320x4x128x64 : Shape := ⟨4, ![320, 4, 128, 64]⟩
abbrev S_ : Shape := ⟨0, ![]⟩
abbrev S320x64x4 : Shape := ⟨3, ![320, 64, 4]⟩
abbrev S320x64x4x1 : Shape := ⟨4, ![320, 64, 4, 1]⟩
abbrev S1x1x1x128 : Shape := ⟨4, ![1, 1, 1, 128]⟩
abbrev S5x4096x1024 : Shape := ⟨3, ![5, 4096, 1024]⟩
abbrev S5x1x1024 : Shape := ⟨3, ![5, 1, 1024]⟩
abbrev S5x1024 : Shape := ⟨2, ![5, 1024]⟩
abbrev S5x4096 : Shape := ⟨2, ![5, 4096]⟩
abbrev S5x4096x1 : Shape := ⟨3, ![5, 4096, 1]⟩
abbrev S1x1x1024 : Shape := ⟨3, ![1, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x512, .f32⟩
  | .hbm, ⟨2, _⟩ => ⟨S20480x512, .bf16⟩
  | .hbm, ⟨3, _⟩ => ⟨S16x4x128x512, .bf16⟩
  | .hbm, ⟨4, _⟩ => ⟨S64x4x128x512, .bf16⟩
  | .hbm, ⟨5, _⟩ => ⟨S20480x512, .bf16⟩
  | .hbm, ⟨6, _⟩ => ⟨S4096x512, .bf16⟩
  | .hbm, ⟨7, _⟩ => ⟨S16384x512, .bf16⟩
  | .hbm, ⟨8, _⟩ => ⟨S20480x1024, .bf16⟩
  | .hbm, ⟨9, _⟩ => ⟨S20480x1024, .bf16⟩
  | .hbm, ⟨10, _⟩ => ⟨S20480x1024, .bf16⟩
  | .hbm, ⟨11, _⟩ => ⟨S8x6x1024, .f32⟩
  | .hbm, ⟨12, _⟩ => ⟨S128, .f32⟩
  | .hbm, ⟨13, _⟩ => ⟨S1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S80x4x128x512, .bf16⟩
  | .hbm, ⟨18, _⟩ => ⟨S80x4x128x512, .f32⟩
  | .hbm, ⟨19, _⟩ => ⟨S80x4x128x4x128, .f32⟩
  | .hbm, ⟨20, _⟩ => ⟨S80x4x4x128x128, .f32⟩
  | .hbm, ⟨21, _⟩ => ⟨S320x4x128x128, .f32⟩
  | .hbm, ⟨22, _⟩ => ⟨S20480x512, .f32⟩
  | .hbm, ⟨23, _⟩ => ⟨S320x64x4x128, .f32⟩
  | .hbm, ⟨24, _⟩ => ⟨S320x64x4x128, .f32⟩
  | .hbm, ⟨25, _⟩ => ⟨S320x4x128x64, .f32⟩
  | .hbm, ⟨26, _⟩ => ⟨S320x64x4x128, .f32⟩
  | .hbm, ⟨27, _⟩ => ⟨S320x64x4x128, .f32⟩
  | .hbm, ⟨28, _⟩ => ⟨S320x64x4x128, .f32⟩
  | .hbm, ⟨29, _⟩ => ⟨S_, .f32⟩
  | .hbm, ⟨30, _⟩ => ⟨S320x64x4, .f32⟩
  | .hbm, ⟨31, _⟩ => ⟨S320x64x4x1, .f32⟩
  | .hbm, ⟨32, _⟩ => ⟨S_, .f32⟩
  | .hbm, ⟨33, _⟩ => ⟨S320x64x4x1, .f32⟩
  | .hbm, ⟨34, _⟩ => ⟨S320x64x4x1, .f32⟩
  | .hbm, ⟨35, _⟩ => ⟨S_, .f32⟩
  | .hbm, ⟨36, _⟩ => ⟨S320x64x4x1, .f32⟩
  | .hbm, ⟨37, _⟩ => ⟨S320x64x4x1, .f32⟩
  | .hbm, ⟨38, _⟩ => ⟨S320x64x4x1, .f32⟩
  | .hbm, ⟨39, _⟩ => ⟨S320x64x4x128, .f32⟩
  | .hbm, ⟨40, _⟩ => ⟨S320x64x4x128, .f32⟩
  | .hbm, ⟨41, _⟩ => ⟨S1x1x1x128, .f32⟩
  | .hbm, ⟨42, _⟩ => ⟨S320x64x4x128, .f32⟩
  | .hbm, ⟨43, _⟩ => ⟨S320x64x4x128, .f32⟩
  | .hbm, ⟨44, _⟩ => ⟨S20480x512, .f32⟩
  | .hbm, ⟨45, _⟩ => ⟨S20480x512, .f32⟩
  | .hbm, ⟨46, _⟩ => ⟨S20480x512, .f32⟩
  | .hbm, ⟨47, _⟩ => ⟨S20480x512, .f32⟩
  | .hbm, ⟨48, _⟩ => ⟨S_, .f32⟩
  | .hbm, ⟨49, _⟩ => ⟨S20480x512, .f32⟩
  | .hbm, ⟨50, _⟩ => ⟨S20480x512, .f32⟩
  | .hbm, ⟨51, _⟩ => ⟨S_, .f32⟩
  | .hbm, ⟨52, _⟩ => ⟨S20480x512, .f32⟩
  | .hbm, ⟨53, _⟩ => ⟨S20480x512, .f32⟩
  | .hbm, ⟨54, _⟩ => ⟨S20480x512, .f32⟩
  | .hbm, ⟨55, _⟩ => ⟨S20480x512, .f32⟩
  | .hbm, ⟨56, _⟩ => ⟨S20480x1024, .f32⟩
  | .hbm, ⟨57, _⟩ => ⟨S20480x512, .bf16⟩
  | .hbm, ⟨58, _⟩ => ⟨S20480x512, .f32⟩
  | .hbm, ⟨59, _⟩ => ⟨S20480x1024, .f32⟩
  | .hbm, ⟨60, _⟩ => ⟨S20480x1024, .f32⟩
  | .hbm, ⟨61, _⟩ => ⟨S20480x1024, .f32⟩
  | .hbm, ⟨62, _⟩ => ⟨S20480x1024, .f32⟩
  | .hbm, ⟨63, _⟩ => ⟨S20480x1024, .f32⟩
  | .hbm, ⟨64, _⟩ => ⟨S20480x1024, .f32⟩
  | .hbm, ⟨65, _⟩ => ⟨S20480x1024, .f32⟩
  | .hbm, ⟨66, _⟩ => ⟨S20480x1024, .f32⟩
  | .hbm, ⟨67, _⟩ => ⟨S5x4096x1024, .f32⟩
  | .hbm, ⟨68, _⟩ => ⟨S5x1x1024, .f32⟩
  | .hbm, ⟨69, _⟩ => ⟨S5x1024, .f32⟩
  | .hbm, ⟨70, _⟩ => ⟨S5x1x1024, .f32⟩
  | .hbm, ⟨71, _⟩ => ⟨S20480x1024, .f32⟩
  | .hbm, ⟨72, _⟩ => ⟨S5x4096x1024, .f32⟩
  | .hbm, ⟨73, _⟩ => ⟨S5x4096x1024, .f32⟩
  | .hbm, ⟨74, _⟩ => ⟨S5x4096x1024, .f32⟩
  | .hbm, ⟨75, _⟩ => ⟨S5x4096x1024, .f32⟩
  | .hbm, ⟨76, _⟩ => ⟨S5x4096x1024, .f32⟩
  | .hbm, ⟨77, _⟩ => ⟨S_, .f32⟩
  | .hbm, ⟨78, _⟩ => ⟨S5x4096, .f32⟩
  | .hbm, ⟨79, _⟩ => ⟨S5x4096x1, .f32⟩
  | .hbm, ⟨80, _⟩ => ⟨S_, .f32⟩
  | .hbm, ⟨81, _⟩ => ⟨S5x4096x1, .f32⟩
  | .hbm, ⟨82, _⟩ => ⟨S5x4096x1, .f32⟩
  | .hbm, ⟨83, _⟩ => ⟨S_, .f32⟩
  | .hbm, ⟨84, _⟩ => ⟨S5x4096x1, .f32⟩
  | .hbm, ⟨85, _⟩ => ⟨S5x4096x1, .f32⟩
  | .hbm, ⟨86, _⟩ => ⟨S5x4096x1, .f32⟩
  | .hbm, ⟨87, _⟩ => ⟨S5x4096x1024, .f32⟩
  | .hbm, ⟨88, _⟩ => ⟨S5x4096x1024, .f32⟩
  | .hbm, ⟨89, _⟩ => ⟨S1x1x1024, .f32⟩
  | .hbm, ⟨90, _⟩ => ⟨S5x4096x1024, .f32⟩
  | .hbm, ⟨91, _⟩ => ⟨S5x4096x1024, .f32⟩
  | .hbm, ⟨92, _⟩ => ⟨S5x1x1024, .f32⟩
  | .hbm, ⟨93, _⟩ => ⟨S5x1024, .f32⟩
  | .hbm, ⟨94, _⟩ => ⟨S5x1x1024, .f32⟩
  | .hbm, ⟨95, _⟩ => ⟨S_, .f32⟩
  | .hbm, ⟨96, _⟩ => ⟨S5x1x1024, .f32⟩
  | .hbm, ⟨97, _⟩ => ⟨S5x1x1024, .f32⟩
  | .hbm, ⟨98, _⟩ => ⟨S5x4096x1024, .f32⟩
  | .hbm, ⟨99, _⟩ => ⟨S5x4096x1024, .f32⟩
  | .hbm, ⟨100, _⟩ => ⟨S5x1x1024, .f32⟩
  | .hbm, ⟨101, _⟩ => ⟨S5x1024, .f32⟩
  | .hbm, ⟨102, _⟩ => ⟨S5x1x1024, .f32⟩
  | .hbm, ⟨103, _⟩ => ⟨S5x4096x1024, .f32⟩
  | .hbm, ⟨104, _⟩ => ⟨S5x4096x1024, .f32⟩
  | .hbm, ⟨105, _⟩ => ⟨S20480x1024, .f32⟩
  | .hbm, ⟨106, _⟩ => ⟨S20480x1024, .f32⟩
  | .hbm, ⟨107, _⟩ => ⟨S20480x1024, .bf16⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_2 : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== ScanCtx.lean ====
abbrev S80x4x128x512 : Shape := ⟨4, ![80, 4, 128, 512]⟩
abbrev S80x4x1x512 : Shape := ⟨4, ![80, 4, 1, 512]⟩
abbrev S16x4x128x128 : Shape := ⟨4, ![16, 4, 128, 128]⟩
abbrev S16x4x128x512 : Shape := ⟨4, ![16, 4, 128, 512]⟩
abbrev S1x1x128x512 : Shape := ⟨4, ![1, 1, 128, 512]⟩
abbrev S1x1x1x512 : Shape := ⟨4, ![1, 1, 1, 512]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S80x4x128x512, .f32⟩
  | .hbm, ⟨1, _⟩ => ⟨S80x4x1x512, .f32⟩
  | .hbm, ⟨2, _⟩ => ⟨S16x4x128x128, .f32⟩
  | .hbm, ⟨3, _⟩ => ⟨S16x4x128x512, .bf16⟩
  | .hbm, ⟨4, _⟩ => ⟨S16x4x128x128, .f32⟩
  | .local _ .vmem, ⟨0, _⟩ => ⟨S1x1x128x512, .f32⟩
  | .local _ .vmem, ⟨1, _⟩ => ⟨S1x1x128x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x512, .bf16⟩
  | .local _ .vmem, ⟨7, _⟩ => ⟨S1x1x128x512, .bf16⟩
  | .local _ .vmem, ⟨8, _⟩ => ⟨S1x1x128x128, .f32⟩
  | .local _ .vmem, ⟨9, _⟩ => ⟨S1x1x128x128, .f32⟩
  | _, _ => ⟨S80x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_off1 : Fin 4 → Nat :=
  let c0_i32_38 : BitVec 32 := 0#32
  let c0_i32_37 : BitVec 32 := 0#32
  let v68 : BitVec 32 := Scalar.subi c0_i32_38 c0_i32_37
  let v69 : Index := Scalar.indexCast v68
  let c0_39 : Index := 0#32
  let c0_40 : Index := 0#32
  let c384_41 : Index := 384#32
  ![v69.toNat, 0, 0, 384]
def k0_off2 : Fin 4 → Nat :=
  let c0_i32_38 : BitVec 32 := 0#32
  let c0_i32_37 : BitVec 32 := 0#32
  let v68 : BitVec 32 := Scalar.subi c0_i32_38 c0_i32_37
  let v79 : Index := Scalar.indexCast v68
  let c0_45 : Index := 0#32
  let c0_46 : Index := 0#32
  let c384_47 : Index := 384#32
  ![v79.toNat, 0, 0, 384]
def k0_off3 : Fin 4 → Nat :=
  let c0_i32_38 : BitVec 32 := 0#32
  let c0_i32_37 : BitVec 32 := 0#32
  let v68 : BitVec 32 := Scalar.subi c0_i32_38 c0_i32_37
  let v88 : Index := Scalar.indexCast v68
  let c0_51 : Index := 0#32
  let c0_52 : Index := 0#32
  let c256_53 : Index := 256#32
  ![v88.toNat, 0, 0, 256]
def k0_off4 : Fin 4 → Nat :=
  let c0_i32_38 : BitVec 32 := 0#32
  let c0_i32_37 : BitVec 32 := 0#32
  let v68 : BitVec 32 := Scalar.subi c0_i32_38 c0_i32_37
  let v98 : Index := Scalar.indexCast v68
  let c0_57 : Index := 0#32
  let c0_58 : Index := 0#32
  let c256_59 : Index := 256#32
  ![v98.toNat, 0, 0, 256]
def k0_off5 : Fin 4 → Nat :=
  let c0_i32_38 : BitVec 32 := 0#32
  let c0_i32_37 : BitVec 32 := 0#32
  let v68 : BitVec 32 := Scalar.subi c0_i32_38 c0_i32_37
  let v107 : Index := Scalar.indexCast v68
  let c0_63 : Index := 0#32
  let c0_64 : Index := 0#32
  let c128_65 : Index := 128#32
  ![v107.toNat, 0, 0, 128]
def k0_off6 : Fin 4 → Nat :=
  let c0_i32_38 : BitVec 32 := 0#32
  let c0_i32_37 : BitVec 32 := 0#32
  let v68 : BitVec 32 := Scalar.subi c0_i32_38 c0_i32_37
  let v117 : Index := Scalar.indexCast v68
  let c0_69 : Index := 0#32
  let c0_70 : Index := 0#32
  let c128_71 : Index := 128#32
  ![v117.toNat, 0, 0, 128]
def k0_off7 : Fin 4 → Nat :=
  let c0_i32_38 : BitVec 32 := 0#32
  let c0_i32_37 : BitVec 32 := 0#32
  let v68 : BitVec 32 := Scalar.subi c0_i32_38 c0_i32_37
  let v126 : Index := Scalar.indexCast v68
  let c0_75 : Index := 0#32
  let c0_76 : Index := 0#32
  let c0_77 : Index := 0#32
  ![v126.toNat, 0, 0, 0]
def k0_off8 : Fin 4 → Nat :=
  let c0_i32_38 : BitVec 32 := 0#32
  let c0_i32_37 : BitVec 32 := 0#32
  let v68 : BitVec 32 := Scalar.subi c0_i32_38 c0_i32_37
  let v136 : Index := Scalar.indexCast v68
  let c0_81 : Index := 0#32
  let c0_82 : Index := 0#32
  let c0_83 : Index := 0#32
  ![v136.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefScanCtxIdeal.lean ====
abbrev S80x4x128x512 : Shape := ⟨4, ![80, 4, 128, 512]⟩
abbrev S80x4x1x512 : Shape := ⟨4, ![80, 4, 1, 512]⟩
abbrev S16x4x128x128 : Shape := ⟨4, ![16, 4, 128, 128]⟩
abbrev S16x4x128x512 : Shape := ⟨4, ![16, 4, 128, 512]⟩
abbrev S16x4x128x4x2x64 : Shape := ⟨6, ![16, 4, 128, 4, 2, 64]⟩
abbrev S16x4x1x512 : Shape := ⟨4, ![16, 4, 1, 512]⟩
abbrev S16x4x1x4x2x64 : Shape := ⟨6, ![16, 4, 1, 4, 2, 64]⟩
abbrev S16x4x128x2x64 : Shape := ⟨5, ![16, 4, 128, 2, 64]⟩
abbrev S16x4x128x1x64 : Shape := ⟨5, ![16, 4, 128, 1, 64]⟩
abbrev S16x4x128x64 : Shape := ⟨4, ![16, 4, 128, 64]⟩
abbrev S16x4x1x1x1x64 : Shape := ⟨6, ![16, 4, 1, 1, 1, 64]⟩
abbrev S16x4x1x64 : Shape := ⟨4, ![16, 4, 1, 64]⟩
abbrev S16x4x128x1x1x64 : Shape := ⟨6, ![16, 4, 128, 1, 1, 64]⟩
abbrev S1x16x4x128x64 : Shape := ⟨5, ![1, 16, 4, 128, 64]⟩
abbrev S4x16x4x128x64 : Shape := ⟨5, ![4, 16, 4, 128, 64]⟩
abbrev S1x4x16x4x128x64 : Shape := ⟨6, ![1, 4, 16, 4, 128, 64]⟩
abbrev S2x4x16x4x128x64 : Shape := ⟨6, ![2, 4, 16, 4, 128, 64]⟩
abbrev S16x4x2x64x4x128 : Shape := ⟨6, ![16, 4, 2, 64, 4, 128]⟩

abbrev nBuf : Space → Nat
  | .hbm => 88
  | .vmem => 0
  | .smem => 0
  | _ => 0

abbrev bufTy : (tb : Table) → Fin (tcTables nBuf tb) → BufTy
  | .hbm, ⟨0, _⟩ => ⟨S80x4x128x512, .f32⟩
  | .hbm, ⟨1, _⟩ => ⟨S80x4x1x512, .f32⟩
  | .hbm, ⟨2, _⟩ => ⟨S16x4x128x128, .f32⟩
  | .hbm, ⟨3, _⟩ => ⟨S16x4x128x512, .f32⟩
  | .hbm, ⟨4, _⟩ => ⟨S16x4x128x4x2x64, .f32⟩
  | .hbm, ⟨5, _⟩ => ⟨S16x4x1x512, .f32⟩
  | .hbm, ⟨6, _⟩ => ⟨S16x4x1x4x2x64, .f32⟩
  | .hbm, ⟨7, _⟩ => ⟨S16x4x128x2x64, .f32⟩
  | .hbm, ⟨8, _⟩ => ⟨S16x4x128x1x64, .f32⟩
  | .hbm, ⟨9, _⟩ => ⟨S16x4x128x64, .f32⟩
  | .hbm, ⟨10, _⟩ => ⟨S16x4x1x1x1x64, .f32⟩
  | .hbm, ⟨11, _⟩ => ⟨S16x4x1x64, .f32⟩
  | .hbm, ⟨12, _⟩ => ⟨S16x4x128x64, .f32⟩
  | .hbm, ⟨13, _⟩ => ⟨S16x4x128x64, .f32⟩
  | .hbm, ⟨14, _⟩ => ⟨S16x4x128x1x1x64, .f32⟩
  | .hbm, ⟨15, _⟩ => ⟨S16x4x128x64, .f32⟩
  | .hbm, ⟨16, _⟩ => ⟨S16x4x128x64, .f32⟩
  | .hbm, ⟨17, _⟩ => ⟨S16x4x1x1x1x64, .f32⟩
  | .hbm, ⟨18, _⟩ => ⟨S16x4x1x64, .f32⟩
  | .hbm, ⟨19, _⟩ => ⟨S16x4x128x64, .f32⟩
  | .hbm, ⟨20, _⟩ => ⟨S16x4x128x64, .f32⟩
  | .hbm, ⟨21, _⟩ => ⟨S16x4x128x1x1x64, .f32⟩
  | .hbm, ⟨22, _⟩ => ⟨S16x4x128x64, .f32⟩
  | .hbm, ⟨23, _⟩ => ⟨S16x4x128x64, .f32⟩
  | .hbm, ⟨24, _⟩ => ⟨S16x4x1x1x1x64, .f32⟩
  | .hbm, ⟨25, _⟩ => ⟨S16x4x1x64, .f32⟩
  | .hbm, ⟨26, _⟩ => ⟨S16x4x128x64, .f32⟩
  | .hbm, ⟨27, _⟩ => ⟨S16x4x128x64, .f32⟩
  | .hbm, ⟨28, _⟩ => ⟨S16x4x128x1x1x64, .f32⟩
  | .hbm, ⟨29, _⟩ => ⟨S16x4x128x64, .f32⟩
  | .hbm, ⟨30, _⟩ => ⟨S16x4x128x64, .f32⟩
  | .hbm, ⟨31, _⟩ => ⟨S16x4x1x1x1x64, .f32⟩
  | .hbm, ⟨32, _⟩ => ⟨S16x4x1x64, .f32⟩
  | .hbm, ⟨33, _⟩ => ⟨S16x4x128x64, .f32⟩
  | .hbm, ⟨34, _⟩ => ⟨S16x4x128x64, .f32⟩
  | .hbm, ⟨35, _⟩ => ⟨S16x4x128x1x1x64, .f32⟩
  | .hbm, ⟨36, _⟩ => ⟨S16x4x128x64, .f32⟩
  | .hbm, ⟨37, _⟩ => ⟨S16x4x128x64, .f32⟩
  | .hbm, ⟨38, _⟩ => ⟨S1x16x4x128x64, .f32⟩
  | .hbm, ⟨39, _⟩ => ⟨S1x16x4x128x64, .f32⟩
  | .hbm, ⟨40, _⟩ => ⟨S1x16x4x128x64, .f32⟩
  | .hbm, ⟨41, _⟩ => ⟨S1x16x4x128x64, .f32⟩
  | .hbm, ⟨42, _⟩ => ⟨S4x16x4x128x64, .f32⟩
  | .hbm, ⟨43, _⟩ => ⟨S16x4x128x1x64, .f32⟩
  | .hbm, ⟨44, _⟩ => ⟨S16x4x128x64, .f32⟩
  | .hbm, ⟨45, _⟩ => ⟨S16x4x1x1x1x64, .f32⟩
  | .hbm, ⟨46, _⟩ => ⟨S16x4x1x64, .f32⟩
  | .hbm, ⟨47, _⟩ => ⟨S16x4x128x64, .f32⟩
  | .hbm, ⟨48, _⟩ => ⟨S16x4x128x64, .f32⟩
  | .hbm, ⟨49, _⟩ => ⟨S16x4x128x1x1x64, .f32⟩
  | .hbm, ⟨50, _⟩ => ⟨S16x4x128x64, .f32⟩
  | .hbm, ⟨51, _⟩ => ⟨S16x4x128x64, .f32⟩
  | .hbm, ⟨52, _⟩ => ⟨S16x4x1x1x1x64, .f32⟩
  | .hbm, ⟨53, _⟩ => ⟨S16x4x1x64, .f32⟩
  | .hbm, ⟨54, _⟩ => ⟨S16x4x128x64, .f32⟩
  | .hbm, ⟨55, _⟩ => ⟨S16x4x128x64, .f32⟩
  | .hbm, ⟨56, _⟩ => ⟨S16x4x128x1x1x64, .f32⟩
  | .hbm, ⟨57, _⟩ => ⟨S16x4x128x64, .f32⟩
  | .hbm, ⟨58, _⟩ => ⟨S16x4x128x64, .f32⟩
  | .hbm, ⟨59, _⟩ => ⟨S16x4x1x1x1x64, .f32⟩
  | .hbm, ⟨60, _⟩ => ⟨S16x4x1x64, .f32⟩
  | .hbm, ⟨61, _⟩ => ⟨S16x4x128x64, .f32⟩
  | .hbm, ⟨62, _⟩ => ⟨S16x4x128x64, .f32⟩
  | .hbm, ⟨63, _⟩ => ⟨S16x4x128x1x1x64, .f32⟩
  | .hbm, ⟨64, _⟩ => ⟨S16x4x128x64, .f32⟩
  | .hbm, ⟨65, _⟩ => ⟨S16x4x128x64, .f32⟩
  | .hbm, ⟨66, _⟩ => ⟨S16x4x1x1x1x64, .f32⟩
  | .hbm, ⟨67, _⟩ => ⟨S16x4x1x64, .f32⟩
  | .hbm, ⟨68, _⟩ => ⟨S16x4x128x64, .f32⟩
  | .hbm, ⟨69, _⟩ => ⟨S16x4x128x64, .f32⟩
  | .hbm, ⟨70, _⟩ => ⟨S16x4x128x1x1x64, .f32⟩
  | .hbm, ⟨71, _⟩ => ⟨S16x4x128x64, .f32⟩
  | .hbm, ⟨72, _⟩ => ⟨S16x4x128x64, .f32⟩
  | .hbm, ⟨73, _⟩ => ⟨S1x16x4x128x64, .f32⟩
  | .hbm, ⟨74, _⟩ => ⟨S1x16x4x128x64, .f32⟩
  | .hbm, ⟨75, _⟩ => ⟨S1x16x4x128x64, .f32⟩
  | .hbm, ⟨76, _⟩ => ⟨S1x16x4x128x64, .f32⟩
  | .hbm, ⟨77, _⟩ => ⟨S4x16x4x128x64, .f32⟩
  | .hbm, ⟨78, _⟩ => ⟨S1x4x16x4x128x64, .f32⟩
  | .hbm, ⟨79, _⟩ => ⟨S1x4x16x4x128x64, .f32⟩
  | .hbm, ⟨80, _⟩ => ⟨S2x4x16x4x128x64, .f32⟩
  | .hbm, ⟨81, _⟩ => ⟨S16x4x2x64x4x128, .f32⟩
  | .hbm, ⟨82, _⟩ => ⟨S16x4x128x1x64, .f32⟩
  | .hbm, ⟨83, _⟩ => ⟨S16x4x128x1x64, .f32⟩
  | .hbm, ⟨84, _⟩ => ⟨S16x4x128x2x64, .f32⟩
  | .hbm, ⟨85, _⟩ => ⟨S16x4x128x512, .f32⟩
  | .hbm, ⟨86, _⟩ => ⟨S16x4x128x512, .bf16⟩
  | .hbm, ⟨87, _⟩ => ⟨S16x4x128x128, .f32⟩
  | _, _ => ⟨S80x4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩

abbrev nD : Nat := 1
abbrev τ : Topo := Topo.v7x

variable {F : FTy → Type} [FloatOps F]
-- ==== GlaIn.lean ====
abbrev S20480x1024 : Shape := ⟨2, ![20480, 1024]⟩
abbrev S1024x6688 : Shape := ⟨2, ![1024, 6688]⟩
abbrev S16x256 : Shape := ⟨2, ![16, 256]⟩
abbrev S256 : Shape := ⟨1, ![256]⟩
abbrev S1024x256 : Shape := ⟨2, ![1024, 256]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S16x4x64 : Shape := ⟨3, ![16, 4, 64]⟩
abbrev S16x4x1x64 : Shape := ⟨4, ![16, 4, 1, 64]⟩
abbrev S16x4x2x64 : Shape := ⟨4, ![16, 4, 2, 64]⟩
abbrev S16x512 : Shape := ⟨2, ![16, 512]⟩
abbrev S96x512 : Shape := ⟨2, ![96, 512]⟩
abbrev S128x512 : Shape := ⟨2, ![128, 512]⟩
abbrev S4x64 : Shape := ⟨2, ![4, 64]⟩
abbrev S4x1x64 : Shape := ⟨3, ![4, 1, 64]⟩
abbrev S4x2x64 : Shape := ⟨3, ![4, 2, 64]⟩
abbrev S1x512 : Shape := ⟨2, ![1, 512]⟩
abbrev S20480x512 : Shape := ⟨2, ![20480, 512]⟩
abbrev S80x4x128x512 : Shape := ⟨4, ![80, 4, 128, 512]⟩
abbrev S80x4x1x512 : Shape := ⟨4, ![80, 4, 1, 512]⟩
abbrev S4x4x128x512 : Shape := ⟨4, ![4, 4, 128, 512]⟩
abbrev S4x4x1x512 : Shape := ⟨4, ![4, 4, 1, 512]⟩
abbrev S256x256 : Shape := ⟨2, ![256, 256]⟩
abbrev S256x512 : Shape := ⟨2, ![256, 512]⟩
abbrev S256x128 : Shape := ⟨2, ![256, 128]⟩
abbrev S64x512 : Shape := ⟨2, ![64, 512]⟩
abbrev S1x1x128x512 : Shape := ⟨4, ![1, 1, 128, 512]⟩
abbrev S1x128 : Shape := ⟨2, ![1, 128]⟩
abbrev S1x1x1x512 : Shape := ⟨4, ![1, 1, 1, 512]⟩

abbrev nBuf : Space → Nat
  | .hbm => 53
  | .vmem => 22
  | .smem => 0
  | _ => 0

abbrev bufTy : (tb : Table) → Fin (tcTables nBuf tb) → BufTy
  | .hbm, ⟨0, _⟩ => ⟨S20480x1024, .bf16⟩
  | .hbm, ⟨1, _⟩ => ⟨S1024x6688, .f32⟩
  | .hbm, ⟨2, _⟩ => ⟨S16x256, .f32⟩
  | .hbm, ⟨3, _⟩ => ⟨S256, .f32⟩
  | .hbm, ⟨4, _⟩ => ⟨S16x256, .f32⟩
  | .hbm, ⟨5, _⟩ => ⟨S256, .f32⟩
  | .hbm, ⟨6, _⟩ => ⟨S1024x256, .f32⟩
  | .hbm, ⟨7, _⟩ => ⟨S1024x4x1x64, .f32⟩
  | .hbm, ⟨8, _⟩ => ⟨S1024x4x2x64, .f32⟩
  | .hbm, ⟨9, _⟩ => ⟨S1024x512, .f32⟩
  | .hbm, ⟨10, _⟩ => ⟨S1024x256, .f32⟩
  | .hbm, ⟨11, _⟩ => ⟨S1024x4x1x64, .f32⟩
  | .hbm, ⟨12, _⟩ => ⟨S1024x4x2x64, .f32⟩
  | .hbm, ⟨13, _⟩ => ⟨S1024x512, .f32⟩
  | .hbm, ⟨14, _⟩ => ⟨S1024x1024, .f32⟩
  | .hbm, ⟨15, _⟩ => ⟨S1024x1024, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x16, .f32⟩
  | .hbm, ⟨21, _⟩ => ⟨S1024x16, .f32⟩
  | .hbm, ⟨22, _⟩ => ⟨S_, .f32⟩
  | .hbm, ⟨23, _⟩ => ⟨S1024x96, .f32⟩
  | .hbm, ⟨24, _⟩ => ⟨S1024x128, .f32⟩
  | .hbm, ⟨25, _⟩ => ⟨S1024x128, .bf16⟩
  | .hbm, ⟨26, _⟩ => ⟨S_, .f32⟩
  | .hbm, ⟨27, _⟩ => ⟨S16x4x64, .f32⟩
  | .hbm, ⟨28, _⟩ => ⟨S16x4x64, .f32⟩
  | .hbm, ⟨29, _⟩ => ⟨S16x4x1x64, .f32⟩
  | .hbm, ⟨30, _⟩ => ⟨S16x4x1x64, .f32⟩
  | .hbm, ⟨31, _⟩ => ⟨S16x4x2x64, .f32⟩
  | .hbm, ⟨32, _⟩ => ⟨S16x512, .f32⟩
  | .hbm, ⟨33, _⟩ => ⟨S16x4x64, .f32⟩
  | .hbm, ⟨34, _⟩ => ⟨S16x4x1x64, .f32⟩
  | .hbm, ⟨35, _⟩ => ⟨S16x4x1x64, .f32⟩
  | .hbm, ⟨36, _⟩ => ⟨S16x4x2x64, .f32⟩
  | .hbm, ⟨37, _⟩ => ⟨S16x512, .f32⟩
  | .hbm, ⟨38, _⟩ => ⟨S_, .f32⟩
  | .hbm, ⟨39, _⟩ => ⟨S96x512, .f32⟩
  | .hbm, ⟨40, _⟩ => ⟨S128x512, .f32⟩
  | .hbm, ⟨41, _⟩ => ⟨S128x512, .bf16⟩
  | .hbm, ⟨42, _⟩ => ⟨S4x64, .f32⟩
  | .hbm, ⟨43, _⟩ => ⟨S4x64, .f32⟩
  | .hbm, ⟨44, _⟩ => ⟨S4x1x64, .f32⟩
  | .hbm, ⟨45, _⟩ => ⟨S4x1x64, .f32⟩
  | .hbm, ⟨46, _⟩ => ⟨S4x2x64, .f32⟩
  | .hbm, ⟨47, _⟩ => ⟨S1x512, .f32⟩
  | .hbm, ⟨48, _⟩ => ⟨S20480x512, .bf16⟩
  | .hbm, ⟨49, _⟩ => ⟨S20480x512, .bf16⟩
  | .hbm, ⟨50, _⟩ => ⟨S20480x512, .f32⟩
  | .hbm, ⟨51, _⟩ => ⟨S80x4x128x512, .f32⟩
  | .hbm, ⟨52, _⟩ => ⟨S80x4x1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S4x4x128x512, .f32⟩
  | .local _ .vmem, ⟨15, _⟩ => ⟨S4x4x128x512, .f32⟩
  | .local _ .vmem, ⟨16, _⟩ => ⟨S4x4x1x512, .f32⟩
  | .local _ .vmem, ⟨17, _⟩ => ⟨S4x4x1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_v39_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c4_i32 : BitVec 32 := 4#32
  let v75 : BitVec 32 := Scalar.addi c0_i32 c4_i32
  let c1_i32 : BitVec 32 := 1#32
  ⟨c0_i32, v75, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  v76
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  let v77 : BitVec 32 := v76
  let v78 : Index := Scalar.indexCast v77
  let c0_37 : Index := 0#32
  ![v78.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  let v77 : BitVec 32 := v76
  let v145 : Index := Scalar.indexCast v77
  let c0_52 : Index := 0#32
  ![v145.toNat, 0]
def k0_off3 (k0_t1 : Fin k0_t1_loop.trips) : Fin 4 → Nat :=
  let c0_i32 : BitVec 32 := 0#32
  let c1_i32 : BitVec 32 := 1#32
  let arg17 : BitVec 32 := Scf.iv c0_i32 c1_i32 k0_t1
  let v167 : Index := Scalar.indexCast arg17
  let c0_60 : Index := 0#32
  let c0_61 : Index := 0#32
  let c0_62 : Index := 0#32
  ![v167.toNat, 0, 0, 0]
def k0_off4 (k0_t1 : Fin k0_t1_loop.trips) : Fin 4 → Nat :=
  let c0_i32 : BitVec 32 := 0#32
  let c1_i32 : BitVec 32 := 1#32
  let arg17 : BitVec 32 := Scf.iv c0_i32 c1_i32 k0_t1
  let v180 : Index := Scalar.indexCast arg17
  let c0_63 : Index := 0#32
  let c0_64 : Index := 0#32
  let c0_65 : Index := 0#32
  ![v180.toNat, 0, 0, 0]
def k0_off5 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  let v77 : BitVec 32 := v76
  let v198 : Index := Scalar.indexCast v77
  let c128 : Index := 128#32
  ![v198.toNat, 128]
def k0_off6 (k0_t1 : Fin k0_t1_loop.trips) : Fin 4 → Nat :=
  let c0_i32 : BitVec 32 := 0#32
  let c1_i32 : BitVec 32 := 1#32
  let arg17 : BitVec 32 := Scf.iv c0_i32 c1_i32 k0_t1
  let v220 : Index := Scalar.indexCast arg17
  let c1 : Index := 1#32
  let c0_80 : Index := 0#32
  let c0_81 : Index := 0#32
  ![v220.toNat, 1, 0, 0]
def k0_off7 (k0_t1 : Fin k0_t1_loop.trips) : Fin 4 → Nat :=
  let c0_i32 : BitVec 32 := 0#32
  let c1_i32 : BitVec 32 := 1#32
  let arg17 : BitVec 32 := Scf.iv c0_i32 c1_i32 k0_t1
  let v233 : Index := Scalar.indexCast arg17
  let c1_82 : Index := 1#32
  let c0_83 : Index := 0#32
  let c0_84 : Index := 0#32
  ![v233.toNat, 1, 0, 0]
def k0_off8 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  let v77 : BitVec 32 := v76
  let v251 : Index := Scalar.indexCast v77
  let c256 : Index := 256#32
  ![v251.toNat, 256]
def k0_off9 (k0_t1 : Fin k0_t1_loop.trips) : Fin 4 → Nat :=
  let c0_i32 : BitVec 32 := 0#32
  let c1_i32 : BitVec 32 := 1#32
  let arg17 : BitVec 32 := Scf.iv c0_i32 c1_i32 k0_t1
  let v273 : Index := Scalar.indexCast arg17
  let c2 : Index := 2#32
  let c0_99 : Index := 0#32
  let c0_100 : Index := 0#32
  ![v273.toNat, 2, 0, 0]
def k0_off10 (k0_t1 : Fin k0_t1_loop.trips) : Fin 4 → Nat :=
  let c0_i32 : BitVec 32 := 0#32
  let c1_i32 : BitVec 32 := 1#32
  let arg17 : BitVec 32 := Scf.iv c0_i32 c1_i32 k0_t1
  let v286 : Index := Scalar.indexCast arg17
  let c2_101 : Index := 2#32
  let c0_102 : Index := 0#32
  let c0_103 : Index := 0#32
  ![v286.toNat, 2, 0, 0]
def k0_off11 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v76 : BitVec 32 := Scalar.muli arg17 c256_i32
  let v77 : BitVec 32 := v76
  let v304 : Index := Scalar.indexCast v77
  let c384 : Index := 384#32
  ![v304.toNat, 384]
def k0_off12 (k0_t1 : Fin k0_t1_loop.trips) : Fin 4 → Nat :=
  let c0_i32 : BitVec 32 := 0#32
  let c1_i32 : BitVec 32 := 1#32
  let arg17 : BitVec 32 := Scf.iv c0_i32 c1_i32 k0_t1
  let v326 : Index := Scalar.indexCast arg17
  let c3 : Index := 3#32
  let c0_118 : Index := 0#32
  let c0_119 : Index := 0#32
  ![v326.toNat, 3, 0, 0]
def k0_off13 (k0_t1 : Fin k0_t1_loop.trips) : Fin 4 → Nat :=
  let c0_i32 : BitVec 32 := 0#32
  let c1_i32 : BitVec 32 := 1#32
  let arg17 : BitVec 32 := Scf.iv c0_i32 c1_i32 k0_t1
  let v339 : Index := Scalar.indexCast arg17
  let c3_120 : Index := 3#32
  let c0_121 : Index := 0#32
  let c0_122 : Index := 0#32
  ![v339.toNat, 3, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefGlaInIdeal.lean ====
abbrev S20480x1024 : Shape := ⟨2, ![20480, 1024]⟩
abbrev S1024x6688 : Shape := ⟨2, ![1024, 6688]⟩
abbrev S16x256 : Shape := ⟨2, ![16, 256]⟩
abbrev S256 : Shape := ⟨1, ![256]⟩
abbrev S1024x512 : Shape := ⟨2, ![1024, 512]⟩
abbrev S20480x512 : Shape := ⟨2, ![20480, 512]⟩

abbrev nBuf : Space → Nat
  | .hbm => 10
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1024x6688, .f32⟩
  | .hbm, ⟨2, _⟩ => ⟨S16x256, .f32⟩
  | .hbm, ⟨3, _⟩ => ⟨S256, .f32⟩
  | .hbm, ⟨4, _⟩ => ⟨S16x256, .f32⟩
  | .hbm, ⟨5, _⟩ => ⟨S256, .f32⟩
  | .hbm, ⟨6, _⟩ => ⟨S20480x1024, .f32⟩
  | .hbm, ⟨7, _⟩ => ⟨S1024x512, .f32⟩
  | .hbm, ⟨8, _⟩ => ⟨S20480x512, .f32⟩
  | .hbm, ⟨9, _⟩ => ⟨S20480x512, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Ada.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Prenorm.lean ====
abbrev S20480x1024 : Shape := ⟨2, ![20480, 1024]⟩
abbrev S8x6x1024 : Shape := ⟨3, ![8, 6, 1024]⟩
abbrev S1024 : Shape := ⟨1, ![1024]⟩
abbrev S1x1024 : Shape := ⟨2, ![1, 1024]⟩
abbrev S1024x1024 : Shape := ⟨2, ![1024, 1024]⟩
abbrev S1x6x1024 : Shape := ⟨3, ![1, 6, 1024]⟩
abbrev S6x1024 : Shape := ⟨2, ![6, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024, .f32⟩
  | .hbm, ⟨3, _⟩ => ⟨S1x1024, .f32⟩
  | .hbm, ⟨4, _⟩ => ⟨S20480x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefPrenormIdeal.lean ====
abbrev S20480x1024 : Shape := ⟨2, ![20480, 1024]⟩
abbrev S8x6x1024 : Shape := ⟨3, ![8, 6, 1024]⟩
abbrev S1024 : Shape := ⟨1, ![1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩
abbrev S5x4096x1024 : Shape := ⟨3, ![5, 4096, 1024]⟩
abbrev S5x1x1024 : Shape := ⟨3, ![5, 1, 1024]⟩
abbrev S5x1024 : Shape := ⟨2, ![5, 1024]⟩

abbrev nBuf : Space → Nat
  | .hbm => 35
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024, .f32⟩
  | .hbm, ⟨3, _⟩ => ⟨S20480x1024, .f32⟩
  | .hbm, ⟨4, _⟩ => ⟨S_, .f32⟩
  | .hbm, ⟨5, _⟩ => ⟨S20480, .f32⟩
  | .hbm, ⟨6, _⟩ => ⟨S20480x1, .f32⟩
  | .hbm, ⟨7, _⟩ => ⟨S_, .f32⟩
  | .hbm, ⟨8, _⟩ => ⟨S20480x1, .f32⟩
  | .hbm, ⟨9, _⟩ => ⟨S20480x1, .f32⟩
  | .hbm, ⟨10, _⟩ => ⟨S_, .f32⟩
  | .hbm, ⟨11, _⟩ => ⟨S20480x1, .f32⟩
  | .hbm, ⟨12, _⟩ => ⟨S20480x1, .f32⟩
  | .hbm, ⟨13, _⟩ => ⟨S20480x1, .f32⟩
  | .hbm, ⟨14, _⟩ => ⟨S20480x1024, .f32⟩
  | .hbm, ⟨15, _⟩ => ⟨S20480x1024, .f32⟩
  | .hbm, ⟨16, _⟩ => ⟨S1x1024, .f32⟩
  | .hbm, ⟨17, _⟩ => ⟨S20480x1024, .f32⟩
  | .hbm, ⟨18, _⟩ => ⟨S20480x1024, .f32⟩
  | .hbm, ⟨19, _⟩ => ⟨S5x4096x1024, .f32⟩
  | .hbm, ⟨20, _⟩ => ⟨S5x1x1024, .f32⟩
  | .hbm, ⟨21, _⟩ => ⟨S5x1024, .f32⟩
  | .hbm, ⟨22, _⟩ => ⟨S5x1x1024, .f32⟩
  | .hbm, ⟨23, _⟩ => ⟨S_, .f32⟩
  | .hbm, ⟨24, _⟩ => ⟨S5x1x1024, .f32⟩
  | .hbm, ⟨25, _⟩ => ⟨S5x1x1024, .f32⟩
  | .hbm, ⟨26, _⟩ => ⟨S5x4096x1024, .f32⟩
  | .hbm, ⟨27, _⟩ => ⟨S5x4096x1024, .f32⟩
  | .hbm, ⟨28, _⟩ => ⟨S5x1x1024, .f32⟩
  | .hbm, ⟨29, _⟩ => ⟨S5x1024, .f32⟩
  | .hbm, ⟨30, _⟩ => ⟨S5x1x1024, .f32⟩
  | .hbm, ⟨31, _⟩ => ⟨S5x4096x1024, .f32⟩
  | .hbm, ⟨32, _⟩ => ⟨S5x4096x1024, .f32⟩
  | .hbm, ⟨33, _⟩ => ⟨S20480x1024, .f32⟩
  | .hbm, ⟨34, _⟩ => ⟨S20480x1024, .bf16⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== DftCtx.lean ====
abbrev S2x20480x512 : Shape := ⟨3, ![2, 20480, 512]⟩
abbrev S256x256 : Shape := ⟨2, ![256, 256]⟩
abbrev S4096x512 : Shape := ⟨2, ![4096, 512]⟩
abbrev S2x256x512 : Shape := ⟨3, ![2, 256, 512]⟩
abbrev S256x512 : Shape := ⟨2, ![256, 512]⟩
abbrev S1x256x512 : Shape := ⟨3, ![1, 256, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x20480x512, .bf16⟩
  | .hbm, ⟨1, _⟩ => ⟨S256x256, .bf16⟩
  | .hbm, ⟨2, _⟩ => ⟨S256x256, .bf16⟩
  | .hbm, ⟨3, _⟩ => ⟨S4096x512, .bf16⟩
  | .local _ .vmem, ⟨0, _⟩ => ⟨S2x256x512, .bf16⟩
  | .local _ .vmem, ⟨1, _⟩ => ⟨S2x256x512, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | _, _ => ⟨S2x20480x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefDftCtxIdeal.lean ====
abbrev S2x20480x512 : Shape := ⟨3, ![2, 20480, 512]⟩
abbrev S256x256 : Shape := ⟨2, ![256, 256]⟩
abbrev S2x4096x512 : Shape := ⟨3, ![2, 4096, 512]⟩
abbrev S2x16x256x512 : Shape := ⟨4, ![2, 16, 256, 512]⟩
abbrev S1x16x256x512 : Shape := ⟨4, ![1, 16, 256, 512]⟩
abbrev S16x256x512 : Shape := ⟨3, ![16, 256, 512]⟩
abbrev S16x512x256 : Shape := ⟨3, ![16, 512, 256]⟩
abbrev S4096x512 : Shape := ⟨2, ![4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S2x20480x512, .bf16⟩
  | .hbm, ⟨1, _⟩ => ⟨S256x256, .bf16⟩
  | .hbm, ⟨2, _⟩ => ⟨S256x256, .bf16⟩
  | .hbm, ⟨3, _⟩ => ⟨S2x4096x512, .bf16⟩
  | .hbm, ⟨4, _⟩ => ⟨S2x16x256x512, .bf16⟩
  | .hbm, ⟨5, _⟩ => ⟨S2x16x256x512, .f32⟩
  | .hbm, ⟨6, _⟩ => ⟨S1x16x256x512, .f32⟩
  | .hbm, ⟨7, _⟩ => ⟨S16x256x512, .f32⟩
  | .hbm, ⟨8, _⟩ => ⟨S256x256, .f32⟩
  | .hbm, ⟨9, _⟩ => ⟨S16x512x256, .f32⟩
  | .hbm, ⟨10, _⟩ => ⟨S16x256x512, .f32⟩
  | .hbm, ⟨11, _⟩ => ⟨S1x16x256x512, .f32⟩
  | .hbm, ⟨12, _⟩ => ⟨S16x256x512, .f32⟩
  | .hbm, ⟨13, _⟩ => ⟨S256x256, .f32⟩
  | .hbm, ⟨14, _⟩ => ⟨S16x512x256, .f32⟩
  | .hbm, ⟨15, _⟩ => ⟨S16x256x512, .f32⟩
  | .hbm, ⟨16, _⟩ => ⟨S16x256x512, .f32⟩
  | .hbm, ⟨17, _⟩ => ⟨S4096x512, .f32⟩
  | .hbm, ⟨18, _⟩ => ⟨S4096x512, .bf16⟩
  | _, _ => ⟨S2x20480x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Ffn.Ref.lean ====
/- The feed-forward reference read at an index: the SwiGLU product of a token and one output lane, the residual, the norm. -/
module

public import proofs.«01_k».proof.Proof.Gen.RefFfnIdeal.Run
public import proofs.«01_k».proof.Proof.Gen.RefFfnIdeal.Read
public import Idealize.ShloMosaic.Lib.Pipeline.ValueKit

@[expose] public section

set_option maxRecDepth 16384

noncomputable section

open Idealize.ShloMosaic Idealize.ShloMosaic.TcCoe Idealize.SL.Sem

namespace Cert.Proof.Ffn
open Cert.RefFfnIdeal Cert.RefFfnIdeal.Gen Cert.RefFfnIdeal.Value Cert.RefFfnIdeal.Read

variable (x0 : FVec Ideal S20480x1024 .bf16) (x1 : FVec Ideal S20480x1024 .f32) (x2 : FVec Ideal S1024x5632 .f32) (x3 : FVec Ideal S2816x1024 .f32)
variable (x4 x5 : FVec Ideal S8x6x1024 .f32) (x6 : FVec Ideal S1024 .f32)

/-- `gate * sigmoid gate * up` at token `r` and hidden lane `k`: the gate is column `k` of the first product, `up` column `2816 + k`. -/
def act (r : Fin 20480) (k : Fin 2816) : EReal :=
  (∑ x : Fin 1024, x0 (ix2 r x) * x2 (ix2 x ⟨k.val, by omega⟩)) *
    Ideal.div 1 (1 + Ideal.exp (-(∑ x : Fin 1024, x0 (ix2 r x) * x2 (ix2 x ⟨k.val, by omega⟩)))) *
    ∑ x : Fin 1024, x0 (ix2 r x) * x2 (ix2 x ⟨2816 + k.val, by omega⟩)

/-- The residual stream after the block: `x + gate_row * (act @ w_down)`. -/
def resid (r : Fin 20480) (q : Fin 1024) : EReal :=
  x1 (ix2 r q) + x4 (ix3 ⟨r.val / 4096, by omega⟩ 5 q) * ∑ k : Fin 2816, act x0 x2 r k * x3 (ix2 k q)

/-- The root-mean-square norm of a row of the residual stream, scaled by `x6`. -/
def normed (r : Fin 20480) (q : Fin 1024) : EReal :=
  resid x0 x1 x2 x3 x4 r q *
    Ideal.rsqrt (Ideal.div (∑ x : Fin 1024, resid x0 x1 x2 x3 x4 r x * resid x0 x1 x2 x3 x4 r x) (Ideal.ofBits FTy.f32 1149239296#32)
      + Ideal.ofBits FTy.f32 897988541#32) * x6 (ix1 q)

/-- The modulated norm: shift row 0, scale row 1 of the next layer's table. -/
def modNormed (r : Fin 20480) (q : Fin 1024) : EReal :=
  normed x0 x1 x2 x3 x4 x6 r q * (1 + x5 (ix3 ⟨r.val / 4096, by omega⟩ 1 q)) + x5 (ix3 ⟨r.val / 4096, by omega⟩ 0 q)

theorem v14_apply (r : Fin 20480) (q : Fin 1024) :
    val_main_v14 (F := Ideal) x0 x1 x2 x3 x4 (ix3 ⟨r.val / 4096, by omega⟩ ⟨r.val % 4096, by omega⟩ q) = resid x0 x1 x2 x3 x4 r q := by
  unfold resid act
  pointwise [val_main_v14, val_main_v13, val_main_v12, val_main_v11, val_main_v10, val_main_v9, val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]

theorem ref_x (r : Fin 20480) (q : Fin 1024) : val_main_v40 (F := Ideal) x0 x1 x2 x3 x4 (ix2 r q) = resid x0 x1 x2 x3 x4 r q := by
  refine Eq.trans ?_ (v14_apply x0 x1 x2 x3 x4 r q)
  generalize hx : val_main_v14 (F := Ideal) x0 x1 x2 x3 x4 = X
  pointwise [val_main_v40, hx]

theorem ref_h (r : Fin 20480) (q : Fin 1024) : val_main_v42 (F := Ideal) x0 x1 x2 x3 x4 x5 x6 (ix2 r q) = modNormed x0 x1 x2 x3 x4 x5 x6 r q := by
  unfold modNormed normed
  have e := v14_apply x0 x1 x2 x3 x4 r
  simp only [← e]
  generalize hx : val_main_v14 (F := Ideal) x0 x1 x2 x3 x4 = X
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, hx,
   val_main_cst, val_main_cst_0, val_main_cst_1, val_main_cst_2]

end Cert.Proof.Ffn
end
-- ==== Proof.Ffn.Sweep.lean ====
/- The feed-forward kernel's grid: a run of eleven points sums eleven slices of the hidden lanes into its accumulator; the last
   point adds the residual and normalises. -/
module

public import proofs.«01_k».proof.Proof.Gen.FfnIdeal.Frame
public import proofs.«01_k».proof.Proof.Ffn.Ref
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Sweep
open Cert.FfnIdeal Cert.FfnIdeal.Gen
variable (m : (ℓ : Loc nD τ sig) → Buf (Elt Ideal) ℓ)

/-- One slice of 256 hidden lanes, contracted with its rows of the down projection. -/
def part (x0 : FVec Ideal S1024x1024 .bf16) (x2 x3 : FVec Ideal S1024x256 .bf16) (x4 : FVec Ideal S256x1024 .bf16) (j : S1024x1024.Idx) : EReal :=
  ∑ k : Fin 256, ((∑ x : Fin 1024, x0 (ix2 (j 0) x) * x2 (ix2 x k)) *
      Ideal.div 1 (1 + Ideal.exp (-(∑ x : Fin 1024, x0 (ix2 (j 0) x) * x2 (ix2 x k)))) *
      ∑ x : Fin 1024, x0 (ix2 (j 0) x) * x3 (ix2 x k)) * x4 (ix2 k (j 1))

theorem pay1_apply (x0 : FVec Ideal S1024x1024 .bf16) (x2 x3 : FVec Ideal S1024x256 .bf16) (x4 : FVec Ideal S256x1024 .bf16) (j) :
    k0_pay1 (F := Ideal) x0 x2 x3 x4 j = part x0 x2 x3 x4 j := by
  unfold part
  pointwise [k0_pay1]
  simp only [zero_sub]

theorem pay2_apply (x0 : FVec Ideal S1024x1024 .bf16) (x2 x3 : FVec Ideal S1024x256 .bf16) (x4 : FVec Ideal S256x1024 .bf16) (j) :
    k0_pay2 (F := Ideal) x0 x2 x3 x4 j = part x0 x2 x3 x4 j := by
  rw [← pay1_apply]
  pointwise [k0_pay2]

theorem pay3_apply (x0 : FVec Ideal S1024x1024 .bf16) (x2 x3 : FVec Ideal S1024x256 .bf16) (x4 : FVec Ideal S256x1024 .bf16) (acc : FVec Ideal S1024x1024 .f32) (j) :
    k0_pay3 (F := Ideal) x0 x2 x3 x4 acc j = acc j + part x0 x2 x3 x4 j := by
  rw [← pay1_apply]
  pointwise [k0_pay3]

theorem idx : ∀ t : Fin cfg0.N, win0_0.index t = ![t.val / 11, 0] ∧ win0_1.index t = ![t.val / 11, 0] ∧ win0_2.index t = ![0, t.val % 11]
    ∧ win0_3.index t = ![0, t.val % 11 + 11] ∧ win0_4.index t = ![t.val % 11, 0] ∧ win0_5.index t = ![t.val / 11 / 4, 0, 0]
    ∧ win0_6.index t = ![t.val / 11 / 4, 0, 0] ∧ win0_7.index t = ![0, 0] ∧ win0_8.index t = ![t.val / 11, 0] ∧ win0_9.index t = ![t.val / 11, 0]
    ∧ t.val / 11 < 20 :=
  (by decide +kernel : ∀ t : Fin grid0.N, _)

/-- The accumulator after point `t` is what it held before (nothing, at a run's first point) plus the point's slice. -/
theorem acc_first (c : Dev nD) (t : Fin cfg0.N) (h : t.val % 11 = 0) (j) :
    (outsAt0 m c t.val t.isLt).2.2 j = 0 + part (iblk m c 0 t) (iblk m c 2 t) (iblk m c 3 t) (iblk m c 4 t) j := by
  rw [outsAt0_A m c t h (by omega) (by omega)]
  frame_out
  rw [pay2_apply, zero_add]

theorem acc_step (c : Dev nD) (t : Fin cfg0.N) (h : ¬t.val % 11 = 0) (j) :
    (outsAt0 m c t.val t.isLt).2.2 j = (outsAt0 m c (t.val - 1) (Nat.lt_of_le_of_lt (Nat.sub_le _ _) t.isLt)).2.2 j
      + part (iblk m c 0 t) (iblk m c 2 t) (iblk m c 3 t) (iblk m c 4 t) j := by
  by_cases h2 : t.val % 11 = 10
  · rw [outsAt0_C m c t h (by omega) h2]
    frame_out
    simp only [read_unread_whole]
    rw [pay3_apply]
  · rw [outsAt0_B m c t h (by omega) h2]
    frame_out
    simp only [read_unread_whole]
    rw [pay3_apply]

/-- The accumulator at a run's last point: the whole contraction over the 2816 hidden lanes. -/
theorem acc_last (c : Dev nD) (t : Fin cfg0.N) (h : t.val % 11 = 10) (j) (r : Fin 20480) (hr : r.val = t.val / 11 * 1024 + (j 0).val) :
    (outsAt0 m c t.val t.isLt).2.2 j = ∑ k : Fin 2816,
      Cert.Proof.Ffn.act (m ((c : Thread nD τ).loc main_arg0)) (m ((c : Thread nD τ).loc main_arg2)) r k
        * (show FVec Ideal S2816x1024 .f32 from m ((c : Thread nD τ).loc main_arg3)) (ix2 k (j 1)) := by
  rw [Pipeline.eq_sum_fin_of_reset_step_apply_of_flush (fun n h => (outsAt0 m c n h).2.2) 11 (fun _ => 0)
    (fun p j => part (iblk m c 0 p) (iblk m c 2 p) (iblk m c 3 p) (iblk m c 4 p) j) (fun t h j => acc_first m c t h j)
    (fun t h j => acc_step m c t h j) t h j, zero_add]
  unfold part
  refine Fin.sum_mul_add_congr fun s k hl => ?_
  unfold Cert.Proof.Ffn.act
  blk_point [iblk, V, idx ⟨_, Pipeline.run_point_lt_of_flush t h s⟩]

/-- The residual stream a run's last point writes, read from its blocks and the accumulator it has just completed. -/
theorem out_x (c : Dev nD) (t : Fin cfg0.N) (h : t.val % 11 = 10) (y : S1024x1024.Idx) (r : Fin 20480) (hr : r.val = t.val / 11 * 1024 + (y 0).val) :
    (outsAt0 m c t.val t.isLt).1 y = Cert.Proof.Ffn.resid (m ((c : Thread nD τ).loc main_arg0)) (m ((c : Thread nD τ).loc main_arg1))
      (m ((c : Thread nD τ).loc main_arg2)) (m ((c : Thread nD τ).loc main_arg3)) (m ((c : Thread nD τ).loc main_arg4)) r (y 1) := by
  unfold Cert.Proof.Ffn.resid
  rw [← acc_last m c t h y r hr, acc_step m c t (by omega) y, outsAt0_C m c t (by omega) (by omega) h]
  frame_out
  simp only [read_unread_whole]
  pointwise [k0_pay4]
  rw [pay3_apply]
  generalize (outsAt0 m c (t.val - 1) _).2.2 y + _ = A
  blk_point [iblk, V, idx t]

theorem out_h (c : Dev nD) (t : Fin cfg0.N) (h : t.val % 11 = 10) (y : S1024x1024.Idx) (r : Fin 20480) (hr : r.val = t.val / 11 * 1024 + (y 0).val) :
    (outsAt0 m c t.val t.isLt).2.1 y = Cert.Proof.Ffn.modNormed (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) r (y 1) := by
  have hx := fun q : Fin 1024 => out_x m c t h (ix2 (y 0) q) r hr
  unfold Cert.Proof.Ffn.modNormed Cert.Proof.Ffn.normed
  rw [outsAt0_C m c t (by omega) (by omega) h] at hx ⊢
  revert hx
  frame_out
  generalize hX : k0_pay4 (F := Ideal) _ _ _ = X
  intro hx
  pointwise [k0_pay5, hX]
  have hx' : ∀ q : Fin 1024, X (ix2 (y 0) q) = Cert.Proof.Ffn.resid (m ((c : Thread nD τ).loc main_arg0)) (m ((c : Thread nD τ).loc main_arg1))
      (m ((c : Thread nD τ).loc main_arg2)) (m ((c : Thread nD τ).loc main_arg3)) (m ((c : Thread nD τ).loc main_arg4)) r q := hx
  have hy := (congrArg X (eq_ix2 y)).trans (hx' (y 1))
  rw [hy]
  simp only [hx']
  blk_point [iblk, V, idx t]

open Cert.RefFfnIdeal.Read in
/-- The residual stream the kernel ends with is the reference's. -/
theorem final_x (c : Dev nD) : (dats m 0 c).arrAt 8 (cfgs 0).N = val_main_v40 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h := (flush0_8 t).mp hf
  have hi := (idx t).2.2.2.2.2.2.2.2.2.2
  have hlt : t.val / 11 * 1024 + (y 0).val < 20480 := by have := (y 0).isLt; change _ < 1024 at this; omega
  have hb : (win0_8.blk t).view.emb y = ix2 (⟨t.val / 11 * 1024 + (y 0).val, hlt⟩ : Fin 20480) (y 1) := by
    blk_point [idx t]
  blk_simp
  rw [after0_8]
  refine (out_x m c t h y ⟨t.val / 11 * 1024 + (y 0).val, hlt⟩ rfl).trans ?_
  exact (Cert.Proof.Ffn.ref_x _ _ _ _ _ ⟨t.val / 11 * 1024 + (y 0).val, hlt⟩ (y 1)).symm.trans (congrArg _ hb.symm)

open Cert.RefFfnIdeal.Read in
/-- The modulated norm the kernel ends with is the reference's. -/
theorem final_h (c : Dev nD) : (dats m 0 c).arrAt 9 (cfgs 0).N = val_main_v42 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have h := (flush0_9 t).mp hf
  have hi := (idx t).2.2.2.2.2.2.2.2.2.2
  have hlt : t.val / 11 * 1024 + (y 0).val < 20480 := by have := (y 0).isLt; change _ < 1024 at this; omega
  have hb : (win0_9.blk t).view.emb y = ix2 (⟨t.val / 11 * 1024 + (y 0).val, hlt⟩ : Fin 20480) (y 1) := by
    blk_point [idx t]
  blk_simp
  rw [after0_9]
  refine (out_h m c t h y ⟨t.val / 11 * 1024 + (y 0).val, hlt⟩ rfl).trans ?_
  exact (Cert.Proof.Ffn.ref_h _ _ _ _ _ _ _ ⟨t.val / 11 * 1024 + (y 0).val, hlt⟩ (y 1)).symm.trans (congrArg _ hb.symm)

end Cert.FfnIdeal.Sweep
end
-- ==== Proof.FfnFinal.Ref.lean ====
/- The last layer's feed-forward reference read at an index: the residual stream of `Ffn/Ref.lean`, normed by the final gain. -/
module

public import proofs.«01_k».proof.Proof.Gen.RefFfnFinalIdeal.Run
public import proofs.«01_k».proof.Proof.Gen.RefFfnFinalIdeal.Read
public import proofs.«01_k».proof.Proof.Ffn.Ref

@[expose] public section

set_option maxRecDepth 16384

noncomputable section

open Idealize.ShloMosaic Idealize.ShloMosaic.TcCoe Idealize.SL.Sem

namespace Cert.Proof.FfnFinal
open Cert.RefFfnFinalIdeal Cert.RefFfnFinalIdeal.Gen Cert.RefFfnFinalIdeal.Value Cert.RefFfnFinalIdeal.Read

variable (x0 : FVec Ideal S20480x1024 .bf16) (x1 : FVec Ideal S20480x1024 .f32) (x2 : FVec Ideal S1024x5632 .f32) (x3 : FVec Ideal S2816x1024 .f32)
variable (x4 : FVec Ideal S8x6x1024 .f32) (x6 : FVec Ideal S1024 .f32)

theorem v14_apply (r : Fin 20480) (q : Fin 1024) :
    val_main_v14 (F := Ideal) x0 x1 x2 x3 x4 (ix3 ⟨r.val / 4096, by omega⟩ ⟨r.val % 4096, by omega⟩ q) = Ffn.resid x0 x1 x2 x3 x4 r q := by
  unfold Ffn.resid Ffn.act
  pointwise [val_main_v14, val_main_v13, val_main_v12, val_main_v11, val_main_v10, val_main_v9, val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]

theorem ref_y (r : Fin 20480) (q : Fin 1024) : val_main_v28 (F := Ideal) x0 x1 x2 x3 x4 x6 (ix2 r q) = Ffn.normed x0 x1 x2 x3 x4 x6 r q := by
  unfold Ffn.normed
  have e := v14_apply x0 x1 x2 x3 x4 r
  simp only [← e]
  generalize hx : val_main_v14 (F := Ideal) x0 x1 x2 x3 x4 = X
  pointwise [val_main_v28, val_main_v27, val_main_v26, val_main_v25, val_main_v24, val_main_v23, val_main_v22, val_main_v21, val_main_v20, val_main_v19, val_main_v18, val_main_v17, val_main_v16, val_main_v15, hx, val_main_cst, val_main_cst_0, val_main_cst_1]

end Cert.Proof.FfnFinal
end
-- ==== Proof.FfnFinal.Sweep.lean ====
/- The feed-forward kernel's grid: a run of eleven points sums eleven slices of the hidden lanes into its accumulator; the last
   point adds the residual and normalises. -/
module

public import proofs.«01_k».proof.Proof.Gen.FfnFinalIdeal.Frame
public import proofs.«01_k».proof.Proof.FfnFinal.Ref
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnFinalIdeal.Sweep
open Cert.FfnFinalIdeal Cert.FfnFinalIdeal.Gen
variable (m : (ℓ : Loc nD τ sig) → Buf (Elt Ideal) ℓ)

/-- One slice of 256 hidden lanes, contracted with its rows of the down projection. -/
def part (x0 : FVec Ideal S1024x1024 .bf16) (x2 x3 : FVec Ideal S1024x256 .bf16) (x4 : FVec Ideal S256x1024 .bf16) (j : S1024x1024.Idx) : EReal :=
  ∑ k : Fin 256, ((∑ x : Fin 1024, x0 (ix2 (j 0) x) * x2 (ix2 x k)) *
      Ideal.div 1 (1 + Ideal.exp (-(∑ x : Fin 1024, x0 (ix2 (j 0) x) * x2 (ix2 x k)))) *
      ∑ x : Fin 1024, x0 (ix2 (j 0) x) * x3 (ix2 x k)) * x4 (ix2 k (j 1))

theorem pay1_apply (x0 : FVec Ideal S1024x1024 .bf16) (x2 x3 : FVec Ideal S1024x256 .bf16) (x4 : FVec Ideal S256x1024 .bf16) (j) :
    k0_pay1 (F := Ideal) x0 x2 x3 x4 j = part x0 x2 x3 x4 j := by
  unfold part
  pointwise [k0_pay1]
  simp only [zero_sub]

theorem pay2_apply (x0 : FVec Ideal S1024x1024 .bf16) (x2 x3 : FVec Ideal S1024x256 .bf16) (x4 : FVec Ideal S256x1024 .bf16) (j) :
    k0_pay2 (F := Ideal) x0 x2 x3 x4 j = part x0 x2 x3 x4 j := by
  rw [← pay1_apply]
  pointwise [k0_pay2]

theorem pay3_apply (x0 : FVec Ideal S1024x1024 .bf16) (x2 x3 : FVec Ideal S1024x256 .bf16) (x4 : FVec Ideal S256x1024 .bf16) (acc : FVec Ideal S1024x1024 .f32) (j) :
    k0_pay3 (F := Ideal) x0 x2 x3 x4 acc j = acc j + part x0 x2 x3 x4 j := by
  rw [← pay1_apply]
  pointwise [k0_pay3]

theorem idx : ∀ t : Fin cfg0.N, win0_0.index t = ![t.val / 11, 0] ∧ win0_1.index t = ![t.val / 11, 0] ∧ win0_2.index t = ![0, t.val % 11]
    ∧ win0_3.index t = ![0, t.val % 11 + 11] ∧ win0_4.index t = ![t.val % 11, 0] ∧ win0_5.index t = ![t.val / 11 / 4, 0, 0]
    ∧ win0_6.index t = ![t.val / 11 / 4, 0, 0] ∧ win0_7.index t = ![0, 0] ∧ win0_8.index t = ![t.val / 11, 0]
    ∧ t.val / 11 < 20 :=
  (by decide +kernel : ∀ t : Fin grid0.N, _)

/-- The accumulator after point `t` is what it held before (nothing, at a run's first point) plus the point's slice. -/
theorem acc_first (c : Dev nD) (t : Fin cfg0.N) (h : t.val % 11 = 0) (j) :
    (outsAt0 m c t.val t.isLt).2 j = 0 + part (iblk m c 0 t) (iblk m c 2 t) (iblk m c 3 t) (iblk m c 4 t) j := by
  rw [outsAt0_A m c t h (by omega) (by omega)]
  frame_out
  rw [pay2_apply, zero_add]

theorem acc_step (c : Dev nD) (t : Fin cfg0.N) (h : ¬t.val % 11 = 0) (j) :
    (outsAt0 m c t.val t.isLt).2 j = (outsAt0 m c (t.val - 1) (Nat.lt_of_le_of_lt (Nat.sub_le _ _) t.isLt)).2 j
      + part (iblk m c 0 t) (iblk m c 2 t) (iblk m c 3 t) (iblk m c 4 t) j := by
  by_cases h2 : t.val % 11 = 10
  · rw [outsAt0_C m c t h (by omega) h2]
    frame_out
    simp only [read_unread_whole]
    rw [pay3_apply]
  · rw [outsAt0_B m c t h (by omega) h2]
    frame_out
    simp only [read_unread_whole]
    rw [pay3_apply]

/-- The accumulator at a run's last point: the whole contraction over the 2816 hidden lanes. -/
theorem acc_last (c : Dev nD) (t : Fin cfg0.N) (h : t.val % 11 = 10) (j) (r : Fin 20480) (hr : r.val = t.val / 11 * 1024 + (j 0).val) :
    (outsAt0 m c t.val t.isLt).2 j = ∑ k : Fin 2816,
      Cert.Proof.Ffn.act (m ((c : Thread nD τ).loc main_arg0)) (m ((c : Thread nD τ).loc main_arg2)) r k
        * (show FVec Ideal S2816x1024 .f32 from m ((c : Thread nD τ).loc main_arg3)) (ix2 k (j 1)) := by
  rw [Pipeline.eq_sum_fin_of_reset_step_apply_of_flush (fun n h => (outsAt0 m c n h).2) 11 (fun _ => 0)
    (fun p j => part (iblk m c 0 p) (iblk m c 2 p) (iblk m c 3 p) (iblk m c 4 p) j) (fun t h j => acc_first m c t h j)
    (fun t h j => acc_step m c t h j) t h j, zero_add]
  unfold part
  refine Fin.sum_mul_add_congr fun s k hl => ?_
  unfold Cert.Proof.Ffn.act
  blk_point [iblk, V, idx ⟨_, Pipeline.run_point_lt_of_flush t h s⟩]

/-- One entry of the residual stream from the point's blocks and the completed accumulator. -/
def resBlk (X : FVec Ideal S1024x1024 .f32) (M : FVec Ideal S1x1x1024 .f32) (A : FVec Ideal S1024x1024 .f32) (i : S1024x1024.Idx) : EReal :=
  X i + M (ix3 0 0 (i 1)) * A i

theorem pay4_apply (X : FVec Ideal S1024x1024 .f32) (M : FVec Ideal S1x1x1024 .f32) (A : FVec Ideal S1024x1024 .f32) (N : FVec Ideal S1x1024 .f32)
    (a b : Fin 1024) (f : Fin 1024 → EReal) (hf : ∀ q, resBlk X M A (ix2 a q) = f q) :
    k0_pay4 (F := Ideal) X M A N (ix2 a b)
      = f b * Ideal.rsqrt (Ideal.div (∑ x : Fin 1024, f x * f x) (Ideal.ofBits FTy.f32 1149239296#32) + Ideal.ofBits FTy.f32 897988541#32) * N (ix2 0 b) := by
  simp only [← hf, resBlk]
  pointwise [k0_pay4]

theorem out_y (c : Dev nD) (t : Fin cfg0.N) (h : t.val % 11 = 10) (y : S1024x1024.Idx) (r : Fin 20480) (hr : r.val = t.val / 11 * 1024 + (y 0).val) :
    (outsAt0 m c t.val t.isLt).1 y = Cert.Proof.Ffn.normed (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) r (y 1) := by
  unfold Cert.Proof.Ffn.normed
  have ha := fun q : Fin 1024 => (acc_step m c t (by omega) (ix2 (y 0) q)).symm.trans (acc_last m c t h (ix2 (y 0) q) r hr)
  rw [outsAt0_C m c t (by omega) (by omega) h]
  frame_out
  simp only [read_unread_whole]
  refine (congrArg _ (eq_ix2 y)).trans ((pay4_apply _ _ _ _ (y 0) (y 1)
    (Cert.Proof.Ffn.resid (m ((c : Thread nD τ).loc main_arg0)) (m ((c : Thread nD τ).loc main_arg1)) (m ((c : Thread nD τ).loc main_arg2)) (m ((c : Thread nD τ).loc main_arg3)) (m ((c : Thread nD τ).loc main_arg4)) r) fun q => ?_).trans ?_)
  · unfold resBlk
    rw [pay3_apply, ha q]
    unfold Cert.Proof.Ffn.resid
    blk_point [iblk, V, idx t]
  · blk_point [iblk, V, idx t]

open Cert.RefFfnFinalIdeal.Read in
/-- The last layer's output is the reference's. -/
theorem final_y (c : Dev nD) : (dats m 0 c).arrAt 8 (cfgs 0).N = val_main_v28 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 8 _ (by decide +kernel) fun t hf y => ?_
  have h := (flush0_8 t).mp hf
  have hi := (idx t).2.2.2.2.2.2.2.2.2
  have hlt : t.val / 11 * 1024 + (y 0).val < 20480 := by have := (y 0).isLt; change _ < 1024 at this; omega
  have hb : (win0_8.blk t).view.emb y = ix2 (⟨t.val / 11 * 1024 + (y 0).val, hlt⟩ : Fin 20480) (y 1) := by
    blk_point [idx t]
  blk_simp
  rw [after0_8]
  refine (out_y m c t h y ⟨t.val / 11 * 1024 + (y 0).val, hlt⟩ rfl).trans ?_
  exact (Cert.Proof.FfnFinal.ref_y _ _ _ _ _ _ ⟨t.val / 11 * 1024 + (y 0).val, hlt⟩ (y 1)).symm.trans (congrArg _ hb.symm)

end Cert.FfnFinalIdeal.Sweep
end
-- ==== Proof.MixIn.Ref.lean ====
/- The mix-in reference read at an index. -/
module

public import proofs.«01_k».proof.Proof.Gen.RefMixInIdeal.Run
public import proofs.«01_k».proof.Proof.Gen.RefMixInIdeal.Read
public import Idealize.ShloMosaic.Lib.Pipeline.ValueKit

@[expose] public section

set_option maxRecDepth 16384

noncomputable section

open Idealize.ShloMosaic Idealize.ShloMosaic.TcCoe Idealize.SL.Sem

namespace Cert.Proof.MixIn
open Cert.RefMixInIdeal Cert.RefMixInIdeal.Gen Cert.RefMixInIdeal.Value Cert.RefMixInIdeal.Read

variable (x0 : FVec Ideal S20480x1024 .bf16) (x1 : FVec Ideal S1024x6688 .f32) (x2 : FVec Ideal S3x512 .f32) (x3 : FVec Ideal S128x256 .bf16) (x4 : FVec Ideal S512x1024 .f32)

/-- One entry of the combined input projection. -/
def z (r : Fin 20480) (j : Fin 6688) : EReal := ∑ x : Fin 1024, x0 (ix2 r x) * x1 (ix2 x j)

/-- The logistic function. -/
def sig (v : EReal) : EReal := Ideal.div 1 (1 + Ideal.exp (-v))

/-- The convolution's input: its gate times its channels. -/
def u (r : Fin 20480) (q : Fin 512) : EReal := z x0 x1 r ⟨2080 + q.val, by omega⟩ * z x0 x1 r ⟨2592 + q.val, by omega⟩

/-- The length of the sequence a token lies in: 256 for context tokens, a grid row of 64 for latent tokens. -/
def period (r : Nat) : Nat := if r < 4096 then 256 else 64

/-- The width-3 convolution along the token's sequence, zero at its two ends. -/
def conv (r : Fin 20480) (q : Fin 512) : EReal :=
  x2 (ix2 0 q) * (if h : r.val % period r.val = 0 then 0 else u x0 x1 ⟨r.val - 1, by omega⟩ q) + x2 (ix2 1 q) * u x0 x1 r q
    + x2 (ix2 2 q) * (if h : r.val % period r.val = period r.val - 1 then 0 else u x0 x1 ⟨r.val + 1, by unfold period at h; split at h <;> omega⟩ q)

/-- One entry of a merge gate, `b` counting the branches. -/
def gate (b : Fin 3) (r : Fin 20480) (q : Fin 1024) : EReal := sig (z x0 x1 r ⟨3616 + (b.val * 1024 + q.val), by omega⟩)

/-- The convolution branch's output under its merge gate. -/
def yb (r : Fin 20480) (q : Fin 1024) : EReal :=
  gate x0 x1 1 r q * ∑ k : Fin 512, (z x0 x1 r ⟨1568 + k.val, by omega⟩ * conv x0 x1 x2 r k) * x4 (ix2 k q)

/-- The real (`p = 0`) or imaginary (`p = 1`) part of a channel group's transform, by the table. -/
def ab (p : Fin 2) (r : Fin 20480) (q : Fin 512) : EReal :=
  ∑ k : Fin 128, z x0 x1 r ⟨3104 + (q.val / 128 * 128 + k.val), by omega⟩ * x3 (ix2 k ⟨p.val * 128 + q.val % 128, by omega⟩)

theorem v1_apply (r : Fin 20480) (j : Fin 6688) : val_main_v1 (F := Ideal) x0 x1 (ix2 r j) = z x0 x1 r j := by
  unfold z
  pointwise [val_main_v1, val_main_v0]

theorem ref_g0 (r : Fin 20480) (q : Fin 1024) : val_main_v80 (F := Ideal) x0 x1 (ix2 r q) = gate x0 x1 0 r q := by
  unfold gate sig
  simp only [← v1_apply]
  generalize hx : val_main_v1 (F := Ideal) x0 x1 = X
  pointwise [val_main_v80, val_main_v79, val_main_v78, val_main_v73, val_main_v72, val_main_v71, val_main_v70, val_main_v69, val_main_v68, val_main_v67, val_main_v6, hx, val_main_cst, val_main_cst_1]

theorem ref_g2 (r : Fin 20480) (q : Fin 1024) : val_main_v83 (F := Ideal) x0 x1 (ix2 r q) = gate x0 x1 2 r q := by
  have e : 3616 + (2048 + q.val) = 5664 + q.val := by omega
  unfold gate sig
  simp only [← v1_apply]
  generalize hx : val_main_v1 (F := Ideal) x0 x1 = X
  pointwise [val_main_v83, val_main_v82, val_main_v81, val_main_v73, val_main_v72, val_main_v71, val_main_v70, val_main_v69, val_main_v68, val_main_v67, val_main_v6, hx, val_main_cst, val_main_cst_1]
  all_goals simp only [e]

theorem ref_ab (p : Fin 2) (r : Fin 20480) (q : Fin 512) : val_main_v77 (F := Ideal) x0 x1 x3 (ix3 p r q) = ab x0 x1 x3 p r q := by
  unfold ab
  simp only [← v1_apply]
  generalize hx : val_main_v1 (F := Ideal) x0 x1 = X
  obtain ⟨p, hp⟩ := p
  have h01 : p = 0 ∨ p = 1 := by omega
  obtain rfl | rfl := h01 <;>
  pointwise [val_main_v77, val_main_v76, val_main_v75, val_main_v74, val_main_v66, val_main_v65, val_main_v64, val_main_v63, val_main_v62, val_main_v61, val_main_v60, val_main_v59, val_main_v5, hx]

theorem sitofp_zero : (FloatOps.sitofp (F := Ideal) FTy.f32 0#32 : EReal) = 0 := by
  simp [FloatOps.sitofp]

theorem v7_apply (r : Fin 20480) (q : Fin 512) : val_main_v7 (F := Ideal) x0 x1 (ix2 r q) = u x0 x1 r q := by
  unfold u
  simp only [← v1_apply]
  generalize hx : val_main_v1 (F := Ideal) x0 x1 = X
  pointwise [val_main_v7, val_main_v4, val_main_v3, hx]

theorem v10_apply (n : Fin 16) (j : Fin 258) (q : Fin 512) : val_main_v10 (F := Ideal) x0 x1 (ix3 n j q) =
    if h : 1 ≤ j.val ∧ j.val ≤ 256 then u x0 x1 ⟨n.val * 256 + (j.val - 1), by omega⟩ q else 0 := by
  simp only [← v7_apply]
  generalize hx : val_main_v7 (F := Ideal) x0 x1 = X
  pointwise [val_main_v10, val_main_v9, val_main_v8, hx, val_main_call0_v0, val_main_c]
  rw [sitofp_zero]
  by_cases h : 1 ≤ j.val ∧ j.val ≤ 256
  · rw [dif_pos h, dif_pos ⟨h.1, by omega⟩]
  · rw [dif_neg h, dif_neg (by omega)]

theorem v34_apply (n : Fin 256) (j : Fin 66) (q : Fin 512) : val_main_v34 (F := Ideal) x0 x1 (ix3 n j q) =
    if h : 1 ≤ j.val ∧ j.val ≤ 64 then u x0 x1 ⟨4096 + (n.val * 64 + (j.val - 1)), by omega⟩ q else 0 := by
  simp only [← v7_apply]
  generalize hx : val_main_v7 (F := Ideal) x0 x1 = X
  pointwise [val_main_v34, val_main_v33, val_main_v32, hx, val_main_call1_v0, val_main_c_0]
  rw [sitofp_zero]
  by_cases h : 1 ≤ j.val ∧ j.val ≤ 64
  · rw [dif_pos h, dif_pos ⟨h.1, by omega⟩]
  · rw [dif_neg h, dif_neg (by omega)]

theorem v30_apply (n : Fin 16) (j : Fin 256) (q : Fin 512) : val_main_v30 (F := Ideal) x0 x1 x2 (ix3 n j q) =
    x2 (ix2 0 q) * val_main_v10 (F := Ideal) x0 x1 (ix3 n ⟨j.val, by omega⟩ q) + x2 (ix2 1 q) * val_main_v10 (F := Ideal) x0 x1 (ix3 n ⟨1 + j.val, by omega⟩ q)
      + x2 (ix2 2 q) * val_main_v10 (F := Ideal) x0 x1 (ix3 n ⟨2 + j.val, by omega⟩ q) := by
  generalize hx : val_main_v10 (F := Ideal) x0 x1 = X
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, hx]

theorem v54_apply (n : Fin 256) (j : Fin 64) (q : Fin 512) : val_main_v54 (F := Ideal) x0 x1 x2 (ix3 n j q) =
    x2 (ix2 0 q) * val_main_v34 (F := Ideal) x0 x1 (ix3 n ⟨j.val, by omega⟩ q) + x2 (ix2 1 q) * val_main_v34 (F := Ideal) x0 x1 (ix3 n ⟨1 + j.val, by omega⟩ q)
      + x2 (ix2 2 q) * val_main_v34 (F := Ideal) x0 x1 (ix3 n ⟨2 + j.val, by omega⟩ q) := by
  generalize hx : val_main_v34 (F := Ideal) x0 x1 = X
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, hx]

theorem ref_conv (r : Fin 20480) (q : Fin 512) : val_main_v56 (F := Ideal) x0 x1 x2 (ix2 r q) = conv x0 x1 x2 r q := by
  unfold conv
  by_cases hr : r.val < 4096
  · have e : val_main_v56 (F := Ideal) x0 x1 x2 (ix2 r q) = val_main_v30 (F := Ideal) x0 x1 x2 (ix3 ⟨r.val / 256, by omega⟩ ⟨r.val % 256, by omega⟩ q) := by
      generalize hx : val_main_v30 (F := Ideal) x0 x1 x2 = X
      pointwise [val_main_v56, val_main_v31, hx]
      rw [dif_pos hr]
    have hp : period r.val = 256 := if_pos hr
    rw [e, v30_apply]
    simp only [v10_apply, hp]
    refine congrArg₂ _ (congrArg₂ _ (congrArg₂ _ rfl ?_) (congrArg₂ _ rfl ?_)) (congrArg₂ _ rfl ?_)
    · by_cases h0 : r.val % 256 = 0
      · rw [dif_neg (by omega), dif_pos h0]
      · rw [dif_pos (by omega), dif_neg h0]; exact congrArg (fun a => u x0 x1 a q) (Fin.ext (by dsimp only; omega))
    · rw [dif_pos (by omega)]; exact congrArg (fun a => u x0 x1 a q) (Fin.ext (by dsimp only; omega))
    · by_cases h0 : r.val % 256 = 256 - 1
      · rw [dif_neg (by omega), dif_pos h0]
      · rw [dif_pos (by omega), dif_neg h0]; exact congrArg (fun a => u x0 x1 a q) (Fin.ext (by dsimp only; omega))
  · have e : val_main_v56 (F := Ideal) x0 x1 x2 (ix2 r q) = val_main_v54 (F := Ideal) x0 x1 x2 (ix3 ⟨(r.val - 4096) / 64, by omega⟩ ⟨(r.val - 4096) % 64, by omega⟩ q) := by
      generalize hx : val_main_v54 (F := Ideal) x0 x1 x2 = X
      pointwise [val_main_v56, val_main_v55, hx]
      rw [dif_neg hr]
    have hp : period r.val = 64 := if_neg hr
    rw [e, v54_apply]
    simp only [v34_apply, hp]
    refine congrArg₂ _ (congrArg₂ _ (congrArg₂ _ rfl ?_) (congrArg₂ _ rfl ?_)) (congrArg₂ _ rfl ?_)
    · by_cases h0 : r.val % 64 = 0
      · rw [dif_neg (by omega), dif_pos h0]
      · rw [dif_pos (by omega), dif_neg h0]; exact congrArg (fun a => u x0 x1 a q) (Fin.ext (by dsimp only; omega))
    · rw [dif_pos (by omega)]; exact congrArg (fun a => u x0 x1 a q) (Fin.ext (by dsimp only; omega))
    · by_cases h0 : r.val % 64 = 64 - 1
      · rw [dif_neg (by omega), dif_pos h0]
      · rw [dif_pos (by omega), dif_neg h0]; exact congrArg (fun a => u x0 x1 a q) (Fin.ext (by dsimp only; omega))

theorem ref_yb (r : Fin 20480) (q : Fin 1024) : val_main_v87 (F := Ideal) x0 x1 x2 x4 (ix2 r q) = yb x0 x1 x2 x4 r q := by
  have e : 3616 + (1024 + q.val) = 4640 + q.val := by omega
  unfold yb gate sig
  simp only [← v1_apply, ← ref_conv]
  generalize hx : val_main_v1 (F := Ideal) x0 x1 = X
  generalize hc : val_main_v56 (F := Ideal) x0 x1 x2 = C
  pointwise [val_main_v87, val_main_v86, val_main_v85, val_main_v84, val_main_v73, val_main_v72, val_main_v71, val_main_v70, val_main_v69, val_main_v68, val_main_v67, val_main_v6, val_main_v58, val_main_v57, val_main_v2, hx, hc, val_main_cst, val_main_cst_1]
  all_goals simp only [e]

end Cert.Proof.MixIn
end
-- ==== Proof.MixIn.Sweep.lean ====
/- The mix-in kernel's grid: every point computes one tile of 512 tokens. -/
module

public import proofs.«01_k».proof.Proof.Gen.MixInIdeal.Frame
public import proofs.«01_k».proof.Proof.MixIn.Ref

@[expose] public section

set_option maxRecDepth 16384

noncomputable section

open Idealize.ShloMosaic Idealize.ShloMosaic.TcCoe Idealize.SL.Sem
open Idealize.ShloMosaic.Pipeline (Dat)

namespace Cert.MixInIdeal.Sweep
open Cert.MixInIdeal Cert.MixInIdeal.Gen Cert.Proof.MixIn
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, t.val, 0] ∧ win0_8.index t = ![t.val, 0]
    ∧ win0_9.index t = ![t.val, 0] ∧ win0_10.index t = ![t.val, 0] ∧ (grid0.coords t 0).val = t.val ∧ t.val < 40 :=
  (by decide +kernel : ∀ t : Fin grid0.N, _)

theorem period_word : ∀ k : Fin 40, Scalar.select (Scalar.cmpi CmpIPredicate.slt (BitVec.ofNat 32 k.val) 8#32) 256#32 64#32 = if k.val < 8 then 256#32 else 64#32 := by
  decide +kernel

theorem first_ctx : ∀ a : Fin 512, IntOp.cmpi CmpIPredicate.eq (IntOp.andi (BitVec.ofNat 32 a.val) (Scalar.subi 256#32 1#32)) 0#32 = if a.val % 256 = 0 then 1#1 else 0#1 := by
  decide +kernel

theorem last_ctx : ∀ a : Fin 512, IntOp.cmpi CmpIPredicate.eq (IntOp.andi (BitVec.ofNat 32 a.val) (Scalar.subi 256#32 1#32)) (Scalar.subi 256#32 1#32) = if a.val % 256 = 256 - 1 then 1#1 else 0#1 := by
  decide +kernel

theorem first_lat : ∀ a : Fin 512, IntOp.cmpi CmpIPredicate.eq (IntOp.andi (BitVec.ofNat 32 a.val) (Scalar.subi 64#32 1#32)) 0#32 = if a.val % 64 = 0 then 1#1 else 0#1 := by
  decide +kernel

theorem last_lat : ∀ a : Fin 512, IntOp.cmpi CmpIPredicate.eq (IntOp.andi (BitVec.ofNat 32 a.val) (Scalar.subi 64#32 1#32)) (Scalar.subi 64#32 1#32) = if a.val % 64 = 64 - 1 then 1#1 else 0#1 := by
  decide +kernel

theorem select_ite (p : Prop) [Decidable p] (x y : EReal) : Scalar.select (if p then 1#1 else 0#1) x y = if p then x else y := by
  by_cases h : p <;> simp [h, Scalar.select]

/-- The convolution branch before its output projection: the rotations never carry a row across a sequence, for the
    rows whose neighbour would lie outside are the ones the masks zero. -/
theorem pay4_apply (i : grid0.Coords) (T : Nat) (hi : (i 0).val = T) (hT : T < 40) (h : FVec Ideal S512x1024 .bf16) (wc : FVec Ideal S1024x1536 .bf16) (cw : FVec Ideal S3x512 .f32)
    (x0 : FVec Ideal S20480x1024 .bf16) (x1 : FVec Ideal S1024x6688 .f32)
    (hz : ∀ (a : Fin 512) (j : Fin 1536), ∑ x : Fin 1024, h (ix2 a x) * wc (ix2 x j) = z x0 x1 ⟨T * 512 + a.val, by omega⟩ ⟨1568 + j.val, by omega⟩)
    (a b : Fin 512) :
    k0_pay4 (F := Ideal) i h wc cw (ix2 a b) = z x0 x1 ⟨T * 512 + a.val, by omega⟩ ⟨1568 + b.val, by omega⟩ * conv x0 x1 cw ⟨T * 512 + a.val, by omega⟩ b := by
  have hk := period_word ⟨T, hT⟩
  dsimp only at hk
  have hu : ∀ r : Fin 20480, z x0 x1 r ⟨1568 + (512 + b.val), by omega⟩ * z x0 x1 r ⟨1568 + (1024 + b.val), by omega⟩ = u x0 x1 r b := fun r => by
    unfold u
    exact congrArg₂ _ (congrArg (z x0 x1 _) (Fin.ext (by dsimp only; omega))) (congrArg (z x0 x1 _) (Fin.ext (by dsimp only; omega)))
  pointwise [k0_pay4]
  rw [hi, hk]
  simp only [hz, hu]
  unfold conv
  refine congrArg₂ _ rfl ?_
  by_cases hc : T < 8
  · have hp : period (T * 512 + a.val) = 256 := if_pos (by omega)
    simp only [if_pos hc, first_ctx, last_ctx, select_ite, hp]
    refine congrArg₂ _ (congrArg₂ _ ?_ rfl) ?_
    · by_cases h0 : a.val % 256 = 0
      · rw [if_pos h0, dif_pos (by omega), mul_zero]
      · rw [if_neg h0, dif_neg (by omega)]; exact congrArg (fun v : Fin 20480 => cw (ix2 0 b) * u x0 x1 v b) (Fin.ext (by dsimp only; omega))
    · by_cases h0 : a.val % 256 = 256 - 1
      · rw [if_pos h0, dif_pos (by omega), mul_zero]
      · rw [if_neg h0, dif_neg (by omega)]; exact congrArg (fun v : Fin 20480 => cw (ix2 2 b) * u x0 x1 v b) (Fin.ext (by dsimp only; omega))
  · have hp : period (T * 512 + a.val) = 64 := if_neg (by omega)
    simp only [if_neg hc, first_lat, last_lat, select_ite, hp]
    refine congrArg₂ _ (congrArg₂ _ ?_ rfl) ?_
    · by_cases h0 : a.val % 64 = 0
      · rw [if_pos h0, dif_pos (by omega), mul_zero]
      · rw [if_neg h0, dif_neg (by omega)]; exact congrArg (fun v : Fin 20480 => cw (ix2 0 b) * u x0 x1 v b) (Fin.ext (by dsimp only; omega))
    · by_cases h0 : a.val % 64 = 64 - 1
      · rw [if_pos h0, dif_pos (by omega), mul_zero]
      · rw [if_neg h0, dif_neg (by omega)]; exact congrArg (fun v : Fin 20480 => cw (ix2 2 b) * u x0 x1 v b) (Fin.ext (by dsimp only; omega))

theorem ld13 (X : Vec Ideal S1024x3072 .bf16) (x b : Fin 1024) : View.ld X r0_13 (ix2 x b) = X (ix2 x ⟨b.val, by omega⟩) :=
  View.ld_unit_apply_of _ _ _ _ _ _ (by intro a; match a with | ⟨0, _⟩ => (show x.val = 0 + x.val; omega) | ⟨1, _⟩ => (show b.val = 0 + b.val; omega))

theorem ld14 (X : Vec Ideal S1024x3072 .bf16) (x b : Fin 1024) : View.ld X r0_14 (ix2 x b) = X (ix2 x ⟨1024 + b.val, by omega⟩) :=
  View.ld_unit_apply_of _ _ _ _ _ _ (by intro a; match a with | ⟨0, _⟩ => (show x.val = 0 + x.val; omega) | ⟨1, _⟩ => (show 1024 + b.val = 1024 + b.val; omega))

theorem ld15 (X : Vec Ideal S1024x3072 .bf16) (x b : Fin 1024) : View.ld X r0_15 (ix2 x b) = X (ix2 x ⟨2048 + b.val, by omega⟩) :=
  View.ld_unit_apply_of _ _ _ _ _ _ (by intro a; match a with | ⟨0, _⟩ => (show x.val = 0 + x.val; omega) | ⟨1, _⟩ => (show 2048 + b.val = 2048 + b.val; omega))

theorem pay2_apply (h : FVec Ideal S512x1024 .bf16) (v : FVec Ideal S512x512 .f32) (w : FVec Ideal S512x1024 .bf16) (X : Vec Ideal S1024x3072 .bf16) (a : Fin 512) (b : Fin 1024)
    (f : Fin 1024 → EReal) (hf : ∀ x, X (ix2 x ⟨1024 + b.val, by omega⟩) = f x) :
    k0_pay2 (F := Ideal) h (k0_pay5 v w) (View.ld X r0_14) (ix2 a b) = Cert.Proof.MixIn.sig (∑ x : Fin 1024, h (ix2 a x) * f x) * ∑ k : Fin 512, v (ix2 a k) * w (ix2 k b) := by
  have e := fun x => (ld14 X x b).trans (hf x)
  generalize View.ld X r0_14 = wm at e ⊢
  simp only [← e]
  unfold Cert.Proof.MixIn.sig
  pointwise [k0_pay2, k0_pay5]
  simp only [zero_sub]

theorem pay1_apply (h : FVec Ideal S512x1024 .bf16) (X : Vec Ideal S1024x3072 .bf16) (a : Fin 512) (b : Fin 1024)
    (f : Fin 1024 → EReal) (hf : ∀ x, X (ix2 x ⟨b.val, by omega⟩) = f x) :
    k0_pay1 (F := Ideal) (k0_pay20 h (View.ld X r0_13)) (ix2 a b) = Cert.Proof.MixIn.sig (∑ x : Fin 1024, h (ix2 a x) * f x) := by
  have e := fun x => (ld13 X x b).trans (hf x)
  generalize View.ld X r0_13 = wm at e ⊢
  simp only [← e]
  unfold Cert.Proof.MixIn.sig
  pointwise [k0_pay1, k0_pay20]
  simp only [zero_sub]

theorem pay3_apply (h : FVec Ideal S512x1024 .bf16) (X : Vec Ideal S1024x3072 .bf16) (a : Fin 512) (b : Fin 1024)
    (f : Fin 1024 → EReal) (hf : ∀ x, X (ix2 x ⟨2048 + b.val, by omega⟩) = f x) :
    k0_pay3 (F := Ideal) h (View.ld X r0_15) (ix2 a b) = Cert.Proof.MixIn.sig (∑ x : Fin 1024, h (ix2 a x) * f x) := by
  have e := fun x => (ld15 X x b).trans (hf x)
  generalize View.ld X r0_15 = wm at e ⊢
  simp only [← e]
  unfold Cert.Proof.MixIn.sig
  pointwise [k0_pay3]
  simp only [zero_sub]

theorem out7_apply (i : grid0.Coords) (x0 : FVec Ideal S512x1024 .bf16) (x1 : FVec Ideal S1024x1536 .bf16) (x2 : FVec Ideal S1024x512 .bf16) (x3 : FVec Ideal S1024x3072 .bf16)
    (x4 : FVec Ideal S3x512 .f32) (x5 : FVec Ideal S128x256 .bf16) (x6 : FVec Ideal S512x1024 .bf16) (f : Fin 512 → Fin 512 → EReal)
    (hf : ∀ a k, ∑ x : Fin 1024, x0 (ix2 a x) * x2 (ix2 x k) = f a k) (y : S2x512x512.Idx) :
    out0_7 (F := Ideal) i x0 x1 x2 x3 x4 x5 x6 y = ∑ k : Fin 128, f (y 1) ⟨(y 2).val / 128 * 128 + k.val, by have := (y 2).isLt; change _ < 512 at this; omega⟩
      * x5 (ix2 k ⟨(y 0).val * 128 + (y 2).val % 128, by have := (y 0).isLt; change _ < 2 at this; omega⟩) := by
  unfold_out out0_7
  canon_tiles j h
  all_goals open_payloads
  all_goals pointwise []
  all_goals refine Finset.sum_congr rfl fun x _ => congrArg₂ (fun p q : EReal => p * q) ((hf (show Fin 512 from j 1) _).trans (congrArg₂ f ?_ ?_)) (congrArg x5 (congrArg₂ ix2 rfl ?_))
  all_goals refine Fin.ext ?_
  all_goals first | omega | (dsimp only; omega)

open Cert.RefMixInIdeal.Read in
theorem final_ab (c : Dev nD) : (dats m 0 c).arrAt 7 (cfgs 0).N = val_main_v77 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  have ht := (idx t).2.2.2.2.2.2.2.2.2.2.2.2
  have hlt : t.val * 512 + (y 1).val < 20480 := by have := (y 1).isLt; change _ < 512 at this; omega
  have hb : (win0_7.blk t).view.emb y = ix3 (y 0) (⟨t.val * 512 + (y 1).val, hlt⟩ : Fin 20480) (y 2) := by
    blk_point [idx t]
  blk_simp
  rw [after0_7]
  refine Eq.trans ?_ ((ref_ab _ _ _ _ _ _).symm.trans (congrArg _ hb.symm))
  refine (out7_apply _ _ _ _ _ _ _ _ (fun a k => z (m ((c : Thread nD τ).loc main_arg0)) (m ((c : Thread nD τ).loc main_arg1)) ⟨t.val * 512 + a.val, by omega⟩ ⟨3104 + k.val, by omega⟩) (fun a k => ?_) y).trans ?_
  · unfold z
    blk_point [iblk, V, idx t]
  · unfold ab
    blk_point [iblk, V, idx t]

open Cert.RefMixInIdeal.Read in
theorem final_g0 (c : Dev nD) : (dats m 0 c).arrAt 8 (cfgs 0).N = val_main_v80 (F := Ideal) (m ((c : Thread nD τ).loc main_arg0)) (m ((c : Thread nD τ).loc main_arg1)) := by
  refine (dats m 0 c).arrAt_eq_of_covers 8 _ (by decide +kernel) fun t hf y => ?_
  have ht := (idx t).2.2.2.2.2.2.2.2.2.2.2.2
  have hlt : t.val * 512 + (y 0).val < 20480 := by have := (y 0).isLt; change _ < 512 at this; omega
  have hb : (win0_8.blk t).view.emb y = ix2 (⟨t.val * 512 + (y 0).val, hlt⟩ : Fin 20480) (y 1) := by
    blk_point [idx t]
  blk_simp
  rw [after0_8]
  unfold out0_8
  frame_out
  refine Eq.trans ?_ ((ref_g0 _ _ _ _).symm.trans (congrArg _ hb.symm))
  refine (congrArg _ (eq_ix2 y)).trans ((pay1_apply _ _ (y 0) (y 1) (fun x => (show FVec Ideal S1024x6688 .f32 from m ((c : Thread nD τ).loc main_arg1)) (ix2 x ⟨3616 + (0 + (y 1).val), by have := (y 1).isLt; change _ < 1024 at this; omega⟩)) fun x => ?_).trans ?_)
  · blk_point [iblk, V, idx t]
  · unfold gate Cert.Proof.MixIn.sig z
    blk_point [iblk, V, idx t]

open Cert.RefMixInIdeal.Read in
theorem final_g2 (c : Dev nD) : (dats m 0 c).arrAt 9 (cfgs 0).N = val_main_v83 (F := Ideal) (m ((c : Thread nD τ).loc main_arg0)) (m ((c : Thread nD τ).loc main_arg1)) := by
  refine (dats m 0 c).arrAt_eq_of_covers 9 _ (by decide +kernel) fun t hf y => ?_
  have ht := (idx t).2.2.2.2.2.2.2.2.2.2.2.2
  have hlt : t.val * 512 + (y 0).val < 20480 := by have := (y 0).isLt; change _ < 512 at this; omega
  have hb : (win0_9.blk t).view.emb y = ix2 (⟨t.val * 512 + (y 0).val, hlt⟩ : Fin 20480) (y 1) := by
    blk_point [idx t]
  blk_simp
  rw [after0_9]
  unfold out0_9
  frame_out
  refine Eq.trans ?_ ((ref_g2 _ _ _ _).symm.trans (congrArg _ hb.symm))
  refine (congrArg _ (eq_ix2 y)).trans ((pay3_apply _ _ (y 0) (y 1) (fun x => (show FVec Ideal S1024x6688 .f32 from m ((c : Thread nD τ).loc main_arg1)) (ix2 x ⟨3616 + (2048 + (y 1).val), by have := (y 1).isLt; change _ < 1024 at this; omega⟩)) fun x => ?_).trans ?_)
  · blk_point [iblk, V, idx t]
  · unfold gate Cert.Proof.MixIn.sig z
    blk_point [iblk, V, idx t]

open Cert.RefMixInIdeal.Read in
theorem final_yb (c : Dev nD) : (dats m 0 c).arrAt 10 (cfgs 0).N = val_main_v87 (F := Ideal) (m ((c : Thread nD τ).loc main_arg0)) (m ((c : Thread nD τ).loc main_arg1))
    (m ((c : Thread nD τ).loc main_arg2)) (m ((c : Thread nD τ).loc main_arg4)) := by
  refine (dats m 0 c).arrAt_eq_of_covers 10 _ (by decide +kernel) fun t hf y => ?_
  have ht := (idx t).2.2.2.2.2.2.2.2.2.2.2.2
  have hc := (idx t).2.2.2.2.2.2.2.2.2.2.2.1
  have hlt : t.val * 512 + (y 0).val < 20480 := by have := (y 0).isLt; change _ < 512 at this; omega
  have hb : (win0_10.blk t).view.emb y = ix2 (⟨t.val * 512 + (y 0).val, hlt⟩ : Fin 20480) (y 1) := by
    blk_point [idx t]
  blk_simp
  rw [after0_10]
  unfold out0_10
  frame_out
  refine Eq.trans ?_ ((ref_yb _ _ _ _ _ _).symm.trans (congrArg _ hb.symm))
  refine (congrArg _ (eq_ix2 y)).trans ((pay2_apply _ _ _ _ (y 0) (y 1) (fun x => (show FVec Ideal S1024x6688 .f32 from m ((c : Thread nD τ).loc main_arg1)) (ix2 x ⟨3616 + (1024 + (y 1).val), by have := (y 1).isLt; change _ < 1024 at this; omega⟩)) fun x => ?_).trans ?_)
  · blk_point [iblk, V, idx t]
  have hw : iblk m c 4 t = m ((c : Thread nD τ).loc main_arg2) := funext fun i => by
    blk_point [iblk, V, idx t]
  unfold yb
  refine congrArg₂ _ ?_ (Finset.sum_congr rfl fun k _ => congrArg₂ _ ((pay4_apply _ t.val hc ht _ _ _ (m ((c : Thread nD τ).loc main_arg0)) (m ((c : Thread nD τ).loc main_arg1)) (fun a j => ?_) (y 0) k).trans ?_) ?_)
  · unfold gate Cert.Proof.MixIn.sig z
    blk_point [iblk, V, idx t]
  · unfold z
    blk_point [iblk, V, idx t]
  · exact congrArg (fun w => _ * conv _ _ w _ _) hw
  · blk_point [iblk, V, idx t]

end Cert.MixInIdeal.Sweep
end
-- ==== Proof.MixOut.Ref.lean ====
/- The mix-out reference read at an index. -/
module

public import proofs.«01_k».proof.Proof.Gen.RefMixOutIdeal.Run
public import proofs.«01_k».proof.Proof.Gen.RefMixOutIdeal.Read
public import Idealize.ShloMosaic.Lib.Pipeline.ValueKit

@[expose] public section

set_option maxRecDepth 16384

noncomputable section

open Idealize.ShloMosaic Idealize.ShloMosaic.TcCoe Idealize.SL.Sem

namespace Cert.Proof.MixOut
open Cert.RefMixOutIdeal Cert.RefMixOutIdeal.Gen Cert.RefMixOutIdeal.Value Cert.RefMixOutIdeal.Read

variable (x0 : FVec Ideal S20480x1024 .f32) (x1 : FVec Ideal S20480x512 .f32) (x2 : FVec Ideal S20480x512 .bf16)
variable (x3 : FVec Ideal S16x4x128x512 .bf16) (x4 : FVec Ideal S64x4x128x512 .bf16) (x5 : FVec Ideal S20480x512 .bf16)
variable (x6 : FVec Ideal S4096x512 .bf16) (x7 : FVec Ideal S16384x512 .bf16) (x8 x9 x10 : FVec Ideal S20480x1024 .bf16)
variable (x11 : FVec Ideal S8x6x1024 .f32) (x12 : FVec Ideal S128 .f32) (x13 : FVec Ideal S1024 .f32)
variable (x14 x15 : FVec Ideal S512x1024 .f32) (x16 : FVec Ideal S1024x1024 .f32)

/-- The state entering a chunk, by run of 256 tokens: the context's runs first, then the latent requests'. -/
def state (n : Fin 80) (h : Fin 4) (k : Fin 128) (e : Fin 512) : EReal :=
  if hn : n.val < 16 then x3 (ix4 ⟨n.val, hn⟩ h k e) else x4 (ix4 ⟨n.val - 16, by omega⟩ h k e)

/-- The attention output of a head: the part from within the chunk plus the query read against the entering state. -/
def attn (r : Fin 20480) (q : Fin 512) : EReal :=
  x1 (ix2 r q) + ∑ k : Fin 128, x2 (ix2 r ⟨q.val / 128 * 128 + k.val, by omega⟩)
    * state x3 x4 ⟨r.val / 256, by omega⟩ ⟨q.val / 128, by omega⟩ k ⟨r.val / 64 % 4 * 128 + q.val % 128, by omega⟩

/-- `v * sigmoid v`. -/
def silu (v : EReal) : EReal := v * Ideal.div 1 (1 + Ideal.exp (-v))

/-- The head-wise norm of the attention output, scaled and gated. -/
def gated (r : Fin 20480) (q : Fin 512) : EReal :=
  attn x1 x2 x3 x4 r q *
    Ideal.rsqrt (Ideal.div (∑ e : Fin 128, attn x1 x2 x3 x4 r ⟨q.val / 128 * 128 + e.val, by omega⟩ * attn x1 x2 x3 x4 r ⟨q.val / 128 * 128 + e.val, by omega⟩)
      (Ideal.ofBits FTy.f32 1124073472#32) + Ideal.ofBits FTy.f32 897988541#32)
    * x12 (ix1 ⟨q.val % 128, by omega⟩) * silu (x5 (ix2 r q))

/-- The Fourier branch's rows: the context's first, then the latent requests'. -/
def four (r : Fin 20480) (q : Fin 512) : EReal :=
  if hr : r.val < 4096 then x6 (ix2 ⟨r.val, hr⟩ q) else x7 (ix2 ⟨r.val - 4096, by omega⟩ q)

/-- The merged branches. -/
def merged (r : Fin 20480) (q : Fin 1024) : EReal :=
  x8 (ix2 r q) * (∑ k : Fin 512, gated x1 x2 x3 x4 x5 x12 r k * x14 (ix2 k q)) + x10 (ix2 r q)
    + x9 (ix2 r q) * ∑ k : Fin 512, four x6 x7 r k * x15 (ix2 k q)

/-- The residual stream after the mixer. -/
def resid (r : Fin 20480) (q : Fin 1024) : EReal :=
  x0 (ix2 r q) + x11 (ix3 ⟨r.val / 4096, by omega⟩ 2 q) * ∑ k : Fin 1024, merged x1 x2 x3 x4 x5 x6 x7 x8 x9 x10 x12 x14 x15 r k * x16 (ix2 k q)

/-- The modulated norm of a row `f` of the residual stream. -/
def modNormed (f : Fin 1024 → EReal) (r : Fin 20480) (q : Fin 1024) : EReal :=
  f q * Ideal.rsqrt (Ideal.div (∑ x : Fin 1024, f x * f x) (Ideal.ofBits FTy.f32 1149239296#32) + Ideal.ofBits FTy.f32 897988541#32) * x13 (ix1 q)
    * (1 + x11 (ix3 ⟨r.val / 4096, by omega⟩ 4 q)) + x11 (ix3 ⟨r.val / 4096, by omega⟩ 3 q)

theorem v4_apply (n : Fin 320) (h : Fin 4) (k e : Fin 128) : val_main_v4 (F := Ideal) x3 x4 (ix4 n h k e) =
    state x3 x4 ⟨n.val / 4, by omega⟩ h k ⟨n.val % 4 * 128 + e.val, by omega⟩ := by
  unfold state
  pointwise [val_main_v4, val_main_v3, val_main_v2, val_main_v1, val_main_v0]

theorem v10_apply (n : Fin 320) (t : Fin 64) (h : Fin 4) (e : Fin 128) : val_main_v10 (F := Ideal) x1 x2 x3 x4 (ix4 n t h e) =
    attn x1 x2 x3 x4 ⟨n.val * 64 + t.val, by omega⟩ ⟨h.val * 128 + e.val, by omega⟩ := by
  unfold attn
  have e4 := v4_apply x3 x4
  generalize hS : val_main_v4 (F := Ideal) x3 x4 = S at e4
  pointwise [val_main_v10, val_main_v9, val_main_v8, val_main_v7, val_main_v6, val_main_v5, hS]
  refine congrArg₂ _ rfl (Finset.sum_congr rfl fun x _ => ?_)
  rw [e4, mul_comm]
  refine congrArg₂ (fun p q : EReal => p * q) (congrArg x2 (congrArg₂ ix2 rfl (Fin.ext (by dsimp only; omega)))) ?_
  congr 1 <;> refine Fin.ext ?_ <;> dsimp only <;> omega

theorem v27_apply (r : Fin 20480) (q : Fin 512) : val_main_v27 (F := Ideal) x1 x2 x3 x4 x5 x12 (ix2 r q) = gated x1 x2 x3 x4 x5 x12 r q := by
  unfold gated silu
  have e10 := v10_apply x1 x2 x3 x4
  generalize hS : val_main_v10 (F := Ideal) x1 x2 x3 x4 = S at e10
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_call0_v5, val_main_call0_v4, val_main_call0_v3, val_main_call0_v2, val_main_call0_v1, val_main_call0_v0, val_main_call0_cst, val_main_call0_cst_0, hS, val_main_cst, val_main_cst_0, val_main_cst_1]
  have e : ∀ e : Fin 128, S (ix4 ⟨r.val / 64, by omega⟩ ⟨r.val % 64, by omega⟩ ⟨q.val / 128, by omega⟩ e) = attn x1 x2 x3 x4 r ⟨q.val / 128 * 128 + e.val, by omega⟩ := fun e => by
    rw [e10]
    exact congrArg₂ (attn x1 x2 x3 x4) (Fin.ext (by dsimp only; omega)) rfl
  simp only [e]
  have hq : (⟨q.val / 128 * 128 + q.val % 128, by omega⟩ : Fin 512) = q := Fin.ext (by dsimp only; omega)
  rw [hq]

theorem v30_apply (r : Fin 20480) (q : Fin 512) : val_main_v30 (F := Ideal) x6 x7 (ix2 r q) = four x6 x7 r q := by
  unfold four
  pointwise [val_main_v30, val_main_v29]

theorem v38_apply (r : Fin 20480) (q : Fin 1024) : val_main_v38 (F := Ideal) x1 x2 x3 x4 x5 x6 x7 x8 x9 x10 x12 x14 x15 (ix2 r q) = merged x1 x2 x3 x4 x5 x6 x7 x8 x9 x10 x12 x14 x15 r q := by
  unfold merged
  have e27 := v27_apply x1 x2 x3 x4 x5 x12
  have e30 := v30_apply x6 x7
  generalize hA : val_main_v27 (F := Ideal) x1 x2 x3 x4 x5 x12 = A at e27
  generalize hB : val_main_v30 (F := Ideal) x6 x7 = B at e30
  simp only [← e27, ← e30]
  pointwise [val_main_v28, val_main_v31, val_main_v38, val_main_v37, val_main_v36, val_main_v35, val_main_v34, val_main_v33, val_main_v32, hA, hB]

theorem v47_apply (r : Fin 20480) (q : Fin 1024) : val_main_v47 (F := Ideal) x0 x1 x2 x3 x4 x5 x6 x7 x8 x9 x10 x11 x12 x14 x15 x16 (ix3 ⟨r.val / 4096, by omega⟩ ⟨r.val % 4096, by omega⟩ q)
    = resid x0 x1 x2 x3 x4 x5 x6 x7 x8 x9 x10 x11 x12 x14 x15 x16 r q := by
  unfold resid
  have e38 := v38_apply x1 x2 x3 x4 x5 x6 x7 x8 x9 x10 x12 x14 x15
  simp only [← e38]
  generalize hx : val_main_v38 (F := Ideal) x1 x2 x3 x4 x5 x6 x7 x8 x9 x10 x12 x14 x15 = A
  pointwise [val_main_v47, val_main_v46, val_main_v45, val_main_v44, val_main_v43, val_main_v42, val_main_v41, val_main_v40, val_main_v39, hx]

theorem ref_x (r : Fin 20480) (q : Fin 1024) : val_main_v73 (F := Ideal) x0 x1 x2 x3 x4 x5 x6 x7 x8 x9 x10 x11 x12 x14 x15 x16 (ix2 r q) = resid x0 x1 x2 x3 x4 x5 x6 x7 x8 x9 x10 x11 x12 x14 x15 x16 r q := by
  refine Eq.trans ?_ (v47_apply x0 x1 x2 x3 x4 x5 x6 x7 x8 x9 x10 x11 x12 x14 x15 x16 r q)
  generalize hx : val_main_v47 (F := Ideal) x0 x1 x2 x3 x4 x5 x6 x7 x8 x9 x10 x11 x12 x14 x15 x16 = X
  pointwise [val_main_v73, hx]

theorem ref_h (r : Fin 20480) (q : Fin 1024) : val_main_v75 (F := Ideal) x0 x1 x2 x3 x4 x5 x6 x7 x8 x9 x10 x11 x12 x13 x14 x15 x16 (ix2 r q) =
    modNormed x11 x13 (resid x0 x1 x2 x3 x4 x5 x6 x7 x8 x9 x10 x11 x12 x14 x15 x16 r) r q := by
  unfold modNormed
  have e := v47_apply x0 x1 x2 x3 x4 x5 x6 x7 x8 x9 x10 x11 x12 x14 x15 x16 r
  simp only [← e]
  generalize hx : val_main_v47 (F := Ideal) x0 x1 x2 x3 x4 x5 x6 x7 x8 x9 x10 x11 x12 x14 x15 x16 = X
  pointwise [val_main_v75, val_main_v74, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, hx, val_main_cst_2, val_main_cst_3, val_main_cst_4, val_main_cst_5]

end Cert.Proof.MixOut
end
-- ==== Proof.MixOut.Sweep.lean ====
/- The mix-out kernel's grid: every point computes one tile of 512 tokens. -/
module

public import proofs.«01_k».proof.Proof.Gen.MixOutIdeal.Frame
public import proofs.«01_k».proof.Proof.MixOut.Ref

@[expose] public section

set_option maxRecDepth 16384

noncomputable section

open Idealize.ShloMosaic Idealize.ShloMosaic.TcCoe Idealize.SL.Sem
open Idealize.ShloMosaic.Pipeline (Dat)

namespace Cert.MixOutIdeal.Sweep
open Cert.MixOutIdeal Cert.MixOutIdeal.Gen Cert.Proof.MixOut
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![min t.val 7, 0, 0, 0] ∧ win0_4.index t = ![t.val - 8, 0, 0, 0] ∧ win0_5.index t = ![t.val, 0]
    ∧ win0_6.index t = ![min t.val 7, 0] ∧ win0_7.index t = ![t.val - 8, 0] ∧ win0_8.index t = ![t.val, 0]
    ∧ win0_9.index t = ![t.val, 0] ∧ win0_10.index t = ![t.val, 0] ∧ win0_11.index t = ![t.val / 8, 0, 0] ∧ win0_12.index t = ![0, 0]
    ∧ win0_13.index t = ![0, 0] ∧ win0_14.index t = ![0, 0] ∧ win0_15.index t = ![0, 0] ∧ win0_16.index t = ![0, 0]
    ∧ win0_17.index t = ![t.val, 0] ∧ win0_18.index t = ![t.val, 0] ∧ (grid0.coords t 0).val = t.val ∧ t.val < 40 :=
  (by decide +kernel : ∀ t : Fin grid0.N, _)

theorem ctx_word : ∀ k : Fin 40, Scalar.cmpi CmpIPredicate.slt (BitVec.ofNat 32 k.val) 8#32 = if k.val < 8 then 1#1 else 0#1 := by
  decide +kernel

theorem select_ite (p : Prop) [Decidable p] (x y : EReal) : Scalar.select (if p then 1#1 else 0#1) x y = if p then x else y := by
  by_cases h : p <;> simp [h, Scalar.select]

/-- The attention output of a tile's row and column, from the blocks. -/
def attnBlk (w : BitVec 1) (x1 : FVec Ideal S512x512 .f32) (x2 : FVec Ideal S512x512 .bf16) (x3 x4 : FVec Ideal S2x4x128x512 .bf16) (a b : Fin 512) : EReal :=
  x1 (ix2 a b) + ∑ k : Fin 128, x2 (ix2 a ⟨b.val / 128 * 128 + k.val, by omega⟩)
    * Scalar.select w (x3 (ix4 ⟨a.val / 256, by omega⟩ ⟨b.val / 128, by omega⟩ k ⟨a.val / 64 % 4 * 128 + b.val % 128, by omega⟩))
        (x4 (ix4 ⟨a.val / 256, by omega⟩ ⟨b.val / 128, by omega⟩ k ⟨a.val / 64 % 4 * 128 + b.val % 128, by omega⟩))

theorem at4 (x : FVec Ideal S2x4x128x512 .bf16) (k : Fin 128) {s s' : Fin 2} {h h' : Fin 4} {e e' : Fin 512} (hs : s.val = s'.val) (hh : h.val = h'.val) (he : e.val = e'.val) :
    x (ix4 s h k e) = x (ix4 s' h' k e') := by
  obtain rfl := Fin.ext hs; obtain rfl := Fin.ext hh; obtain rfl := Fin.ext he; rfl

/-- The 32 pieces the body stores into its attention scratch, last first: one per chunk and head. -/
def pieces (i : grid0.Coords) (x1 : Vec Ideal S512x512 .f32) (x2 : Vec Ideal S512x512 .bf16) (x3 x4 : Vec Ideal S2x4x128x512 .bf16) :
    List (View.Piece (Elt Ideal) S512x512 .f32) := [
  ⟨Rect.unit (s := S512x512) ![448, 384] S64x128.size inb_S512x512_S64x128_448_384, k0_pay47 (k0_pay42 (Scalar.cmpi .slt (BitVec.ofNat 32 (i 0).val) 8#32) (View.ld x3 (Rect.unit (s := S2x4x128x512) ![1, 3, 0, 0] S1x1x128x512.size inb_S2x4x128x512_S1x1x128x512_1_3_0_0)) (View.ld x4 (Rect.unit (s := S2x4x128x512) ![1, 3, 0, 0] S1x1x128x512.size inb_S2x4x128x512_S1x1x128x512_1_3_0_0))) (View.ld x1 (Rect.unit (s := S512x512) ![448, 384] S64x128.size inb_S512x512_S64x128_448_384)) (View.ld x2 (Rect.unit (s := S512x512) ![448, 384] S64x128.size inb_S512x512_S64x128_448_384))⟩,
  ⟨Rect.unit (s := S512x512) ![384, 384] S64x128.size inb_S512x512_S64x128_384_384, k0_pay46 (k0_pay45 (Scalar.cmpi .slt (BitVec.ofNat 32 (i 0).val) 8#32) (View.ld x3 (Rect.unit (s := S2x4x128x512) ![1, 3, 0, 0] S1x1x128x512.size inb_S2x4x128x512_S1x1x128x512_1_3_0_0)) (View.ld x4 (Rect.unit (s := S2x4x128x512) ![1, 3, 0, 0] S1x1x128x512.size inb_S2x4x128x512_S1x1x128x512_1_3_0_0)) (View.ld x1 (Rect.unit (s := S512x512) ![384, 384] S64x128.size inb_S512x512_S64x128_384_384)) (View.ld x2 (Rect.unit (s := S512x512) ![384, 384] S64x128.size inb_S512x512_S64x128_384_384)))⟩,
  ⟨Rect.unit (s := S512x512) ![320, 384] S64x128.size inb_S512x512_S64x128_320_384, k0_pay44 (Scalar.cmpi .slt (BitVec.ofNat 32 (i 0).val) 8#32) (View.ld x3 (Rect.unit (s := S2x4x128x512) ![1, 3, 0, 0] S1x1x128x512.size inb_S2x4x128x512_S1x1x128x512_1_3_0_0)) (View.ld x4 (Rect.unit (s := S2x4x128x512) ![1, 3, 0, 0] S1x1x128x512.size inb_S2x4x128x512_S1x1x128x512_1_3_0_0)) (View.ld x1 (Rect.unit (s := S512x512) ![320, 384] S64x128.size inb_S512x512_S64x128_320_384)) (View.ld x2 (Rect.unit (s := S512x512) ![320, 384] S64x128.size inb_S512x512_S64x128_320_384))⟩,
  ⟨Rect.unit (s := S512x512) ![256, 384] S64x128.size inb_S512x512_S64x128_256_384, k0_pay43 (Scalar.cmpi .slt (BitVec.ofNat 32 (i 0).val) 8#32) (View.ld x3 (Rect.unit (s := S2x4x128x512) ![1, 3, 0, 0] S1x1x128x512.size inb_S2x4x128x512_S1x1x128x512_1_3_0_0)) (View.ld x4 (Rect.unit (s := S2x4x128x512) ![1, 3, 0, 0] S1x1x128x512.size inb_S2x4x128x512_S1x1x128x512_1_3_0_0)) (View.ld x1 (Rect.unit (s := S512x512) ![256, 384] S64x128.size inb_S512x512_S64x128_256_384)) (View.ld x2 (Rect.unit (s := S512x512) ![256, 384] S64x128.size inb_S512x512_S64x128_256_384))⟩,
  ⟨Rect.unit (s := S512x512) ![448, 256] S64x128.size inb_S512x512_S64x128_448_256, k0_pay41 (k0_pay40 (k0_pay36 (Scalar.cmpi .slt (BitVec.ofNat 32 (i 0).val) 8#32) (View.ld x3 (Rect.unit (s := S2x4x128x512) ![1, 2, 0, 0] S1x1x128x512.size inb_S2x4x128x512_S1x1x128x512_1_2_0_0)) (View.ld x4 (Rect.unit (s := S2x4x128x512) ![1, 2, 0, 0] S1x1x128x512.size inb_S2x4x128x512_S1x1x128x512_1_2_0_0))) (View.ld x1 (Rect.unit (s := S512x512) ![448, 256] S64x128.size inb_S512x512_S64x128_448_256)) (View.ld x2 (Rect.unit (s := S512x512) ![448, 256] S64x128.size inb_S512x512_S64x128_448_256)))⟩,
  ⟨Rect.unit (s := S512x512) ![384, 256] S64x128.size inb_S512x512_S64x128_384_256, k0_pay39 (k0_pay36 (Scalar.cmpi .slt (BitVec.ofNat 32 (i 0).val) 8#32) (View.ld x3 (Rect.unit (s := S2x4x128x512) ![1, 2, 0, 0] S1x1x128x512.size inb_S2x4x128x512_S1x1x128x512_1_2_0_0)) (View.ld x4 (Rect.unit (s := S2x4x128x512) ![1, 2, 0, 0] S1x1x128x512.size inb_S2x4x128x512_S1x1x128x512_1_2_0_0))) (View.ld x1 (Rect.unit (s := S512x512) ![384, 256] S64x128.size inb_S512x512_S64x128_384_256)) (View.ld x2 (Rect.unit (s := S512x512) ![384, 256] S64x128.size inb_S512x512_S64x128_384_256))⟩,
  ⟨Rect.unit (s := S512x512) ![320, 256] S64x128.size inb_S512x512_S64x128_320_256, k0_pay38 (k0_pay36 (Scalar.cmpi .slt (BitVec.ofNat 32 (i 0).val) 8#32) (View.ld x3 (Rect.unit (s := S2x4x128x512) ![1, 2, 0, 0] S1x1x128x512.size inb_S2x4x128x512_S1x1x128x512_1_2_0_0)) (View.ld x4 (Rect.unit (s := S2x4x128x512) ![1, 2, 0, 0] S1x1x128x512.size inb_S2x4x128x512_S1x1x128x512_1_2_0_0))) (View.ld x1 (Rect.unit (s := S512x512) ![320, 256] S64x128.size inb_S512x512_S64x128_320_256)) (View.ld x2 (Rect.unit (s := S512x512) ![320, 256] S64x128.size inb_S512x512_S64x128_320_256))⟩,
  ⟨Rect.unit (s := S512x512) ![256, 256] S64x128.size inb_S512x512_S64x128_256_256, k0_pay37 (k0_pay36 (Scalar.cmpi .slt (BitVec.ofNat 32 (i 0).val) 8#32) (View.ld x3 (Rect.unit (s := S2x4x128x512) ![1, 2, 0, 0] S1x1x128x512.size inb_S2x4x128x512_S1x1x128x512_1_2_0_0)) (View.ld x4 (Rect.unit (s := S2x4x128x512) ![1, 2, 0, 0] S1x1x128x512.size inb_S2x4x128x512_S1x1x128x512_1_2_0_0))) (View.ld x1 (Rect.unit (s := S512x512) ![256, 256] S64x128.size inb_S512x512_S64x128_256_256)) (View.ld x2 (Rect.unit (s := S512x512) ![256, 256] S64x128.size inb_S512x512_S64x128_256_256))⟩,
  ⟨Rect.unit (s := S512x512) ![448, 128] S64x128.size inb_S512x512_S64x128_448_128, k0_pay35 (k0_pay31 (Scalar.cmpi .slt (BitVec.ofNat 32 (i 0).val) 8#32) (View.ld x3 (Rect.unit (s := S2x4x128x512) ![1, 1, 0, 0] S1x1x128x512.size inb_S2x4x128x512_S1x1x128x512_1_1_0_0)) (View.ld x4 (Rect.unit (s := S2x4x128x512) ![1, 1, 0, 0] S1x1x128x512.size inb_S2x4x128x512_S1x1x128x512_1_1_0_0))) (View.ld x1 (Rect.unit (s := S512x512) ![448, 128] S64x128.size inb_S512x512_S64x128_448_128)) (View.ld x2 (Rect.unit (s := S512x512) ![448, 128] S64x128.size inb_S512x512_S64x128_448_128))⟩,
  ⟨Rect.unit (s := S512x512) ![384, 128] S64x128.size inb_S512x512_S64x128_384_128, k0_pay34 (k0_pay31 (Scalar.cmpi .slt (BitVec.ofNat 32 (i 0).val) 8#32) (View.ld x3 (Rect.unit (s := S2x4x128x512) ![1, 1, 0, 0] S1x1x128x512.size inb_S2x4x128x512_S1x1x128x512_1_1_0_0)) (View.ld x4 (Rect.unit (s := S2x4x128x512) ![1, 1, 0, 0] S1x1x128x512.size inb_S2x4x128x512_S1x1x128x512_1_1_0_0))) (View.ld x1 (Rect.unit (s := S512x512) ![384, 128] S64x128.size inb_S512x512_S64x128_384_128)) (View.ld x2 (Rect.unit (s := S512x512) ![384, 128] S64x128.size inb_S512x512_S64x128_384_128))⟩,
  ⟨Rect.unit (s := S512x512) ![320, 128] S64x128.size inb_S512x512_S64x128_320_128, k0_pay33 (k0_pay31 (Scalar.cmpi .slt (BitVec.ofNat 32 (i 0).val) 8#32) (View.ld x3 (Rect.unit (s := S2x4x128x512) ![1, 1, 0, 0] S1x1x128x512.size inb_S2x4x128x512_S1x1x128x512_1_1_0_0)) (View.ld x4 (Rect.unit (s := S2x4x128x512) ![1, 1, 0, 0] S1x1x128x512.size inb_S2x4x128x512_S1x1x128x512_1_1_0_0))) (View.ld x1 (Rect.unit (s := S512x512) ![320, 128] S64x128.size inb_S512x512_S64x128_320_128)) (View.ld x2 (Rect.unit (s := S512x512) ![320, 128] S64x128.size inb_S512x512_S64x128_320_128))⟩,
  ⟨Rect.unit (s := S512x512) ![256, 128] S64x128.size inb_S512x512_S64x128_256_128, k0_pay32 (Scalar.cmpi .slt (BitVec.ofNat 32 (i 0).val) 8#32) (View.ld x3 (Rect.unit (s := S2x4x128x512) ![1, 1, 0, 0] S1x1x128x512.size inb_S2x4x128x512_S1x1x128x512_1_1_0_0)) (View.ld x4 (Rect.unit (s := S2x4x128x512) ![1, 1, 0, 0] S1x1x128x512.size inb_S2x4x128x512_S1x1x128x512_1_1_0_0)) (View.ld x1 (Rect.unit (s := S512x512) ![256, 128] S64x128.size inb_S512x512_S64x128_256_128)) (View.ld x2 (Rect.unit (s := S512x512) ![256, 128] S64x128.size inb_S512x512_S64x128_256_128))⟩,
  ⟨Rect.unit (s := S512x512) ![448, 0] S64x128.size inb_S512x512_S64x128_448_0, k0_pay30 (k0_pay26 (Scalar.cmpi .slt (BitVec.ofNat 32 (i 0).val) 8#32) (View.ld x3 (Rect.unit (s := S2x4x128x512) ![1, 0, 0, 0] S1x1x128x512.size inb_S2x4x128x512_S1x1x128x512_1_0_0_0)) (View.ld x4 (Rect.unit (s := S2x4x128x512) ![1, 0, 0, 0] S1x1x128x512.size inb_S2x4x128x512_S1x1x128x512_1_0_0_0))) (View.ld x1 (Rect.unit (s := S512x512) ![448, 0] S64x128.size inb_S512x512_S64x128_448_0)) (View.ld x2 (Rect.unit (s := S512x512) ![448, 0] S64x128.size inb_S512x512_S64x128_448_0))⟩,
  ⟨Rect.unit (s := S512x512) ![384, 0] S64x128.size inb_S512x512_S64x128_384_0, k0_pay29 (k0_pay26 (Scalar.cmpi .slt (BitVec.ofNat 32 (i 0).val) 8#32) (View.ld x3 (Rect.unit (s := S2x4x128x512) ![1, 0, 0, 0] S1x1x128x512.size inb_S2x4x128x512_S1x1x128x512_1_0_0_0)) (View.ld x4 (Rect.unit (s := S2x4x128x512) ![1, 0, 0, 0] S1x1x128x512.size inb_S2x4x128x512_S1x1x128x512_1_0_0_0))) (View.ld x1 (Rect.unit (s := S512x512) ![384, 0] S64x128.size inb_S512x512_S64x128_384_0)) (View.ld x2 (Rect.unit (s := S512x512) ![384, 0] S64x128.size inb_S512x512_S64x128_384_0))⟩,
  ⟨Rect.unit (s := S512x512) ![320, 0] S64x128.size inb_S512x512_S64x128_320_0, k0_pay28 (Scalar.cmpi .slt (BitVec.ofNat 32 (i 0).val) 8#32) (View.ld x3 (Rect.unit (s := S2x4x128x512) ![1, 0, 0, 0] S1x1x128x512.size inb_S2x4x128x512_S1x1x128x512_1_0_0_0)) (View.ld x4 (Rect.unit (s := S2x4x128x512) ![1, 0, 0, 0] S1x1x128x512.size inb_S2x4x128x512_S1x1x128x512_1_0_0_0)) (View.ld x1 (Rect.unit (s := S512x512) ![320, 0] S64x128.size inb_S512x512_S64x128_320_0)) (View.ld x2 (Rect.unit (s := S512x512) ![320, 0] S64x128.size inb_S512x512_S64x128_320_0))⟩,
  ⟨Rect.unit (s := S512x512) ![256, 0] S64x128.size inb_S512x512_S64x128_256_0, k0_pay27 (Scalar.cmpi .slt (BitVec.ofNat 32 (i 0).val) 8#32) (View.ld x3 (Rect.unit (s := S2x4x128x512) ![1, 0, 0, 0] S1x1x128x512.size inb_S2x4x128x512_S1x1x128x512_1_0_0_0)) (View.ld x4 (Rect.unit (s := S2x4x128x512) ![1, 0, 0, 0] S1x1x128x512.size inb_S2x4x128x512_S1x1x128x512_1_0_0_0)) (View.ld x1 (Rect.unit (s := S512x512) ![256, 0] S64x128.size inb_S512x512_S64x128_256_0)) (View.ld x2 (Rect.unit (s := S512x512) ![256, 0] S64x128.size inb_S512x512_S64x128_256_0))⟩,
  ⟨Rect.unit (s := S512x512) ![192, 384] S64x128.size inb_S512x512_S64x128_192_384, k0_pay25 (k0_pay21 (Scalar.cmpi .slt (BitVec.ofNat 32 (i 0).val) 8#32) (k0_pay20 (View.ld x3 (Rect.unit (s := S2x4x128x512) ![0, 3, 0, 0] S1x1x128x512.size inb_S2x4x128x512_S1x1x128x512_0_3_0_0))) (View.ld x4 (Rect.unit (s := S2x4x128x512) ![0, 3, 0, 0] S1x1x128x512.size inb_S2x4x128x512_S1x1x128x512_0_3_0_0))) (View.ld x1 (Rect.unit (s := S512x512) ![192, 384] S64x128.size inb_S512x512_S64x128_192_384)) (View.ld x2 (Rect.unit (s := S512x512) ![192, 384] S64x128.size inb_S512x512_S64x128_192_384))⟩,
  ⟨Rect.unit (s := S512x512) ![128, 384] S64x128.size inb_S512x512_S64x128_128_384, k0_pay24 (Scalar.cmpi .slt (BitVec.ofNat 32 (i 0).val) 8#32) (k0_pay20 (View.ld x3 (Rect.unit (s := S2x4x128x512) ![0, 3, 0, 0] S1x1x128x512.size inb_S2x4x128x512_S1x1x128x512_0_3_0_0))) (View.ld x4 (Rect.unit (s := S2x4x128x512) ![0, 3, 0, 0] S1x1x128x512.size inb_S2x4x128x512_S1x1x128x512_0_3_0_0)) (View.ld x1 (Rect.unit (s := S512x512) ![128, 384] S64x128.size inb_S512x512_S64x128_128_384)) (View.ld x2 (Rect.unit (s := S512x512) ![128, 384] S64x128.size inb_S512x512_S64x128_128_384))⟩,
  ⟨Rect.unit (s := S512x512) ![64, 384] S64x128.size inb_S512x512_S64x128_64_384, k0_pay23 (Scalar.cmpi .slt (BitVec.ofNat 32 (i 0).val) 8#32) (k0_pay20 (View.ld x3 (Rect.unit (s := S2x4x128x512) ![0, 3, 0, 0] S1x1x128x512.size inb_S2x4x128x512_S1x1x128x512_0_3_0_0))) (View.ld x4 (Rect.unit (s := S2x4x128x512) ![0, 3, 0, 0] S1x1x128x512.size inb_S2x4x128x512_S1x1x128x512_0_3_0_0)) (View.ld x1 (Rect.unit (s := S512x512) ![64, 384] S64x128.size inb_S512x512_S64x128_64_384)) (View.ld x2 (Rect.unit (s := S512x512) ![64, 384] S64x128.size inb_S512x512_S64x128_64_384))⟩,
  ⟨Rect.unit (s := S512x512) ![0, 384] S64x128.size inb_S512x512_S64x128_0_384, k0_pay22 (Scalar.cmpi .slt (BitVec.ofNat 32 (i 0).val) 8#32) (k0_pay20 (View.ld x3 (Rect.unit (s := S2x4x128x512) ![0, 3, 0, 0] S1x1x128x512.size inb_S2x4x128x512_S1x1x128x512_0_3_0_0))) (View.ld x4 (Rect.unit (s := S2x4x128x512) ![0, 3, 0, 0] S1x1x128x512.size inb_S2x4x128x512_S1x1x128x512_0_3_0_0)) (View.ld x1 (Rect.unit (s := S512x512) ![0, 384] S64x128.size inb_S512x512_S64x128_0_384)) (View.ld x2 (Rect.unit (s := S512x512) ![0, 384] S64x128.size inb_S512x512_S64x128_0_384))⟩,
  ⟨Rect.unit (s := S512x512) ![192, 256] S64x128.size inb_S512x512_S64x128_192_256, k0_pay19 (k0_pay14 (Scalar.cmpi .slt (BitVec.ofNat 32 (i 0).val) 8#32) (View.ld x3 (Rect.unit (s := S2x4x128x512) ![0, 2, 0, 0] S1x1x128x512.size inb_S2x4x128x512_S1x1x128x512_0_2_0_0)) (View.ld x4 (Rect.unit (s := S2x4x128x512) ![0, 2, 0, 0] S1x1x128x512.size inb_S2x4x128x512_S1x1x128x512_0_2_0_0))) (View.ld x1 (Rect.unit (s := S512x512) ![192, 256] S64x128.size inb_S512x512_S64x128_192_256)) (View.ld x2 (Rect.unit (s := S512x512) ![192, 256] S64x128.size inb_S512x512_S64x128_192_256))⟩,
  ⟨Rect.unit (s := S512x512) ![128, 256] S64x128.size inb_S512x512_S64x128_128_256, k0_pay18 (k0_pay14 (Scalar.cmpi .slt (BitVec.ofNat 32 (i 0).val) 8#32) (View.ld x3 (Rect.unit (s := S2x4x128x512) ![0, 2, 0, 0] S1x1x128x512.size inb_S2x4x128x512_S1x1x128x512_0_2_0_0)) (View.ld x4 (Rect.unit (s := S2x4x128x512) ![0, 2, 0, 0] S1x1x128x512.size inb_S2x4x128x512_S1x1x128x512_0_2_0_0))) (View.ld x1 (Rect.unit (s := S512x512) ![128, 256] S64x128.size inb_S512x512_S64x128_128_256)) (View.ld x2 (Rect.unit (s := S512x512) ![128, 256] S64x128.size inb_S512x512_S64x128_128_256))⟩,
  ⟨Rect.unit (s := S512x512) ![64, 256] S64x128.size inb_S512x512_S64x128_64_256, k0_pay17 (k0_pay14 (Scalar.cmpi .slt (BitVec.ofNat 32 (i 0).val) 8#32) (View.ld x3 (Rect.unit (s := S2x4x128x512) ![0, 2, 0, 0] S1x1x128x512.size inb_S2x4x128x512_S1x1x128x512_0_2_0_0)) (View.ld x4 (Rect.unit (s := S2x4x128x512) ![0, 2, 0, 0] S1x1x128x512.size inb_S2x4x128x512_S1x1x128x512_0_2_0_0))) (View.ld x1 (Rect.unit (s := S512x512) ![64, 256] S64x128.size inb_S512x512_S64x128_64_256)) (View.ld x2 (Rect.unit (s := S512x512) ![64, 256] S64x128.size inb_S512x512_S64x128_64_256))⟩,
  ⟨Rect.unit (s := S512x512) ![0, 256] S64x128.size inb_S512x512_S64x128_0_256, k0_pay16 (k0_pay15 (Scalar.cmpi .slt (BitVec.ofNat 32 (i 0).val) 8#32) (View.ld x3 (Rect.unit (s := S2x4x128x512) ![0, 2, 0, 0] S1x1x128x512.size inb_S2x4x128x512_S1x1x128x512_0_2_0_0)) (View.ld x4 (Rect.unit (s := S2x4x128x512) ![0, 2, 0, 0] S1x1x128x512.size inb_S2x4x128x512_S1x1x128x512_0_2_0_0)) (View.ld x1 (Rect.unit (s := S512x512) ![0, 256] S64x128.size inb_S512x512_S64x128_0_256)) (View.ld x2 (Rect.unit (s := S512x512) ![0, 256] S64x128.size inb_S512x512_S64x128_0_256)))⟩,
  ⟨Rect.unit (s := S512x512) ![192, 128] S64x128.size inb_S512x512_S64x128_192_128, k0_pay13 (k0_pay8 (Scalar.cmpi .slt (BitVec.ofNat 32 (i 0).val) 8#32) (View.ld x3 (Rect.unit (s := S2x4x128x512) ![0, 1, 0, 0] S1x1x128x512.size inb_S2x4x128x512_S1x1x128x512_0_1_0_0)) (View.ld x4 (Rect.unit (s := S2x4x128x512) ![0, 1, 0, 0] S1x1x128x512.size inb_S2x4x128x512_S1x1x128x512_0_1_0_0))) (View.ld x1 (Rect.unit (s := S512x512) ![192, 128] S64x128.size inb_S512x512_S64x128_192_128)) (View.ld x2 (Rect.unit (s := S512x512) ![192, 128] S64x128.size inb_S512x512_S64x128_192_128))⟩,
  ⟨Rect.unit (s := S512x512) ![128, 128] S64x128.size inb_S512x512_S64x128_128_128, k0_pay12 (k0_pay8 (Scalar.cmpi .slt (BitVec.ofNat 32 (i 0).val) 8#32) (View.ld x3 (Rect.unit (s := S2x4x128x512) ![0, 1, 0, 0] S1x1x128x512.size inb_S2x4x128x512_S1x1x128x512_0_1_0_0)) (View.ld x4 (Rect.unit (s := S2x4x128x512) ![0, 1, 0, 0] S1x1x128x512.size inb_S2x4x128x512_S1x1x128x512_0_1_0_0))) (View.ld x1 (Rect.unit (s := S512x512) ![128, 128] S64x128.size inb_S512x512_S64x128_128_128)) (View.ld x2 (Rect.unit (s := S512x512) ![128, 128] S64x128.size inb_S512x512_S64x128_128_128))⟩,
  ⟨Rect.unit (s := S512x512) ![64, 128] S64x128.size inb_S512x512_S64x128_64_128, k0_pay11 (k0_pay10 (Scalar.cmpi .slt (BitVec.ofNat 32 (i 0).val) 8#32) (View.ld x3 (Rect.unit (s := S2x4x128x512) ![0, 1, 0, 0] S1x1x128x512.size inb_S2x4x128x512_S1x1x128x512_0_1_0_0)) (View.ld x4 (Rect.unit (s := S2x4x128x512) ![0, 1, 0, 0] S1x1x128x512.size inb_S2x4x128x512_S1x1x128x512_0_1_0_0)) (View.ld x1 (Rect.unit (s := S512x512) ![64, 128] S64x128.size inb_S512x512_S64x128_64_128)) (View.ld x2 (Rect.unit (s := S512x512) ![64, 128] S64x128.size inb_S512x512_S64x128_64_128)))⟩,
  ⟨Rect.unit (s := S512x512) ![0, 128] S64x128.size inb_S512x512_S64x128_0_128, k0_pay9 (Scalar.cmpi .slt (BitVec.ofNat 32 (i 0).val) 8#32) (View.ld x3 (Rect.unit (s := S2x4x128x512) ![0, 1, 0, 0] S1x1x128x512.size inb_S2x4x128x512_S1x1x128x512_0_1_0_0)) (View.ld x4 (Rect.unit (s := S2x4x128x512) ![0, 1, 0, 0] S1x1x128x512.size inb_S2x4x128x512_S1x1x128x512_0_1_0_0)) (View.ld x1 (Rect.unit (s := S512x512) ![0, 128] S64x128.size inb_S512x512_S64x128_0_128)) (View.ld x2 (Rect.unit (s := S512x512) ![0, 128] S64x128.size inb_S512x512_S64x128_0_128))⟩,
  ⟨Rect.unit (s := S512x512) ![192, 0] S64x128.size inb_S512x512_S64x128_192_0, k0_pay7 (k0_pay2 i (View.ld x3 (Rect.unit (s := S2x4x128x512) ![0, 0, 0, 0] S1x1x128x512.size inb_S2x4x128x512_S1x1x128x512_0_0_0_0)) (View.ld x4 (Rect.unit (s := S2x4x128x512) ![0, 0, 0, 0] S1x1x128x512.size inb_S2x4x128x512_S1x1x128x512_0_0_0_0))) (View.ld x1 (Rect.unit (s := S512x512) ![192, 0] S64x128.size inb_S512x512_S64x128_192_0)) (View.ld x2 (Rect.unit (s := S512x512) ![192, 0] S64x128.size inb_S512x512_S64x128_192_0))⟩,
  ⟨Rect.unit (s := S512x512) ![128, 0] S64x128.size inb_S512x512_S64x128_128_0, k0_pay6 (k0_pay5 i (View.ld x3 (Rect.unit (s := S2x4x128x512) ![0, 0, 0, 0] S1x1x128x512.size inb_S2x4x128x512_S1x1x128x512_0_0_0_0)) (View.ld x4 (Rect.unit (s := S2x4x128x512) ![0, 0, 0, 0] S1x1x128x512.size inb_S2x4x128x512_S1x1x128x512_0_0_0_0)) (View.ld x1 (Rect.unit (s := S512x512) ![128, 0] S64x128.size inb_S512x512_S64x128_128_0)) (View.ld x2 (Rect.unit (s := S512x512) ![128, 0] S64x128.size inb_S512x512_S64x128_128_0)))⟩,
  ⟨Rect.unit (s := S512x512) ![64, 0] S64x128.size inb_S512x512_S64x128_64_0, k0_pay4 i (View.ld x3 (Rect.unit (s := S2x4x128x512) ![0, 0, 0, 0] S1x1x128x512.size inb_S2x4x128x512_S1x1x128x512_0_0_0_0)) (View.ld x4 (Rect.unit (s := S2x4x128x512) ![0, 0, 0, 0] S1x1x128x512.size inb_S2x4x128x512_S1x1x128x512_0_0_0_0)) (View.ld x1 (Rect.unit (s := S512x512) ![64, 0] S64x128.size inb_S512x512_S64x128_64_0)) (View.ld x2 (Rect.unit (s := S512x512) ![64, 0] S64x128.size inb_S512x512_S64x128_64_0))⟩,
  ⟨Rect.unit (s := S512x512) ![0, 0] S64x128.size inb_S512x512_S64x128_0_0, k0_pay3 i (View.ld x3 (Rect.unit (s := S2x4x128x512) ![0, 0, 0, 0] S1x1x128x512.size inb_S2x4x128x512_S1x1x128x512_0_0_0_0)) (View.ld x4 (Rect.unit (s := S2x4x128x512) ![0, 0, 0, 0] S1x1x128x512.size inb_S2x4x128x512_S1x1x128x512_0_0_0_0)) (View.ld x1 (Rect.unit (s := S512x512) ![0, 0] S64x128.size inb_S512x512_S64x128_0_0)) (View.ld x2 (Rect.unit (s := S512x512) ![0, 0] S64x128.size inb_S512x512_S64x128_0_0))⟩]

theorem scratch (i : grid0.Coords) (x1 : Vec Ideal S512x512 .f32) (x2 : Vec Ideal S512x512 .bf16) (x3 x4 : Vec Ideal S2x4x128x512 .bf16) (y : S512x512.Idx) :
    View.canon (pieces i x1 x2 x3 x4) y = attnBlk (Scalar.cmpi .slt (BitVec.ofNat 32 (i 0).val) 8#32) x1 x2 x3 x4 (y 0) (y 1) := by
  unfold pieces
  canon_tiles j h
  all_goals open_payloads
  all_goals pointwise []
  all_goals unfold attnBlk
  all_goals refine congrArg₂ (fun p q : EReal => p + q) (congrArg x1 (congrArg₂ ix2 (Fin.ext ?_) (Fin.ext ?_))) (Finset.sum_congr rfl fun k _ => congrArg₂ (fun p q : EReal => p * q) (congrArg x2 (congrArg₂ ix2 (Fin.ext ?_) (Fin.ext ?_))) (congrArg₂ (Scalar.select _) (at4 x3 k ?_ ?_ ?_) (at4 x4 k ?_ ?_ ?_)))
  all_goals first | omega | (dsimp only; omega)

/-- The gated, normed head of the attention output at a row and column, from the tile's values. -/
def gatedBlk (O X : Fin 512 → Fin 512 → EReal) (gn : FVec Ideal S1x128 .f32) (a k : Fin 512) : EReal :=
  O a k * Ideal.rsqrt (Ideal.div (∑ e : Fin 128, O a ⟨k.val / 128 * 128 + e.val, by omega⟩ * O a ⟨k.val / 128 * 128 + e.val, by omega⟩)
      (Ideal.ofBits FTy.f32 1124073472#32) + Ideal.ofBits FTy.f32 897988541#32)
    * gn (ix2 0 ⟨k.val % 128, by omega⟩) * silu (X a k)

theorem gatedBlk_at (O X : Fin 512 → Fin 512 → EReal) (gn : FVec Ideal S1x128 .f32) (a k : Fin 512) (b : Fin 128) (o : Nat) (ho : o % 128 = 0) (hlt : o + 128 ≤ 512) (hk : k.val = o + b.val) :
    gatedBlk O X gn a k = O a ⟨o + b.val, by omega⟩ * Ideal.rsqrt (Ideal.div (∑ e : Fin 128, O a ⟨o + e.val, by omega⟩ * O a ⟨o + e.val, by omega⟩)
      (Ideal.ofBits FTy.f32 1124073472#32) + Ideal.ofBits FTy.f32 897988541#32)
    * gn (ix2 0 b) * (X a ⟨o + b.val, by omega⟩ * Ideal.div 1 (1 + Ideal.exp (-X a ⟨o + b.val, by omega⟩))) := by
  unfold gatedBlk silu
  obtain ⟨k, hkl⟩ := k
  dsimp only at hk
  subst hk
  have h1 : ∀ e : Fin 128, (⟨(o + b.val) / 128 * 128 + e.val, by omega⟩ : Fin 512) = ⟨o + e.val, by omega⟩ := fun e => Fin.ext (by dsimp only; omega)
  have h2 : (⟨(o + b.val) % 128, by omega⟩ : Fin 128) = b := Fin.ext (by dsimp only; omega)
  simp only [h1, h2]

theorem ya_apply (O X : Fin 512 → Fin 512 → EReal) (gn : FVec Ideal S1x128 .f32) (wa : FVec Ideal S512x1024 .bf16)
    (v0 v1 v2 v3 : FVec Ideal S512x128 .f32) (g0 g1 g2 g3 : FVec Ideal S512x128 .bf16)
    (h0 : ∀ (a : Fin 512) (b : Fin 128), v0 (ix2 a b) = O a ⟨0 + b.val, by omega⟩) (h1 : ∀ (a : Fin 512) (b : Fin 128), v1 (ix2 a b) = O a ⟨128 + b.val, by omega⟩)
    (h2 : ∀ (a : Fin 512) (b : Fin 128), v2 (ix2 a b) = O a ⟨256 + b.val, by omega⟩) (h3 : ∀ (a : Fin 512) (b : Fin 128), v3 (ix2 a b) = O a ⟨384 + b.val, by omega⟩)
    (e0 : ∀ (a : Fin 512) (b : Fin 128), g0 (ix2 a b) = X a ⟨0 + b.val, by omega⟩) (e1 : ∀ (a : Fin 512) (b : Fin 128), g1 (ix2 a b) = X a ⟨128 + b.val, by omega⟩)
    (e2 : ∀ (a : Fin 512) (b : Fin 128), g2 (ix2 a b) = X a ⟨256 + b.val, by omega⟩) (e3 : ∀ (a : Fin 512) (b : Fin 128), g3 (ix2 a b) = X a ⟨384 + b.val, by omega⟩)
    (a : Fin 512) (b : Fin 1024) :
    k0_pay54 (F := Ideal) (k0_pay48 gn) (k0_pay49 gn v0 g0) (k0_pay50 (k0_pay48 gn) v1 g1) (k0_pay51 (k0_pay48 gn) v2) (k0_pay52 g2) (k0_pay53 g2)
      (Scalar.ofBits .f32 0x3F800000#32) v3 g3 wa (ix2 a b) = ∑ k : Fin 512, gatedBlk O X gn a k * wa (ix2 k b) := by
  pointwise [k0_pay54]
  refine Finset.sum_congr rfl fun k _ => congrArg (fun p : EReal => p * wa (ix2 k b)) ?_
  by_cases c0 : k.val < 128
  · rw [dif_pos c0, gatedBlk_at O X gn a k ⟨k.val, c0⟩ 0 (by omega) (by omega) (by dsimp only; omega)]
    pointwise [k0_pay49, k0_pay48]
    simp only [h0, e0, zero_sub, zero_add]
  · by_cases c1 : k.val - 128 < 128
    · rw [dif_neg c0, dif_pos c1, gatedBlk_at O X gn a k ⟨k.val - 128, c1⟩ 128 (by omega) (by omega) (by dsimp only; omega)]
      pointwise [k0_pay50, k0_pay48]
      simp only [h1, e1, zero_sub]
    · by_cases c2 : k.val - 128 - 128 < 128
      · rw [dif_neg c0, dif_neg c1, dif_pos c2, gatedBlk_at O X gn a k ⟨k.val - 128 - 128, c2⟩ 256 (by omega) (by omega) (by dsimp only; omega)]
        pointwise [k0_pay51, k0_pay52, k0_pay53, k0_pay48]
        simp only [h2, e2, zero_sub]
      · rw [dif_neg c0, dif_neg c1, dif_neg c2, gatedBlk_at O X gn a k ⟨k.val - 128 - 128 - 128, by omega⟩ 384 (by omega) (by omega) (by dsimp only; omega)]
        pointwise [k0_pay48]
        simp only [h3, e3, zero_sub]

/-- The merged branches at a row and column, from the tile's values. -/
def mergedBlk (G R : Fin 512 → Fin 512 → EReal) (wa wc : FVec Ideal S512x1024 .bf16) (g0 g2 yp : FVec Ideal S512x1024 .bf16) (a : Fin 512) (k : Fin 1024) : EReal :=
  g0 (ix2 a k) * (∑ x : Fin 512, G a x * wa (ix2 x k)) + yp (ix2 a k) + g2 (ix2 a k) * ∑ x : Fin 512, R a x * wc (ix2 x k)

/-- The residual stream after the mixer at a row and column, from the tile's values. -/
def residBlk (G R : Fin 512 → Fin 512 → EReal) (wa wc : FVec Ideal S512x1024 .bf16) (g0 g2 yp : FVec Ideal S512x1024 .bf16) (wo : FVec Ideal S1024x1024 .bf16)
    (md : FVec Ideal S1x6x1024 .f32) (x : FVec Ideal S512x1024 .f32) (a : Fin 512) (b : Fin 1024) : EReal :=
  x (ix2 a b) + md (ix3 0 2 b) * ∑ k : Fin 1024, mergedBlk G R wa wc g0 g2 yp a k * wo (ix2 k b)

theorem pay57_apply (G R : Fin 512 → Fin 512 → EReal) (wa wc : FVec Ideal S512x1024 .bf16) (g0 g2 yp : FVec Ideal S512x1024 .bf16) (wo : FVec Ideal S1024x1024 .bf16)
    (md : FVec Ideal S1x6x1024 .f32) (x : FVec Ideal S512x1024 .f32) (ya : FVec Ideal S512x1024 .f32) (w : BitVec 1) (r0 r1 : FVec Ideal S512x512 .bf16)
    (hy : ∀ (a : Fin 512) (b : Fin 1024), ya (ix2 a b) = ∑ k : Fin 512, G a k * wa (ix2 k b))
    (hr : ∀ a b : Fin 512, Scalar.select w (r0 (ix2 a b)) (r1 (ix2 a b)) = R a b) (a : Fin 512) (b : Fin 1024) :
    k0_pay57 (F := Ideal) ya (k0_pay55 (F := Ideal) w r0 r1) wc g0 yp g2 wo md x (ix2 a b) = residBlk G R wa wc g0 g2 yp wo md x a b := by
  unfold residBlk mergedBlk
  simp only [← hy, ← hr]
  pointwise [k0_pay57, k0_pay55, k0_pay56]

theorem pay1_apply (f : Fin 512 → Fin 1024 → EReal) (ya : FVec Ideal S512x1024 .f32) (v405 : FVec Ideal S512x512 .bf16) (wc g0 yp g2 : FVec Ideal S512x1024 .bf16) (wo : FVec Ideal S1024x1024 .bf16)
    (md : FVec Ideal S1x6x1024 .f32) (x : FVec Ideal S512x1024 .f32) (n2 : FVec Ideal S1x1024 .f32)
    (hx : ∀ a b, k0_pay57 (F := Ideal) ya v405 wc g0 yp g2 wo md x (ix2 a b) = f a b) (a : Fin 512) (b : Fin 1024) :
    k0_pay1 (F := Ideal) (k0_pay56 md) (k0_pay58 ya v405 wc g0 yp g2 wo md x) (k0_pay59 n2) (ix2 a b) =
      f a b * Ideal.rsqrt (Ideal.div (∑ x : Fin 1024, f a x * f a x) (Ideal.ofBits FTy.f32 1149239296#32) + Ideal.ofBits FTy.f32 897988541#32) * n2 (ix2 0 b)
        * (1 + md (ix3 0 4 b)) + md (ix3 0 3 b) := by
  generalize hv : k0_pay57 (F := Ideal) ya v405 wc g0 yp g2 wo md x = v at hx
  simp only [← hx]
  pointwise [k0_pay1, k0_pay58, k0_pay59, k0_pay56, hv]

theorem attn_blk (c : Dev nD) (t : Fin cfg0.N) (a b : Fin 512) (hlt : t.val * 512 + a.val < 20480) :
    attnBlk (Scalar.cmpi .slt (BitVec.ofNat 32 (grid0.coords t 0).val) 8#32) (iblk m c 1 t) (iblk m c 2 t) (iblk m c 3 t) (iblk m c 4 t) a b
      = attn (m ((c : Thread nD τ).loc main_arg1)) (m ((c : Thread nD τ).loc main_arg2)) (m ((c : Thread nD τ).loc main_arg3)) (m ((c : Thread nD τ).loc main_arg4)) ⟨t.val * 512 + a.val, hlt⟩ b := by
  have ht := (idx t).2.2.2.2.2.2.2.2.2.2.2.2.2.2.2.2.2.2.2.2
  have hk := ctx_word ⟨t.val, ht⟩
  dsimp only at hk
  unfold attnBlk attn state
  rw [(idx t).2.2.2.2.2.2.2.2.2.2.2.2.2.2.2.2.2.2.2.1, hk]
  simp only [select_ite]
  by_cases h8 : t.val < 8
  · have hn : (t.val * 512 + a.val) / 256 < 16 := by omega
    have h3 : win0_3.index t = ![t.val, 0, 0, 0] := (idx t).2.2.2.1.trans (by rw [Nat.min_eq_left (by omega)])
    have h1 := (idx t).2.1
    have h2 := (idx t).2.2.1
    simp only [if_pos h8, dif_pos hn]
    blk_point [iblk, V, h1, h2, h3]
  · have hn : ¬ (t.val * 512 + a.val) / 256 < 16 := by omega
    simp only [if_neg h8, dif_neg hn]
    blk_point [iblk, V, idx t]

theorem four_blk (c : Dev nD) (t : Fin cfg0.N) (a b : Fin 512) (hlt : t.val * 512 + a.val < 20480) :
    Scalar.select (Scalar.cmpi .slt (BitVec.ofNat 32 (grid0.coords t 0).val) 8#32) ((iblk m c 6 t : FVec Ideal S512x512 .bf16) (ix2 a b)) ((iblk m c 7 t : FVec Ideal S512x512 .bf16) (ix2 a b))
      = four (m ((c : Thread nD τ).loc main_arg6)) (m ((c : Thread nD τ).loc main_arg7)) ⟨t.val * 512 + a.val, hlt⟩ b := by
  have ht := (idx t).2.2.2.2.2.2.2.2.2.2.2.2.2.2.2.2.2.2.2.2
  have hk := ctx_word ⟨t.val, ht⟩
  dsimp only at hk
  unfold four
  rw [(idx t).2.2.2.2.2.2.2.2.2.2.2.2.2.2.2.2.2.2.2.1, hk]
  simp only [select_ite]
  by_cases h8 : t.val < 8
  · simp only [if_pos h8]
    rw [dif_pos (by omega)]
    have h6 : win0_6.index t = ![t.val, 0] := (idx t).2.2.2.2.2.2.1.trans (by rw [Nat.min_eq_left (by omega)])
    blk_point [iblk, V, h6]
  · simp only [if_neg h8]
    rw [dif_neg (by omega)]
    blk_point [iblk, V, idx t]

theorem attn_at (c : Dev nD) (t : Fin cfg0.N) {κ : Kind} {sp : Space} (v : View sig κ sp S512x512 .f32) (o : Nat) (ho : o + 128 ≤ 512) (inb : ∀ a, (![0, o] : Fin 2 → Nat) a + S512x128.size a ≤ S512x512.size a)
    (a : Fin 512) (e : Fin 128) (hlt : t.val * 512 + a.val < 20480) :
    View.readCov v (pieces (grid0.coords t) (iblk m c 1 t) (iblk m c 2 t) (iblk m c 3 t) (iblk m c 4 t)) (Rect.unit (s := S512x512) ![0, o] S512x128.size inb).toLoadRect (ix2 a e)
      = attn (m ((c : Thread nD τ).loc main_arg1)) (m ((c : Thread nD τ).loc main_arg2)) (m ((c : Thread nD τ).loc main_arg3)) (m ((c : Thread nD τ).loc main_arg4)) ⟨t.val * 512 + a.val, hlt⟩ ⟨o + e.val, by omega⟩ := by
  rw [View.readCov_eq_canon']
  refine (scratch _ _ _ _ _ _).trans (Eq.trans ?_ (attn_blk m c t a ⟨o + e.val, by omega⟩ hlt))
  refine congrArg₂ (attnBlk _ _ _ _ _) (Fin.ext ?_) (Fin.ext ?_)
  · show 0 + 1 * a.val = a.val
    omega
  · show o + 1 * e.val = o + e.val
    omega

theorem tile_row (t : Fin cfg0.N) (a : Fin 512) : t.val * 512 + a.val < 20480 := by
  have ht := (idx t).2.2.2.2.2.2.2.2.2.2.2.2.2.2.2.2.2.2.2.2
  omega

theorem og_at (c : Dev nD) (t : Fin cfg0.N) (o : Nat) (ho : o + 128 ≤ 512) (inb : ∀ a, (![0, o] : Fin 2 → Nat) a + S512x128.size a ≤ S512x512.size a)
    (a : Fin 512) (e : Fin 128) (hlt : t.val * 512 + a.val < 20480) :
    View.ld (iblk m c 5 t : Vec Ideal S512x512 .bf16) (Rect.unit (s := S512x512) ![0, o] S512x128.size inb) (ix2 a e)
      = (show FVec Ideal S20480x512 .bf16 from m ((c : Thread nD τ).loc main_arg5)) (ix2 ⟨t.val * 512 + a.val, hlt⟩ ⟨o + e.val, by omega⟩) := by
  refine (View.ld_unit_apply_of _ _ _ _ _ (ix2 a ⟨o + e.val, by omega⟩) (by intro d; match d with | ⟨0, _⟩ => (show a.val = 0 + a.val; omega) | ⟨1, _⟩ => (show o + e.val = o + e.val; omega))).trans ?_
  blk_point [iblk, V, idx t]

/-- The value the body multiplies out for the attention branch, at a row and column. -/
theorem ya_blk (c : Dev nD) (t : Fin cfg0.N) (a : Fin 512) (b : Fin 1024) {κ : Kind} {sp : Space} {v : View sig κ sp S512x512 .f32} :
    k0_pay54 (F := Ideal) (k0_pay48 (iblk m c 12 t)) (k0_pay49 (iblk m c 12 t) (View.readCov v (pieces (grid0.coords t) (iblk m c 1 t) (iblk m c 2 t) (iblk m c 3 t) (iblk m c 4 t)) (Rect.unit (s := S512x512) ![0, 0] S512x128.size inb_S512x512_S512x128_0_0).toLoadRect) (View.ld (iblk m c 5 t) (Rect.unit (s := S512x512) ![0, 0] S512x128.size inb_S512x512_S512x128_0_0))) (k0_pay50 (k0_pay48 (iblk m c 12 t)) (View.readCov v (pieces (grid0.coords t) (iblk m c 1 t) (iblk m c 2 t) (iblk m c 3 t) (iblk m c 4 t)) (Rect.unit (s := S512x512) ![0, 128] S512x128.size inb_S512x512_S512x128_0_128).toLoadRect) (View.ld (iblk m c 5 t) (Rect.unit (s := S512x512) ![0, 128] S512x128.size inb_S512x512_S512x128_0_128)))
      (k0_pay51 (k0_pay48 (iblk m c 12 t)) (View.readCov v (pieces (grid0.coords t) (iblk m c 1 t) (iblk m c 2 t) (iblk m c 3 t) (iblk m c 4 t)) (Rect.unit (s := S512x512) ![0, 256] S512x128.size inb_S512x512_S512x128_0_256).toLoadRect)) (k0_pay52 (View.ld (iblk m c 5 t) (Rect.unit (s := S512x512) ![0, 256] S512x128.size inb_S512x512_S512x128_0_256))) (k0_pay53 (View.ld (iblk m c 5 t) (Rect.unit (s := S512x512) ![0, 256] S512x128.size inb_S512x512_S512x128_0_256))) (Scalar.ofBits .f32 0x3F800000#32) (View.readCov v (pieces (grid0.coords t) (iblk m c 1 t) (iblk m c 2 t) (iblk m c 3 t) (iblk m c 4 t)) (Rect.unit (s := S512x512) ![0, 384] S512x128.size inb_S512x512_S512x128_0_384).toLoadRect) (View.ld (iblk m c 5 t) (Rect.unit (s := S512x512) ![0, 384] S512x128.size inb_S512x512_S512x128_0_384)) (iblk m c 14 t) (ix2 a b)
      = ∑ k : Fin 512, gated (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) ⟨t.val * 512 + a.val, tile_row t a⟩ k * (show FVec Ideal S512x1024 .bf16 from iblk m c 14 t) (ix2 k b) := by
  refine (ya_apply (fun a k => attn (m ((c : Thread nD τ).loc main_arg1)) (m ((c : Thread nD τ).loc main_arg2)) (m ((c : Thread nD τ).loc main_arg3)) (m ((c : Thread nD τ).loc main_arg4)) ⟨t.val * 512 + a.val, tile_row t a⟩ k) (fun a k => (show FVec Ideal S20480x512 .bf16 from m ((c : Thread nD τ).loc main_arg5)) (ix2 ⟨t.val * 512 + a.val, tile_row t a⟩ k))
    _ _ _ _ _ _ _ _ _ _
    (fun a b => attn_at m c t v 0 (by omega) _ a b _) (fun a b => attn_at m c t v 128 (by omega) _ a b _) (fun a b => attn_at m c t v 256 (by omega) _ a b _) (fun a b => attn_at m c t v 384 (by omega) _ a b _)
    (fun a b => ?_) (fun a b => ?_) (fun a b => ?_) (fun a b => ?_) a b).trans (Finset.sum_congr rfl fun k _ => congrArg (fun p : EReal => p * _) ?_)
  · exact og_at m c t 0 (by omega) _ a b _
  · exact og_at m c t 128 (by omega) _ a b _
  · exact og_at m c t 256 (by omega) _ a b _
  · exact og_at m c t 384 (by omega) _ a b _
  · unfold gatedBlk gated
    blk_point [iblk, V, idx t]

/-- The residual stream of a tile is the residual stream at the tile's rows. -/
theorem resid_blk (c : Dev nD) (t : Fin cfg0.N) (a : Fin 512) (b : Fin 1024) (hlt : t.val * 512 + a.val < 20480) :
    residBlk (fun a k => gated (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) ⟨t.val * 512 + a.val, tile_row t a⟩ k) (fun a k => four (m ((c : Thread nD τ).loc main_arg6)) (m ((c : Thread nD τ).loc main_arg7)) ⟨t.val * 512 + a.val, tile_row t a⟩ k) (iblk m c 14 t) (iblk m c 15 t)
      (iblk m c 8 t) (iblk m c 9 t) (iblk m c 10 t) (iblk m c 16 t) (iblk m c 11 t) (iblk m c 0 t) a b
      = resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) ⟨t.val * 512 + a.val, hlt⟩ b := by
  unfold residBlk mergedBlk resid merged
  dsimp only
  generalize hG : gated (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) ⟨t.val * 512 + a.val, hlt⟩ = G
  generalize hR : four (m ((c : Thread nD τ).loc main_arg6)) (m ((c : Thread nD τ).loc main_arg7)) ⟨t.val * 512 + a.val, hlt⟩ = R
  blk_point [iblk, V, idx t]

open Cert.RefMixOutIdeal.Read in
theorem final_x (c : Dev nD) : (dats m 0 c).arrAt 17 (cfgs 0).N = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) := by
  refine (dats m 0 c).arrAt_eq_of_covers 17 _ (by decide +kernel) fun t hf y => ?_
  have ht := (idx t).2.2.2.2.2.2.2.2.2.2.2.2.2.2.2.2.2.2.2.2
  have hlt : t.val * 512 + (y 0).val < 20480 := by have := (y 0).isLt; change _ < 512 at this; omega
  have hb : (win0_17.blk t).view.emb y = ix2 (⟨t.val * 512 + (y 0).val, hlt⟩ : Fin 20480) (y 1) := by
    blk_point [idx t]
  blk_simp
  rw [after0_17]
  unfold outsAt0 out0_A_17
  frame_out
  refine Eq.trans ?_ ((ref_x _ _ _ _ _ _ _ _ _ _ _ _ _ _ _ _ _ _).symm.trans (congrArg _ hb.symm))
  refine (congrArg _ (eq_ix2 y)).trans ((pay57_apply
    (fun a k => gated (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) ⟨t.val * 512 + a.val, tile_row t a⟩ k) (fun a k => four (m ((c : Thread nD τ).loc main_arg6)) (m ((c : Thread nD τ).loc main_arg7)) ⟨t.val * 512 + a.val, tile_row t a⟩ k) (iblk m c 14 t) _ _ _ _ _ _ _ _ _ _ _
    (fun a b => ?_) (fun a b => four_blk m c t a b _) (y 0) (y 1)).trans ?_)
  · exact ya_blk m c t a b
  · exact resid_blk m c t (y 0) (y 1) hlt

open Cert.RefMixOutIdeal.Read in
theorem final_h (c : Dev nD) : (dats m 0 c).arrAt 18 (cfgs 0).N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 18 _ (by decide +kernel) fun t hf y => ?_
  have ht := (idx t).2.2.2.2.2.2.2.2.2.2.2.2.2.2.2.2.2.2.2.2
  have hlt : t.val * 512 + (y 0).val < 20480 := by have := (y 0).isLt; change _ < 512 at this; omega
  have hb : (win0_18.blk t).view.emb y = ix2 (⟨t.val * 512 + (y 0).val, hlt⟩ : Fin 20480) (y 1) := by
    blk_point [idx t]
  blk_simp
  rw [after0_18]
  unfold outsAt0 out0_A_18
  frame_out
  refine Eq.trans ?_ ((ref_h _ _ _ _ _ _ _ _ _ _ _ _ _ _ _ _ _ _ _).symm.trans (congrArg _ hb.symm))
  refine (congrArg _ (eq_ix2 y)).trans ((pay1_apply (fun a b => resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) (m ((c : Thread nD τ).loc main_arg16)) ⟨t.val * 512 + a.val, tile_row t a⟩ b) _ _ _ _ _ _ _ _ _ _
    (fun a b => (pay57_apply
    (fun a k => gated (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) ⟨t.val * 512 + a.val, tile_row t a⟩ k) (fun a k => four (m ((c : Thread nD τ).loc main_arg6)) (m ((c : Thread nD τ).loc main_arg7)) ⟨t.val * 512 + a.val, tile_row t a⟩ k) (iblk m c 14 t) _ _ _ _ _ _ _ _ _ _ _
    (fun a b => ya_blk m c t a b) (fun a b => four_blk m c t a b _) a b).trans (resid_blk m c t a b _)) (y 0) (y 1)).trans ?_)
  unfold modNormed
  blk_point [iblk, V, idx t]

end Cert.MixOutIdeal.Sweep
end
-- ==== Proof.ScanCtx.FrameIdeal.lean ====
/- The context scan's launch: what its body leaves in the two output buffers, and the run of the whole launch. -/
module

public import proofs.«01_k».proof.Proof.Gen.ScanCtxIdeal.Frame
public import proofs.«01_k».proof.Proof.Gen.ScanCtxIdeal.Skeleton
public import Idealize.ShloMosaic.Lib.Pipeline.ReadBack
public import Idealize.ShloMosaic.Lib.Claim

@[expose] public section

set_option maxRecDepth 16384

noncomputable section

namespace Cert.ScanCtxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rU0 : Rect S1x1x128x512 := Rect.unit (s := S1x1x128x512) ![0, 0, 0, 0] S1x1x128x128.size inb_S1x1x128x512_S1x1x128x128_0_0_0_0
abbrev rG0 : Rect S1x1x1x512 := Rect.unit (s := S1x1x1x512) ![0, 0, 0, 0] S1x1x1x128.size inb_S1x1x1x512_S1x1x1x128_0_0_0_0
abbrev rU1 : Rect S1x1x128x512 := Rect.unit (s := S1x1x128x512) ![0, 0, 0, 128] S1x1x128x128.size inb_S1x1x128x512_S1x1x128x128_0_0_0_128
abbrev rG1 : Rect S1x1x1x512 := Rect.unit (s := S1x1x1x512) ![0, 0, 0, 128] S1x1x1x128.size inb_S1x1x1x512_S1x1x1x128_0_0_0_128
abbrev rU2 : Rect S1x1x128x512 := Rect.unit (s := S1x1x128x512) ![0, 0, 0, 256] S1x1x128x128.size inb_S1x1x128x512_S1x1x128x128_0_0_0_256
abbrev rG2 : Rect S1x1x1x512 := Rect.unit (s := S1x1x1x512) ![0, 0, 0, 256] S1x1x1x128.size inb_S1x1x1x512_S1x1x1x128_0_0_0_256
abbrev rU3 : Rect S1x1x128x512 := Rect.unit (s := S1x1x128x512) ![0, 0, 0, 384] S1x1x128x128.size inb_S1x1x128x512_S1x1x128x128_0_0_0_384
abbrev rG3 : Rect S1x1x1x512 := Rect.unit (s := S1x1x1x512) ![0, 0, 0, 384] S1x1x1x128.size inb_S1x1x1x512_S1x1x1x128_0_0_0_384
abbrev rS : Rect S1x1x128x128 := Rect.unit (s := S1x1x128x128) ![0, 0, 0, 0] S1x1x128x128.size inb_S1x1x128x128_S1x1x128x128_0_0_0_0

/-- Chunk 0 of the updates and of the gates. -/
abbrev ub0 (x0 : Vec F S1x1x128x512 .f32) : Vec F S1x1x128x128 .f32 := View.ld x0 rU0
abbrev gb0 (x1 : Vec F S1x1x1x512 .f32) : Vec F S1x1x1x128 .f32 := View.ld x1 rG0
/-- Chunk 1 of the updates and of the gates. -/
abbrev ub1 (x0 : Vec F S1x1x128x512 .f32) : Vec F S1x1x128x128 .f32 := View.ld x0 rU1
abbrev gb1 (x1 : Vec F S1x1x1x512 .f32) : Vec F S1x1x1x128 .f32 := View.ld x1 rG1
/-- Chunk 2 of the updates and of the gates. -/
abbrev ub2 (x0 : Vec F S1x1x128x512 .f32) : Vec F S1x1x128x128 .f32 := View.ld x0 rU2
abbrev gb2 (x1 : Vec F S1x1x1x512 .f32) : Vec F S1x1x1x128 .f32 := View.ld x1 rG2
/-- Chunk 3 of the updates and of the gates. -/
abbrev ub3 (x0 : Vec F S1x1x128x512 .f32) : Vec F S1x1x128x128 .f32 := View.ld x0 rU3
abbrev gb3 (x1 : Vec F S1x1x1x512 .f32) : Vec F S1x1x1x128 .f32 := View.ld x1 rG3
abbrev sb (x2 : Vec F S1x1x128x128 .f32) : Vec F S1x1x128x128 .f32 := View.ld x2 rS

/-- The decayed state on the way into chunk 2, in the forward and in the backward sweep. -/
def midF (x0 : Vec F S1x1x128x512 .f32) (x1 : Vec F S1x1x1x512 .f32) (x2 : Vec F S1x1x128x128 .f32) : FVec F S128x128 .f32 := k0_pay8 (sb x2) (gb0 x1) (ub0 x0) (gb1 x1)
def midB (x0 : Vec F S1x1x128x512 .f32) (x1 : Vec F S1x1x1x512 .f32) (x2 : Vec F S1x1x128x128 .f32) : FVec F S128x128 .f32 := k0_pay17 (k0_pay4 (sb x2)) (gb3 x1) (ub3 x0) (gb2 x1)

/-- What the forward sweep stores before each chunk. -/
def fw0 (x0 : Vec F S1x1x128x512 .f32) (x1 : Vec F S1x1x1x512 .f32) (x2 : Vec F S1x1x128x128 .f32) : Vec F S1x1x128x128 .bf16 := k0_pay5 (sb x2)
def fw1 (x0 : Vec F S1x1x128x512 .f32) (x1 : Vec F S1x1x1x512 .f32) (x2 : Vec F S1x1x128x128 .f32) : Vec F S1x1x128x128 .bf16 := k0_pay7 (sb x2) (gb0 x1) (ub0 x0)
def fw2 (x0 : Vec F S1x1x128x512 .f32) (x1 : Vec F S1x1x1x512 .f32) (x2 : Vec F S1x1x128x128 .f32) : Vec F S1x1x128x128 .bf16 := k0_pay10 (midF x0 x1 x2) (ub1 x0)
def fw3 (x0 : Vec F S1x1x128x512 .f32) (x1 : Vec F S1x1x1x512 .f32) (x2 : Vec F S1x1x128x128 .f32) : Vec F S1x1x128x128 .bf16 := k0_pay12 (midF x0 x1 x2) (ub1 x0) (gb2 x1) (ub2 x0)

/-- What the backward sweep leaves there, the forward lanes read back. -/
def bw3 (x0 : Vec F S1x1x128x512 .f32) (x1 : Vec F S1x1x1x512 .f32) (x2 : Vec F S1x1x128x128 .f32) : Vec F S1x1x128x128 .bf16 := k0_pay14 k0_pay2 (k0_pay4 (sb x2)) (fw3 x0 x1 x2)
def bw2 (x0 : Vec F S1x1x128x512 .f32) (x1 : Vec F S1x1x1x512 .f32) (x2 : Vec F S1x1x128x128 .f32) : Vec F S1x1x128x128 .bf16 := k0_pay16 k0_pay2 (k0_pay4 (sb x2)) (gb3 x1) (ub3 x0) (fw2 x0 x1 x2)
def bw1 (x0 : Vec F S1x1x128x512 .f32) (x1 : Vec F S1x1x1x512 .f32) (x2 : Vec F S1x1x128x128 .f32) : Vec F S1x1x128x128 .bf16 := k0_pay19 k0_pay2 (midB x0 x1 x2) (ub2 x0) (fw1 x0 x1 x2)
def bw0 (x0 : Vec F S1x1x128x512 .f32) (x1 : Vec F S1x1x1x512 .f32) (x2 : Vec F S1x1x128x128 .f32) : Vec F S1x1x128x128 .bf16 := k0_pay21 k0_pay2 (midB x0 x1 x2) (ub2 x0) (gb1 x1) (ub1 x0) (fw0 x0 x1 x2)

/-- The two output buffers after the body. -/
def out0_3 (x0 : Vec F S1x1x128x512 .f32) (x1 : Vec F S1x1x1x512 .f32) (x2 : Vec F S1x1x128x128 .f32) : Vec F S1x1x128x512 .bf16 :=
  View.canon [⟨rU0, bw0 x0 x1 x2⟩, ⟨rU1, bw1 x0 x1 x2⟩, ⟨rU2, bw2 x0 x1 x2⟩, ⟨rU3, bw3 x0 x1 x2⟩]
def out0_4 (x0 : Vec F S1x1x128x512 .f32) (x1 : Vec F S1x1x1x512 .f32) (x2 : Vec F S1x1x128x128 .f32) : Vec F S1x1x128x128 .f32 :=
  View.canon [⟨rS, k0_pay1 k0_pay3 (k0_pay13 (midF x0 x1 x2) (ub1 x0) (gb2 x1) (ub2 x0) (gb3 x1) (ub3 x0)) (k0_pay20 (midB x0 x1 x2) (ub2 x0) (gb1 x1) (ub1 x0)) (k0_pay22 (gb0 x1)) (ub0 x0)⟩]

theorem cover0_3 (p0 p1 p2 p3 : Vec F S1x1x128x128 .bf16) (y : S1x1x128x512.Idx) :
    ∃ pc ∈ ([⟨rU0, p0⟩, ⟨rU1, p1⟩, ⟨rU2, p2⟩, ⟨rU3, p3⟩] : List (View.Piece (Elt F) S1x1x128x512 .bf16)), y ∈ pc.1.set :=
  View.cover_of_tiled [⟨rU0, p0⟩, ⟨rU1, p1⟩, ⟨rU2, p2⟩, ⟨rU3, p3⟩] S1x1x128x128.size (by rfl) y
theorem cover0_4 (p0 : Vec F S1x1x128x128 .f32) (y : S1x1x128x128.Idx) :
    ∃ pc ∈ ([⟨rS, p0⟩] : List (View.Piece (Elt F) S1x1x128x128 .f32)), y ∈ pc.1.set :=
  View.cover_of_tiled [⟨rS, p0⟩] S1x1x128x128.size (by rfl) y

/-- Stores made before a list of stores that covers the buffer do not show. -/
theorem canon_append_covered {s : Shape} {e : EltTy} (L' : List (View.Piece (Elt F) s e)) (y : s.Idx) :
    ∀ L : List (View.Piece (Elt F) s e), (∃ p ∈ L, y ∈ p.1.set) → View.canon (L ++ L') y = View.canon L y
  | [], h => by obtain ⟨p, hp, _⟩ := h; exact absurd hp List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append_covered L' y L ?_
      obtain ⟨q, hq, hyq⟩ := h
      rcases List.mem_cons.mp hq with rfl | hq
      · exact absurd hyq hy
      · exact ⟨q, hq, hyq⟩

section loads
variable (v : View sig .tc .vmem S1x1x128x512 .bf16) (p0 p1 p2 p3 q1 q2 q3 : Vec F S1x1x128x128 .bf16)
/-- Each backward step reads back what the forward sweep stored at its chunk. -/
theorem back3 : v.readCov (Val := Elt F) [⟨rU3, p3⟩, ⟨rU2, p2⟩, ⟨rU1, p1⟩, ⟨rU0, p0⟩] rU3.toLoadRect = p3 :=
  View.readCov_cons_toLoadRect ..
theorem back2 : v.readCov (Val := Elt F) [⟨rU3, q3⟩, ⟨rU3, p3⟩, ⟨rU2, p2⟩, ⟨rU1, p1⟩, ⟨rU0, p0⟩] rU2.toLoadRect = p2 := by
  rw [View.readCov_skip _ _ _ _ _ (by decide +kernel), View.readCov_skip _ _ _ _ _ (by decide +kernel)]
  exact View.readCov_cons_toLoadRect ..
theorem back1 : v.readCov (Val := Elt F) [⟨rU2, q2⟩, ⟨rU3, q3⟩, ⟨rU3, p3⟩, ⟨rU2, p2⟩, ⟨rU1, p1⟩, ⟨rU0, p0⟩] rU1.toLoadRect = p1 := by
  rw [View.readCov_skip _ _ _ _ _ (by decide +kernel), View.readCov_skip _ _ _ _ _ (by decide +kernel), View.readCov_skip _ _ _ _ _ (by decide +kernel), View.readCov_skip _ _ _ _ _ (by decide +kernel)]
  exact View.readCov_cons_toLoadRect ..
theorem back0 : v.readCov (Val := Elt F) [⟨rU1, q1⟩, ⟨rU2, q2⟩, ⟨rU3, q3⟩, ⟨rU3, p3⟩, ⟨rU2, p2⟩, ⟨rU1, p1⟩, ⟨rU0, p0⟩] rU0.toLoadRect = p0 := by
  rw [View.readCov_skip _ _ _ _ _ (by decide +kernel), View.readCov_skip _ _ _ _ _ (by decide +kernel), View.readCov_skip _ _ _ _ _ (by decide +kernel), View.readCov_skip _ _ _ _ _ (by decide +kernel), View.readCov_skip _ _ _ _ _ (by decide +kernel), View.readCov_skip _ _ _ _ _ (by decide +kernel)]
  exact View.readCov_cons_toLoadRect ..
end loads

/-- Of the eight stores, last first, the four of the backward sweep show, whatever was there. -/
theorem stores3 (v : View sig .tc .vmem S1x1x128x512 .bf16) (f : v.ty.Contents (Elt F)) (b0 b1 b2 b3 p0 p1 p2 p3 c0 c1 c2 c3 : Vec F S1x1x128x128 .bf16)
    (h0 : b0 = c0) (h1 : b1 = c1) (h2 : b2 = c2) (h3 : b3 = c3) :
    v.read (Elt F) (v.writes (Elt F) f
      [⟨rU0, b0⟩, ⟨rU1, b1⟩, ⟨rU2, b2⟩, ⟨rU3, b3⟩, ⟨rU3, p3⟩, ⟨rU2, p2⟩, ⟨rU1, p1⟩, ⟨rU0, p0⟩]) =
      View.canon [⟨rU0, c0⟩, ⟨rU1, c1⟩, ⟨rU2, c2⟩, ⟨rU3, c3⟩] := by
  subst h0 h1 h2 h3
  have h := View.read_writes_eq_canon v f ([⟨rU0, b0⟩, ⟨rU1, b1⟩, ⟨rU2, b2⟩, ⟨rU3, b3⟩] ++ [⟨rU3, p3⟩, ⟨rU2, p2⟩, ⟨rU1, p1⟩, ⟨rU0, p0⟩])
    (fun y => Exists.imp (fun _ h => And.intro (List.mem_append_left _ h.1) h.2) (cover0_3 b0 b1 b2 b3 y))
  have h' := funext fun y => canon_append_covered [⟨rU3, p3⟩, ⟨rU2, p2⟩, ⟨rU1, p1⟩, ⟨rU0, p0⟩] y _ (cover0_3 b0 b1 b2 b3 y)
  exact h.trans h'

set_option maxHeartbeats 1000000 in
/-- The body on whole buffers: the inputs stay, the outputs end at `out0_3` and `out0_4` of them. -/
theorem sound_kernel (c : Dev nD) (E : Set ℕ) (i : grid0.Coords) (arg2 : Memref sig .tc .vmem S1x1x128x512 .f32) (harg2 : arg2.IsWhole) (arg3 : Memref sig .tc .vmem S1x1x1x512 .f32) (harg3 : arg3.IsWhole) (arg4 : Memref sig .tc .vmem S1x1x128x128 .f32) (harg4 : arg4.IsWhole) (arg5 : Memref sig .tc .vmem S1x1x128x512 .bf16) (harg5 : arg5.IsWhole) (arg6 : Memref sig .tc .vmem S1x1x128x128 .f32) (harg6 : arg6.IsWhole)
    (x0 : Vec F S1x1x128x512 .f32) (x1 : Vec F S1x1x1x512 .f32) (x2 : Vec F S1x1x128x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2)) -∗ K ⟨⟩))
      ⊢ wp frame (wpE (defs₀ (F := F)) Variants.none c none) E (cc0_scan i arg2 harg2 arg3 harg3 arg4 harg4 arg5 harg5 arg6 harg6) K := by
  simp only [cc0_scan_eq_skeleton]; unfold cc0_scan_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact stores3 arg5.view f3 _ _ _ _ _ _ _ _
      (bw0 (arg2.view.read (Elt F) f0) (arg3.view.read (Elt F) f1) (arg4.view.read (Elt F) f2))
      (bw1 (arg2.view.read (Elt F) f0) (arg3.view.read (Elt F) f1) (arg4.view.read (Elt F) f2))
      (bw2 (arg2.view.read (Elt F) f0) (arg3.view.read (Elt F) f1) (arg4.view.read (Elt F) f2))
      (bw3 (arg2.view.read (Elt F) f0) (arg3.view.read (Elt F) f1) (arg4.view.read (Elt F) f2))
      (congrArg (k0_pay21 _ _ _ _ _) (back0 ..)) (congrArg (k0_pay19 _ _ _) (back1 ..))
      (congrArg (k0_pay16 _ _ _ _) (back2 ..)) (congrArg (k0_pay14 _ _) (back3 ..))
  iexists _; isplitr
  swap; · iexact H4
  ipureintro
  exact View.read_writes_eq_canon _ _ _ (cover0_4 _)

/-! ## The pipeline's proof data -/

/-- What each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

/-- The arrays are the ones the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point, from its inputs' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The whole launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The argument arrays end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ScanCtxIdeal.Gen

end
-- ==== Proof.ScanCtx.Ref.lean ====
/- The context scan reference read at an index: the two directions' recurrences over the four chunks. -/
module

public import proofs.«01_k».proof.Proof.Gen.RefScanCtxIdeal.Run
public import proofs.«01_k».proof.Proof.Gen.RefScanCtxIdeal.Read
public import Idealize.ShloMosaic.Lib.Pipeline.ValueKit

@[expose] public section

set_option maxRecDepth 16384

noncomputable section

open Idealize.ShloMosaic Idealize.ShloMosaic.TcCoe Idealize.SL.Sem

namespace Cert.Proof.ScanCtx
open Cert.RefScanCtxIdeal Cert.RefScanCtxIdeal.Gen Cert.RefScanCtxIdeal.Value Cert.RefScanCtxIdeal.Read

/-- Update, gate and starting state of request `b`, head `h`, value row `q` at state lane `l` of chunk `n`. -/
def upd (x0 : FVec Ideal S80x4x128x512 .f32) (b : Fin 16) (h : Fin 4) (q : Fin 128) (l : Fin 128) (n : Fin 4) : EReal := x0 (ix4 (⟨b.val, by omega⟩ : Fin 80) h q (⟨128 * n.val + l.val, by omega⟩ : Fin 512))
def gat (x1 : FVec Ideal S80x4x1x512 .f32) (b : Fin 16) (h : Fin 4) (l : Fin 128) (n : Fin 4) : EReal := x1 (ix4 (⟨b.val, by omega⟩ : Fin 80) h (0 : Fin 1) (⟨128 * n.val + l.val, by omega⟩ : Fin 512))

/-- One step of the recurrence. -/
def step (g u s : EReal) : EReal := g * s + u

/-- The state entering each chunk and the final one: forward from chunk 0, backward from chunk 3. -/
def fwd0 (u g : Fin 4 → EReal) (s : EReal) : EReal := s
def fwd1 (u g : Fin 4 → EReal) (s : EReal) : EReal := step (g 0) (u 0) (fwd0 u g s)
def fwd2 (u g : Fin 4 → EReal) (s : EReal) : EReal := step (g 1) (u 1) (fwd1 u g s)
def fwd3 (u g : Fin 4 → EReal) (s : EReal) : EReal := step (g 2) (u 2) (fwd2 u g s)
def fwd4 (u g : Fin 4 → EReal) (s : EReal) : EReal := step (g 3) (u 3) (fwd3 u g s)
def bwd3 (u g : Fin 4 → EReal) (s : EReal) : EReal := s
def bwd2 (u g : Fin 4 → EReal) (s : EReal) : EReal := step (g 3) (u 3) (bwd3 u g s)
def bwd1 (u g : Fin 4 → EReal) (s : EReal) : EReal := step (g 2) (u 2) (bwd2 u g s)
def bwd0 (u g : Fin 4 → EReal) (s : EReal) : EReal := step (g 1) (u 1) (bwd1 u g s)
def bwdE (u g : Fin 4 → EReal) (s : EReal) : EReal := step (g 0) (u 0) (bwd0 u g s)

theorem g_0_0 (x1 : FVec Ideal S80x4x1x512 .f32) (b : Fin 16) (h : Fin 4) (q : Fin 128) (l : Fin 64) :
    val_main_v9 (F := Ideal) x1 (ix4 b h q l) = gat x1 b h (⟨l.val, by omega⟩ : Fin 128) 0 := by
  unfold gat
  pointwise [val_main_v9, val_main_v8, val_main_v7, val_main_v3, val_main_v2]
theorem g_1_0 (x1 : FVec Ideal S80x4x1x512 .f32) (b : Fin 16) (h : Fin 4) (q : Fin 128) (l : Fin 64) :
    val_main_v16 (F := Ideal) x1 (ix4 b h q l) = gat x1 b h (⟨l.val, by omega⟩ : Fin 128) 1 := by
  unfold gat
  pointwise [val_main_v16, val_main_v15, val_main_v14, val_main_v3, val_main_v2]
theorem g_2_0 (x1 : FVec Ideal S80x4x1x512 .f32) (b : Fin 16) (h : Fin 4) (q : Fin 128) (l : Fin 64) :
    val_main_v23 (F := Ideal) x1 (ix4 b h q l) = gat x1 b h (⟨l.val, by omega⟩ : Fin 128) 2 := by
  unfold gat
  pointwise [val_main_v23, val_main_v22, val_main_v21, val_main_v3, val_main_v2]
theorem g_3_0 (x1 : FVec Ideal S80x4x1x512 .f32) (b : Fin 16) (h : Fin 4) (q : Fin 128) (l : Fin 64) :
    val_main_v30 (F := Ideal) x1 (ix4 b h q l) = gat x1 b h (⟨l.val, by omega⟩ : Fin 128) 3 := by
  unfold gat
  pointwise [val_main_v30, val_main_v29, val_main_v28, val_main_v3, val_main_v2]
theorem g_3_1 (x1 : FVec Ideal S80x4x1x512 .f32) (b : Fin 16) (h : Fin 4) (q : Fin 128) (l : Fin 64) :
    val_main_v44 (F := Ideal) x1 (ix4 b h q l) = gat x1 b h (⟨64 + l.val, by omega⟩ : Fin 128) 3 := by
  unfold gat
  pointwise [val_main_v44, val_main_v43, val_main_v42, val_main_v3, val_main_v2]
  exact congrArg x1 (congrArg (ix4 _ h (0 : Fin 1)) (Fin.ext (by dsimp only; omega)))
theorem g_2_1 (x1 : FVec Ideal S80x4x1x512 .f32) (b : Fin 16) (h : Fin 4) (q : Fin 128) (l : Fin 64) :
    val_main_v51 (F := Ideal) x1 (ix4 b h q l) = gat x1 b h (⟨64 + l.val, by omega⟩ : Fin 128) 2 := by
  unfold gat
  pointwise [val_main_v51, val_main_v50, val_main_v49, val_main_v3, val_main_v2]
  exact congrArg x1 (congrArg (ix4 _ h (0 : Fin 1)) (Fin.ext (by dsimp only; omega)))
theorem g_1_1 (x1 : FVec Ideal S80x4x1x512 .f32) (b : Fin 16) (h : Fin 4) (q : Fin 128) (l : Fin 64) :
    val_main_v58 (F := Ideal) x1 (ix4 b h q l) = gat x1 b h (⟨64 + l.val, by omega⟩ : Fin 128) 1 := by
  unfold gat
  pointwise [val_main_v58, val_main_v57, val_main_v56, val_main_v3, val_main_v2]
  exact congrArg x1 (congrArg (ix4 _ h (0 : Fin 1)) (Fin.ext (by dsimp only; omega)))
theorem g_0_1 (x1 : FVec Ideal S80x4x1x512 .f32) (b : Fin 16) (h : Fin 4) (q : Fin 128) (l : Fin 64) :
    val_main_v65 (F := Ideal) x1 (ix4 b h q l) = gat x1 b h (⟨64 + l.val, by omega⟩ : Fin 128) 0 := by
  unfold gat
  pointwise [val_main_v65, val_main_v64, val_main_v63, val_main_v3, val_main_v2]
theorem u_0_0 (x0 : FVec Ideal S80x4x128x512 .f32) (b : Fin 16) (h : Fin 4) (q : Fin 128) (l : Fin 64) :
    val_main_v12 (F := Ideal) x0 (ix4 b h q l) = upd x0 b h q (⟨l.val, by omega⟩ : Fin 128) 0 := by
  unfold upd
  pointwise [val_main_v12, val_main_v11, val_main_v1, val_main_v0]
theorem u_1_0 (x0 : FVec Ideal S80x4x128x512 .f32) (b : Fin 16) (h : Fin 4) (q : Fin 128) (l : Fin 64) :
    val_main_v19 (F := Ideal) x0 (ix4 b h q l) = upd x0 b h q (⟨l.val, by omega⟩ : Fin 128) 1 := by
  unfold upd
  pointwise [val_main_v19, val_main_v18, val_main_v1, val_main_v0]
theorem u_2_0 (x0 : FVec Ideal S80x4x128x512 .f32) (b : Fin 16) (h : Fin 4) (q : Fin 128) (l : Fin 64) :
    val_main_v26 (F := Ideal) x0 (ix4 b h q l) = upd x0 b h q (⟨l.val, by omega⟩ : Fin 128) 2 := by
  unfold upd
  pointwise [val_main_v26, val_main_v25, val_main_v1, val_main_v0]
theorem u_3_0 (x0 : FVec Ideal S80x4x128x512 .f32) (b : Fin 16) (h : Fin 4) (q : Fin 128) (l : Fin 64) :
    val_main_v33 (F := Ideal) x0 (ix4 b h q l) = upd x0 b h q (⟨l.val, by omega⟩ : Fin 128) 3 := by
  unfold upd
  pointwise [val_main_v33, val_main_v32, val_main_v1, val_main_v0]
theorem u_3_1 (x0 : FVec Ideal S80x4x128x512 .f32) (b : Fin 16) (h : Fin 4) (q : Fin 128) (l : Fin 64) :
    val_main_v47 (F := Ideal) x0 (ix4 b h q l) = upd x0 b h q (⟨64 + l.val, by omega⟩ : Fin 128) 3 := by
  unfold upd
  pointwise [val_main_v47, val_main_v46, val_main_v1, val_main_v0]
  exact congrArg x0 (congrArg (ix4 _ h q) (Fin.ext (by dsimp only; omega)))
theorem u_2_1 (x0 : FVec Ideal S80x4x128x512 .f32) (b : Fin 16) (h : Fin 4) (q : Fin 128) (l : Fin 64) :
    val_main_v54 (F := Ideal) x0 (ix4 b h q l) = upd x0 b h q (⟨64 + l.val, by omega⟩ : Fin 128) 2 := by
  unfold upd
  pointwise [val_main_v54, val_main_v53, val_main_v1, val_main_v0]
  exact congrArg x0 (congrArg (ix4 _ h q) (Fin.ext (by dsimp only; omega)))
theorem u_1_1 (x0 : FVec Ideal S80x4x128x512 .f32) (b : Fin 16) (h : Fin 4) (q : Fin 128) (l : Fin 64) :
    val_main_v61 (F := Ideal) x0 (ix4 b h q l) = upd x0 b h q (⟨64 + l.val, by omega⟩ : Fin 128) 1 := by
  unfold upd
  pointwise [val_main_v61, val_main_v60, val_main_v1, val_main_v0]
  exact congrArg x0 (congrArg (ix4 _ h q) (Fin.ext (by dsimp only; omega)))
theorem u_0_1 (x0 : FVec Ideal S80x4x128x512 .f32) (b : Fin 16) (h : Fin 4) (q : Fin 128) (l : Fin 64) :
    val_main_v68 (F := Ideal) x0 (ix4 b h q l) = upd x0 b h q (⟨64 + l.val, by omega⟩ : Fin 128) 0 := by
  unfold upd
  pointwise [val_main_v68, val_main_v67, val_main_v1, val_main_v0]
theorem s_0 (x2 : FVec Ideal S16x4x128x128 .f32) (b : Fin 16) (h : Fin 4) (q : Fin 128) (l : Fin 64) :
    val_main_v6 (F := Ideal) x2 (ix4 b h q l) = x2 (ix4 b h q (⟨l.val, by omega⟩ : Fin 128)) := by
  pointwise [val_main_v6, val_main_v5, val_main_v4]
theorem s_1 (x2 : FVec Ideal S16x4x128x128 .f32) (b : Fin 16) (h : Fin 4) (q : Fin 128) (l : Fin 64) :
    val_main_v41 (F := Ideal) x2 (ix4 b h q l) = x2 (ix4 b h q (⟨64 + l.val, by omega⟩ : Fin 128)) := by
  pointwise [val_main_v41, val_main_v40, val_main_v4]
theorem fwd1_apply (x0 : FVec Ideal S80x4x128x512 .f32) (x1 : FVec Ideal S80x4x1x512 .f32) (x2 : FVec Ideal S16x4x128x128 .f32) (b : Fin 16) (h : Fin 4) (q : Fin 128) (l : Fin 64) :
    val_main_v13 (F := Ideal) x0 x1 x2 (ix4 b h q l) = fwd1 (upd x0 b h q (⟨l.val, by omega⟩ : Fin 128)) (gat x1 b h (⟨l.val, by omega⟩ : Fin 128)) (x2 (ix4 b h q (⟨l.val, by omega⟩ : Fin 128))) := by
  rw [val_main_v13_apply, val_main_v10_apply, g_0_0, u_0_0, s_0]
  rfl
theorem fwd2_apply (x0 : FVec Ideal S80x4x128x512 .f32) (x1 : FVec Ideal S80x4x1x512 .f32) (x2 : FVec Ideal S16x4x128x128 .f32) (b : Fin 16) (h : Fin 4) (q : Fin 128) (l : Fin 64) :
    val_main_v20 (F := Ideal) x0 x1 x2 (ix4 b h q l) = fwd2 (upd x0 b h q (⟨l.val, by omega⟩ : Fin 128)) (gat x1 b h (⟨l.val, by omega⟩ : Fin 128)) (x2 (ix4 b h q (⟨l.val, by omega⟩ : Fin 128))) := by
  rw [val_main_v20_apply, val_main_v17_apply, g_1_0, u_1_0, fwd1_apply]
  rfl
theorem fwd3_apply (x0 : FVec Ideal S80x4x128x512 .f32) (x1 : FVec Ideal S80x4x1x512 .f32) (x2 : FVec Ideal S16x4x128x128 .f32) (b : Fin 16) (h : Fin 4) (q : Fin 128) (l : Fin 64) :
    val_main_v27 (F := Ideal) x0 x1 x2 (ix4 b h q l) = fwd3 (upd x0 b h q (⟨l.val, by omega⟩ : Fin 128)) (gat x1 b h (⟨l.val, by omega⟩ : Fin 128)) (x2 (ix4 b h q (⟨l.val, by omega⟩ : Fin 128))) := by
  rw [val_main_v27_apply, val_main_v24_apply, g_2_0, u_2_0, fwd2_apply]
  rfl
theorem fwd4_apply (x0 : FVec Ideal S80x4x128x512 .f32) (x1 : FVec Ideal S80x4x1x512 .f32) (x2 : FVec Ideal S16x4x128x128 .f32) (b : Fin 16) (h : Fin 4) (q : Fin 128) (l : Fin 64) :
    val_main_v34 (F := Ideal) x0 x1 x2 (ix4 b h q l) = fwd4 (upd x0 b h q (⟨l.val, by omega⟩ : Fin 128)) (gat x1 b h (⟨l.val, by omega⟩ : Fin 128)) (x2 (ix4 b h q (⟨l.val, by omega⟩ : Fin 128))) := by
  rw [val_main_v34_apply, val_main_v31_apply, g_3_0, u_3_0, fwd3_apply]
  rfl
theorem bwd2_apply (x0 : FVec Ideal S80x4x128x512 .f32) (x1 : FVec Ideal S80x4x1x512 .f32) (x2 : FVec Ideal S16x4x128x128 .f32) (b : Fin 16) (h : Fin 4) (q : Fin 128) (l : Fin 64) :
    val_main_v48 (F := Ideal) x0 x1 x2 (ix4 b h q l) = bwd2 (upd x0 b h q (⟨64 + l.val, by omega⟩ : Fin 128)) (gat x1 b h (⟨64 + l.val, by omega⟩ : Fin 128)) (x2 (ix4 b h q (⟨64 + l.val, by omega⟩ : Fin 128))) := by
  rw [val_main_v48_apply, val_main_v45_apply, g_3_1, u_3_1, s_1]
  rfl
theorem bwd1_apply (x0 : FVec Ideal S80x4x128x512 .f32) (x1 : FVec Ideal S80x4x1x512 .f32) (x2 : FVec Ideal S16x4x128x128 .f32) (b : Fin 16) (h : Fin 4) (q : Fin 128) (l : Fin 64) :
    val_main_v55 (F := Ideal) x0 x1 x2 (ix4 b h q l) = bwd1 (upd x0 b h q (⟨64 + l.val, by omega⟩ : Fin 128)) (gat x1 b h (⟨64 + l.val, by omega⟩ : Fin 128)) (x2 (ix4 b h q (⟨64 + l.val, by omega⟩ : Fin 128))) := by
  rw [val_main_v55_apply, val_main_v52_apply, g_2_1, u_2_1, bwd2_apply]
  rfl
theorem bwd0_apply (x0 : FVec Ideal S80x4x128x512 .f32) (x1 : FVec Ideal S80x4x1x512 .f32) (x2 : FVec Ideal S16x4x128x128 .f32) (b : Fin 16) (h : Fin 4) (q : Fin 128) (l : Fin 64) :
    val_main_v62 (F := Ideal) x0 x1 x2 (ix4 b h q l) = bwd0 (upd x0 b h q (⟨64 + l.val, by omega⟩ : Fin 128)) (gat x1 b h (⟨64 + l.val, by omega⟩ : Fin 128)) (x2 (ix4 b h q (⟨64 + l.val, by omega⟩ : Fin 128))) := by
  rw [val_main_v62_apply, val_main_v59_apply, g_1_1, u_1_1, bwd1_apply]
  rfl
theorem bwdE_apply (x0 : FVec Ideal S80x4x128x512 .f32) (x1 : FVec Ideal S80x4x1x512 .f32) (x2 : FVec Ideal S16x4x128x128 .f32) (b : Fin 16) (h : Fin 4) (q : Fin 128) (l : Fin 64) :
    val_main_v69 (F := Ideal) x0 x1 x2 (ix4 b h q l) = bwdE (upd x0 b h q (⟨64 + l.val, by omega⟩ : Fin 128)) (gat x1 b h (⟨64 + l.val, by omega⟩ : Fin 128)) (x2 (ix4 b h q (⟨64 + l.val, by omega⟩ : Fin 128))) := by
  rw [val_main_v69_apply, val_main_v66_apply, g_0_1, u_0_1, bwd0_apply]
  rfl
theorem ss_stack (x0 : FVec Ideal S80x4x128x512 .f32) (x1 : FVec Ideal S80x4x1x512 .f32) (x2 : FVec Ideal S16x4x128x128 .f32) (b : Fin 16) (h : Fin 4) (q : Fin 128) (l : Fin 64) (r : Fin 2) (c : Fin 4) :
    val_main_v83 (F := Ideal) x0 x1 x2 (ix4 b h (⟨64 * r.val + l.val, by omega⟩ : Fin 128) (⟨128 * c.val + q.val, by omega⟩ : Fin 512)) = val_main_v77 (F := Ideal) x0 x1 x2 (ix6 r c b h q l) := by
  pointwise [val_main_v83, val_main_v82, val_main_v78]
  done
theorem stack_0 (x0 : FVec Ideal S80x4x128x512 .f32) (x1 : FVec Ideal S80x4x1x512 .f32) (x2 : FVec Ideal S16x4x128x128 .f32) (b : Fin 16) (h : Fin 4) (q : Fin 128) (l : Fin 64) (c : Fin 4) :
    val_main_v77 (F := Ideal) x0 x1 x2 (ix6 (0 : Fin 2) c b h q l) = val_main_v39 (F := Ideal) x0 x1 x2 (ix5 c b h q l) := by
  pointwise [val_main_v77, val_main_v75]
theorem stack_1 (x0 : FVec Ideal S80x4x128x512 .f32) (x1 : FVec Ideal S80x4x1x512 .f32) (x2 : FVec Ideal S16x4x128x128 .f32) (b : Fin 16) (h : Fin 4) (q : Fin 128) (l : Fin 64) (c : Fin 4) :
    val_main_v77 (F := Ideal) x0 x1 x2 (ix6 (1 : Fin 2) c b h q l) = val_main_v74 (F := Ideal) x0 x1 x2 (ix5 c b h q l) := by
  pointwise [val_main_v77, val_main_v76]
theorem ent_fwd0 (x0 : FVec Ideal S80x4x128x512 .f32) (x1 : FVec Ideal S80x4x1x512 .f32) (x2 : FVec Ideal S16x4x128x128 .f32) (b : Fin 16) (h : Fin 4) (q : Fin 128) (l : Fin 64) :
    val_main_v39 (F := Ideal) x0 x1 x2 (ix5 (0 : Fin 4) b h q l) = fwd0 (upd x0 b h q (⟨l.val, by omega⟩ : Fin 128)) (gat x1 b h (⟨l.val, by omega⟩ : Fin 128)) (x2 (ix4 b h q (⟨l.val, by omega⟩ : Fin 128))) := by
  refine Eq.trans ?_ (s_0 x2 b h q l)
  pointwise [val_main_v39, val_main_v35]
theorem ent_fwd1 (x0 : FVec Ideal S80x4x128x512 .f32) (x1 : FVec Ideal S80x4x1x512 .f32) (x2 : FVec Ideal S16x4x128x128 .f32) (b : Fin 16) (h : Fin 4) (q : Fin 128) (l : Fin 64) :
    val_main_v39 (F := Ideal) x0 x1 x2 (ix5 (1 : Fin 4) b h q l) = fwd1 (upd x0 b h q (⟨l.val, by omega⟩ : Fin 128)) (gat x1 b h (⟨l.val, by omega⟩ : Fin 128)) (x2 (ix4 b h q (⟨l.val, by omega⟩ : Fin 128))) := by
  refine Eq.trans ?_ (fwd1_apply x0 x1 x2 b h q l)
  pointwise [val_main_v39, val_main_v36]
theorem ent_fwd2 (x0 : FVec Ideal S80x4x128x512 .f32) (x1 : FVec Ideal S80x4x1x512 .f32) (x2 : FVec Ideal S16x4x128x128 .f32) (b : Fin 16) (h : Fin 4) (q : Fin 128) (l : Fin 64) :
    val_main_v39 (F := Ideal) x0 x1 x2 (ix5 (2 : Fin 4) b h q l) = fwd2 (upd x0 b h q (⟨l.val, by omega⟩ : Fin 128)) (gat x1 b h (⟨l.val, by omega⟩ : Fin 128)) (x2 (ix4 b h q (⟨l.val, by omega⟩ : Fin 128))) := by
  refine Eq.trans ?_ (fwd2_apply x0 x1 x2 b h q l)
  pointwise [val_main_v39, val_main_v37]
theorem ent_fwd3 (x0 : FVec Ideal S80x4x128x512 .f32) (x1 : FVec Ideal S80x4x1x512 .f32) (x2 : FVec Ideal S16x4x128x128 .f32) (b : Fin 16) (h : Fin 4) (q : Fin 128) (l : Fin 64) :
    val_main_v39 (F := Ideal) x0 x1 x2 (ix5 (3 : Fin 4) b h q l) = fwd3 (upd x0 b h q (⟨l.val, by omega⟩ : Fin 128)) (gat x1 b h (⟨l.val, by omega⟩ : Fin 128)) (x2 (ix4 b h q (⟨l.val, by omega⟩ : Fin 128))) := by
  refine Eq.trans ?_ (fwd3_apply x0 x1 x2 b h q l)
  pointwise [val_main_v39, val_main_v38]
theorem ent_bwd0 (x0 : FVec Ideal S80x4x128x512 .f32) (x1 : FVec Ideal S80x4x1x512 .f32) (x2 : FVec Ideal S16x4x128x128 .f32) (b : Fin 16) (h : Fin 4) (q : Fin 128) (l : Fin 64) :
    val_main_v74 (F := Ideal) x0 x1 x2 (ix5 (0 : Fin 4) b h q l) = bwd0 (upd x0 b h q (⟨64 + l.val, by omega⟩ : Fin 128)) (gat x1 b h (⟨64 + l.val, by omega⟩ : Fin 128)) (x2 (ix4 b h q (⟨64 + l.val, by omega⟩ : Fin 128))) := by
  refine Eq.trans ?_ (bwd0_apply x0 x1 x2 b h q l)
  pointwise [val_main_v74, val_main_v70]
theorem ent_bwd1 (x0 : FVec Ideal S80x4x128x512 .f32) (x1 : FVec Ideal S80x4x1x512 .f32) (x2 : FVec Ideal S16x4x128x128 .f32) (b : Fin 16) (h : Fin 4) (q : Fin 128) (l : Fin 64) :
    val_main_v74 (F := Ideal) x0 x1 x2 (ix5 (1 : Fin 4) b h q l) = bwd1 (upd x0 b h q (⟨64 + l.val, by omega⟩ : Fin 128)) (gat x1 b h (⟨64 + l.val, by omega⟩ : Fin 128)) (x2 (ix4 b h q (⟨64 + l.val, by omega⟩ : Fin 128))) := by
  refine Eq.trans ?_ (bwd1_apply x0 x1 x2 b h q l)
  pointwise [val_main_v74, val_main_v71]
theorem ent_bwd2 (x0 : FVec Ideal S80x4x128x512 .f32) (x1 : FVec Ideal S80x4x1x512 .f32) (x2 : FVec Ideal S16x4x128x128 .f32) (b : Fin 16) (h : Fin 4) (q : Fin 128) (l : Fin 64) :
    val_main_v74 (F := Ideal) x0 x1 x2 (ix5 (2 : Fin 4) b h q l) = bwd2 (upd x0 b h q (⟨64 + l.val, by omega⟩ : Fin 128)) (gat x1 b h (⟨64 + l.val, by omega⟩ : Fin 128)) (x2 (ix4 b h q (⟨64 + l.val, by omega⟩ : Fin 128))) := by
  refine Eq.trans ?_ (bwd2_apply x0 x1 x2 b h q l)
  pointwise [val_main_v74, val_main_v72]
theorem ent_bwd3 (x0 : FVec Ideal S80x4x128x512 .f32) (x1 : FVec Ideal S80x4x1x512 .f32) (x2 : FVec Ideal S16x4x128x128 .f32) (b : Fin 16) (h : Fin 4) (q : Fin 128) (l : Fin 64) :
    val_main_v74 (F := Ideal) x0 x1 x2 (ix5 (3 : Fin 4) b h q l) = bwd3 (upd x0 b h q (⟨64 + l.val, by omega⟩ : Fin 128)) (gat x1 b h (⟨64 + l.val, by omega⟩ : Fin 128)) (x2 (ix4 b h q (⟨64 + l.val, by omega⟩ : Fin 128))) := by
  refine Eq.trans ?_ (s_1 x2 b h q l)
  pointwise [val_main_v74, val_main_v73]
theorem fin_fwd4 (x0 : FVec Ideal S80x4x128x512 .f32) (x1 : FVec Ideal S80x4x1x512 .f32) (x2 : FVec Ideal S16x4x128x128 .f32) (b : Fin 16) (h : Fin 4) (q : Fin 128) (l : Fin 64) :
    val_main_v81 (F := Ideal) x0 x1 x2 (ix5 b h q (0 : Fin 2) l) = fwd4 (upd x0 b h q (⟨l.val, by omega⟩ : Fin 128)) (gat x1 b h (⟨l.val, by omega⟩ : Fin 128)) (x2 (ix4 b h q (⟨l.val, by omega⟩ : Fin 128))) := by
  refine Eq.trans ?_ (fwd4_apply x0 x1 x2 b h q l)
  pointwise [val_main_v81, val_main_v79]
theorem fin_bwdE (x0 : FVec Ideal S80x4x128x512 .f32) (x1 : FVec Ideal S80x4x1x512 .f32) (x2 : FVec Ideal S16x4x128x128 .f32) (b : Fin 16) (h : Fin 4) (q : Fin 128) (l : Fin 64) :
    val_main_v81 (F := Ideal) x0 x1 x2 (ix5 b h q (1 : Fin 2) l) = bwdE (upd x0 b h q (⟨64 + l.val, by omega⟩ : Fin 128)) (gat x1 b h (⟨64 + l.val, by omega⟩ : Fin 128)) (x2 (ix4 b h q (⟨64 + l.val, by omega⟩ : Fin 128))) := by
  refine Eq.trans ?_ (bwdE_apply x0 x1 x2 b h q l)
  pointwise [val_main_v81, val_main_v80]
theorem sf_lanes (x0 : FVec Ideal S80x4x128x512 .f32) (x1 : FVec Ideal S80x4x1x512 .f32) (x2 : FVec Ideal S16x4x128x128 .f32) (b : Fin 16) (h : Fin 4) (q : Fin 128) (l : Fin 64) (r : Fin 2) :
    val_main_v84 (F := Ideal) x0 x1 x2 (ix4 b h q (⟨64 * r.val + l.val, by omega⟩ : Fin 128)) = val_main_v81 (F := Ideal) x0 x1 x2 (ix5 b h q r l) := by
  pointwise [val_main_v84]
  done

/-- The state entering chunk `n`: the forward direction's in the lower half of the lanes, the backward one's in the upper. -/
def entF (u g : Fin 4 → EReal) (s : EReal) : Nat → EReal
  | 0 => fwd0 u g s
  | 1 => fwd1 u g s
  | 2 => fwd2 u g s
  | _ => fwd3 u g s
def entB (u g : Fin 4 → EReal) (s : EReal) : Nat → EReal
  | 0 => bwd0 u g s
  | 1 => bwd1 u g s
  | 2 => bwd2 u g s
  | _ => bwd3 u g s
def ssAt (u g : Fin 4 → EReal) (s : EReal) (p : Fin 128) (n : Nat) : EReal := if p.val < 64 then entF u g s n else entB u g s n
def sfAt (u g : Fin 4 → EReal) (s : EReal) (p : Fin 128) : EReal := if p.val < 64 then fwd4 u g s else bwdE u g s

theorem ss_at (x0 : FVec Ideal S80x4x128x512 .f32) (x1 : FVec Ideal S80x4x1x512 .f32) (x2 : FVec Ideal S16x4x128x128 .f32) (b : Fin 16) (h : Fin 4) (q : Fin 128) (p : Fin 128) (c : Fin 4) :
    val_main_v83 (F := Ideal) x0 x1 x2 (ix4 b h p (⟨128 * c.val + q.val, by omega⟩ : Fin 512)) =
      ssAt (upd x0 b h q p) (gat x1 b h p) (x2 (ix4 b h q p)) p c.val := by
  by_cases hp : p.val < 64
  · have e : p = (⟨64 * (0 : Fin 2).val + (⟨p.val, hp⟩ : Fin 64).val, by dsimp only; omega⟩ : Fin 128) := Fin.ext (by simp)
    refine (congrArg (fun a => val_main_v83 (F := Ideal) x0 x1 x2 (ix4 b h a (⟨128 * c.val + q.val, by omega⟩ : Fin 512))) e).trans
      ((ss_stack x0 x1 x2 b h q ⟨p.val, hp⟩ 0 c).trans ((stack_0 x0 x1 x2 b h q ⟨p.val, hp⟩ c).trans ?_))
    unfold ssAt
    rw [if_pos hp]
    match c with
    | 0 => exact ent_fwd0 x0 x1 x2 b h q ⟨p.val, hp⟩
    | 1 => exact ent_fwd1 x0 x1 x2 b h q ⟨p.val, hp⟩
    | 2 => exact ent_fwd2 x0 x1 x2 b h q ⟨p.val, hp⟩
    | 3 => exact ent_fwd3 x0 x1 x2 b h q ⟨p.val, hp⟩
  · obtain ⟨l, rfl⟩ : ∃ l : Fin 64, p = ⟨64 + l.val, Nat.add_lt_add_left l.isLt 64⟩ := ⟨⟨p.val - 64, by omega⟩, Fin.ext (by dsimp only; omega)⟩
    refine ((ss_stack x0 x1 x2 b h q l 1 c).trans ((stack_1 x0 x1 x2 b h q l c).trans ?_))
    unfold ssAt
    rw [if_neg hp]
    match c with
    | 0 => exact ent_bwd0 x0 x1 x2 b h q l
    | 1 => exact ent_bwd1 x0 x1 x2 b h q l
    | 2 => exact ent_bwd2 x0 x1 x2 b h q l
    | 3 => exact ent_bwd3 x0 x1 x2 b h q l

theorem sf_at (x0 : FVec Ideal S80x4x128x512 .f32) (x1 : FVec Ideal S80x4x1x512 .f32) (x2 : FVec Ideal S16x4x128x128 .f32) (b : Fin 16) (h : Fin 4) (q : Fin 128) (p : Fin 128) :
    val_main_v84 (F := Ideal) x0 x1 x2 (ix4 b h q p) = sfAt (upd x0 b h q p) (gat x1 b h p) (x2 (ix4 b h q p)) p := by
  by_cases hp : p.val < 64
  · have e : p = (⟨64 * (0 : Fin 2).val + (⟨p.val, hp⟩ : Fin 64).val, by dsimp only; omega⟩ : Fin 128) := Fin.ext (by simp)
    refine (congrArg (fun a => val_main_v84 (F := Ideal) x0 x1 x2 (ix4 b h q a)) e).trans ((sf_lanes x0 x1 x2 b h q ⟨p.val, hp⟩ 0).trans ?_)
    unfold sfAt
    rw [if_pos hp]
    exact fin_fwd4 x0 x1 x2 b h q ⟨p.val, hp⟩
  · obtain ⟨l, rfl⟩ : ∃ l : Fin 64, p = ⟨64 + l.val, Nat.add_lt_add_left l.isLt 64⟩ := ⟨⟨p.val - 64, by omega⟩, Fin.ext (by dsimp only; omega)⟩
    refine (sf_lanes x0 x1 x2 b h q l 1).trans ?_
    unfold sfAt
    rw [if_neg hp]
    exact fin_bwdE x0 x1 x2 b h q l

end Cert.Proof.ScanCtx
end
-- ==== Proof.ScanCtx.Sweep.lean ====
/- The context scan kernel: every point runs one head of one request through its four chunks, both ways. -/
module

public import proofs.«01_k».proof.Proof.ScanCtx.FrameIdeal
public import proofs.«01_k».proof.Proof.ScanCtx.Ref

@[expose] public section

set_option maxRecDepth 16384

noncomputable section

open Idealize.ShloMosaic Idealize.ShloMosaic.TcCoe Idealize.SL.Sem
open Idealize.ShloMosaic.Pipeline (Dat)

namespace Cert.ScanCtxIdeal.Sweep
open Cert.ScanCtxIdeal Cert.ScanCtxIdeal.Gen Cert.Proof.ScanCtx
variable (m : (ℓ : Loc nD τ sig) → Buf (Elt Ideal) ℓ)

theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_3.index t = ![t.val / 4, t.val % 4, 0, 0]
    ∧ win0_4.index t = ![t.val / 4, t.val % 4, 0, 0] ∧ t.val < 64 :=
  (by decide +kernel : ∀ t : Fin grid0.N, _)

theorem half_word : ∀ p : Fin 128, Scalar.cmpi CmpIPredicate.slt (BitVec.ofNat 32 p.val) 64#32 = if p.val < 64 then 1#1 else 0#1 := by
  decide +kernel

theorem select_half (p : Fin 128) (x y : EReal) : Scalar.select (Scalar.cmpi CmpIPredicate.slt (BitVec.ofNat 32 p.val) 64#32) x y = if p.val < 64 then x else y := by
  rw [half_word]
  by_cases h : p.val < 64 <;> simp [h, Scalar.select]

/-- Updates, gates and starting state of a point's blocks at value row `q` and state lane `l`. -/
def U (x0 : FVec Ideal S1x1x128x512 .f32) (q l : Fin 128) (n : Fin 4) : EReal := x0 (ix4 (0 : Fin 1) (0 : Fin 1) q (⟨128 * n.val + l.val, by omega⟩ : Fin 512))
def G (x1 : FVec Ideal S1x1x1x512 .f32) (l : Fin 128) (n : Fin 4) : EReal := x1 (ix4 (0 : Fin 1) (0 : Fin 1) (0 : Fin 1) (⟨128 * n.val + l.val, by omega⟩ : Fin 512))
def S (x2 : FVec Ideal S1x1x128x128 .f32) (q l : Fin 128) : EReal := x2 (ix4 (0 : Fin 1) (0 : Fin 1) q l)

section
variable (s : FVec Ideal S1x1x128x128 .f32) (u g : Fin 4 → Fin 128 → Fin 128 → EReal)
variable (u0 u1 u2 u3 : FVec Ideal S1x1x128x128 .f32) (g0 g1 g2 g3 : FVec Ideal S1x1x1x128 .f32) (r : FVec Ideal S128x128 .f32) (q l : Fin 128)

theorem pay4_apply : k0_pay4 (F := Ideal) s (ix2 q l) = s (ix4 0 0 q l) := by pointwise [k0_pay4]
theorem pay6_apply : k0_pay6 (F := Ideal) s g0 u0 (ix2 q l) = step (g0 (ix4 0 0 0 l)) (u0 (ix4 0 0 q l)) (s (ix4 0 0 q l)) := by
  unfold step
  pointwise [k0_pay6, k0_pay4]
theorem pay8_apply : k0_pay8 (F := Ideal) s g0 u0 g1 (ix2 q l) = g1 (ix4 0 0 0 l) * k0_pay6 (F := Ideal) s g0 u0 (ix2 q l) := by pointwise [k0_pay8]
theorem pay9_apply : k0_pay9 (F := Ideal) r u1 (ix2 q l) = r (ix2 q l) + u1 (ix4 0 0 q l) := by pointwise [k0_pay9]
theorem pay11_apply : k0_pay11 (F := Ideal) r u1 g2 u2 (ix2 q l) = step (g2 (ix4 0 0 0 l)) (u2 (ix4 0 0 q l)) (k0_pay9 (F := Ideal) r u1 (ix2 q l)) := by
  unfold step
  pointwise [k0_pay11]
theorem pay13_apply : k0_pay13 (F := Ideal) r u1 g2 u2 g3 u3 (ix2 q l) = step (g3 (ix4 0 0 0 l)) (u3 (ix4 0 0 q l)) (k0_pay11 (F := Ideal) r u1 g2 u2 (ix2 q l)) := by
  unfold step
  pointwise [k0_pay13]
theorem pay15_apply : k0_pay15 (F := Ideal) r g3 u3 (ix2 q l) = step (g3 (ix4 0 0 0 l)) (u3 (ix4 0 0 q l)) (r (ix2 q l)) := by
  unfold step
  pointwise [k0_pay15]
theorem pay17_apply : k0_pay17 (F := Ideal) r g3 u3 g2 (ix2 q l) = g2 (ix4 0 0 0 l) * k0_pay15 (F := Ideal) r g3 u3 (ix2 q l) := by pointwise [k0_pay17]
theorem pay18_apply : k0_pay18 (F := Ideal) r u2 (ix2 q l) = r (ix2 q l) + u2 (ix4 0 0 q l) := by pointwise [k0_pay18]
theorem pay20_apply : k0_pay20 (F := Ideal) r u2 g1 u1 (ix2 q l) = step (g1 (ix4 0 0 0 l)) (u1 (ix4 0 0 q l)) (k0_pay18 (F := Ideal) r u2 (ix2 q l)) := by
  unfold step
  pointwise [k0_pay20]

theorem st5 : k0_pay5 (F := Ideal) s (ix4 0 0 l q) = k0_pay4 (F := Ideal) s (ix2 q l) := by pointwise [k0_pay5]
theorem st7 : k0_pay7 (F := Ideal) s g0 u0 (ix4 0 0 l q) = k0_pay6 (F := Ideal) s g0 u0 (ix2 q l) := by pointwise [k0_pay7]
theorem st10 : k0_pay10 (F := Ideal) r u1 (ix4 0 0 l q) = k0_pay9 (F := Ideal) r u1 (ix2 q l) := by pointwise [k0_pay10]
theorem st12 : k0_pay12 (F := Ideal) r u1 g2 u2 (ix4 0 0 l q) = k0_pay11 (F := Ideal) r u1 g2 u2 (ix2 q l) := by pointwise [k0_pay12]
variable (w : FVec Ideal S1x1x128x128 .bf16)
theorem st14 : k0_pay14 (F := Ideal) k0_pay2 r w (ix4 0 0 l q) = if l.val < 64 then w (ix4 0 0 l q) else r (ix2 q l) := by
  rw [← select_half]
  pointwise [k0_pay14, k0_pay2]
  rfl
theorem st16 : k0_pay16 (F := Ideal) k0_pay2 r g3 u3 w (ix4 0 0 l q) = if l.val < 64 then w (ix4 0 0 l q) else k0_pay15 (F := Ideal) r g3 u3 (ix2 q l) := by
  rw [← select_half]
  pointwise [k0_pay16, k0_pay2]
  rfl
theorem st19 : k0_pay19 (F := Ideal) k0_pay2 r u2 w (ix4 0 0 l q) = if l.val < 64 then w (ix4 0 0 l q) else k0_pay18 (F := Ideal) r u2 (ix2 q l) := by
  rw [← select_half]
  pointwise [k0_pay19, k0_pay2]
  rfl
theorem st21 : k0_pay21 (F := Ideal) k0_pay2 r u2 g1 u1 w (ix4 0 0 l q) = if l.val < 64 then w (ix4 0 0 l q) else k0_pay20 (F := Ideal) r u2 g1 u1 (ix2 q l) := by
  rw [← select_half]
  pointwise [k0_pay21, k0_pay2]
  rfl
theorem st1 (a b : FVec Ideal S128x128 .f32) : k0_pay1 (F := Ideal) k0_pay3 a b (k0_pay22 g0) u0 (ix4 0 0 q l) =
    if l.val < 64 then a (ix2 q l) else step (g0 (ix4 0 0 0 l)) (u0 (ix4 0 0 q l)) (b (ix2 q l)) := by
  unfold step
  rw [← select_half]
  pointwise [k0_pay1, k0_pay3, k0_pay22]
  rfl
end

section
variable (x0 : FVec Ideal S1x1x128x512 .f32) (x1 : FVec Ideal S1x1x1x512 .f32) (x2 : FVec Ideal S1x1x128x128 .f32) (q l : Fin 128)
theorem ub0_apply : ub0 (F := Ideal) x0 (ix4 0 0 q l) = U x0 q l 0 := by
  unfold U ub0 rU0
  pointwise []
theorem ub1_apply : ub1 (F := Ideal) x0 (ix4 0 0 q l) = U x0 q l 1 := by
  unfold U ub1 rU1
  pointwise []
theorem ub2_apply : ub2 (F := Ideal) x0 (ix4 0 0 q l) = U x0 q l 2 := by
  unfold U ub2 rU2
  pointwise []
theorem ub3_apply : ub3 (F := Ideal) x0 (ix4 0 0 q l) = U x0 q l 3 := by
  unfold U ub3 rU3
  pointwise []
theorem gb0_apply : gb0 (F := Ideal) x1 (ix4 0 0 0 l) = G x1 l 0 := by
  unfold G gb0 rG0
  pointwise []
theorem gb1_apply : gb1 (F := Ideal) x1 (ix4 0 0 0 l) = G x1 l 1 := by
  unfold G gb1 rG1
  pointwise []
theorem gb2_apply : gb2 (F := Ideal) x1 (ix4 0 0 0 l) = G x1 l 2 := by
  unfold G gb2 rG2
  pointwise []
theorem gb3_apply : gb3 (F := Ideal) x1 (ix4 0 0 0 l) = G x1 l 3 := by
  unfold G gb3 rG3
  pointwise []
theorem sb_apply : sb (F := Ideal) x2 (ix4 0 0 q l) = S x2 q l := by
  unfold S sb rS
  pointwise []

theorem fw0_apply : fw0 (F := Ideal) x0 x1 x2 (ix4 0 0 l q) = fwd0 (U x0 q l) (G x1 l) (S x2 q l) := by
  unfold fw0
  rw [st5, pay4_apply, sb_apply]; rfl
theorem fw1_apply : fw1 (F := Ideal) x0 x1 x2 (ix4 0 0 l q) = fwd1 (U x0 q l) (G x1 l) (S x2 q l) := by
  unfold fw1
  rw [st7, pay6_apply, sb_apply, ub0_apply, gb0_apply]; rfl
theorem mid2 : k0_pay9 (F := Ideal) (midF x0 x1 x2) (ub1 x0) (ix2 q l) = fwd2 (U x0 q l) (G x1 l) (S x2 q l) := by
  unfold midF
  rw [pay9_apply, pay8_apply, pay6_apply, sb_apply, ub0_apply, gb0_apply, ub1_apply, gb1_apply]; rfl
theorem fw2_apply : fw2 (F := Ideal) x0 x1 x2 (ix4 0 0 l q) = fwd2 (U x0 q l) (G x1 l) (S x2 q l) := by
  unfold fw2
  rw [st10, mid2]
theorem mid3 : k0_pay11 (F := Ideal) (midF x0 x1 x2) (ub1 x0) (gb2 x1) (ub2 x0) (ix2 q l) = fwd3 (U x0 q l) (G x1 l) (S x2 q l) := by
  rw [pay11_apply, mid2, ub2_apply, gb2_apply]; rfl
theorem fw3_apply : fw3 (F := Ideal) x0 x1 x2 (ix4 0 0 l q) = fwd3 (U x0 q l) (G x1 l) (S x2 q l) := by
  unfold fw3
  rw [st12, mid3]
theorem back2_apply : k0_pay15 (F := Ideal) (k0_pay4 (sb x2)) (gb3 x1) (ub3 x0) (ix2 q l) = bwd2 (U x0 q l) (G x1 l) (S x2 q l) := by
  rw [pay15_apply, pay4_apply, sb_apply, ub3_apply, gb3_apply]; rfl
theorem back1_apply : k0_pay18 (F := Ideal) (midB x0 x1 x2) (ub2 x0) (ix2 q l) = bwd1 (U x0 q l) (G x1 l) (S x2 q l) := by
  unfold midB
  rw [pay18_apply, pay17_apply, back2_apply, ub2_apply, gb2_apply]; rfl
theorem back0_apply : k0_pay20 (F := Ideal) (midB x0 x1 x2) (ub2 x0) (gb1 x1) (ub1 x0) (ix2 q l) = bwd0 (U x0 q l) (G x1 l) (S x2 q l) := by
  rw [pay20_apply, back1_apply, ub1_apply, gb1_apply]; rfl
theorem bw3_apply : bw3 (F := Ideal) x0 x1 x2 (ix4 0 0 l q) = ssAt (U x0 q l) (G x1 l) (S x2 q l) l 3 := by
  unfold bw3 ssAt
  rw [st14, fw3_apply, pay4_apply, sb_apply]; rfl
theorem bw2_apply : bw2 (F := Ideal) x0 x1 x2 (ix4 0 0 l q) = ssAt (U x0 q l) (G x1 l) (S x2 q l) l 2 := by
  unfold bw2 ssAt
  rw [st16, fw2_apply, back2_apply]; rfl
theorem bw1_apply : bw1 (F := Ideal) x0 x1 x2 (ix4 0 0 l q) = ssAt (U x0 q l) (G x1 l) (S x2 q l) l 1 := by
  unfold bw1 ssAt
  rw [st19, fw1_apply, back1_apply]; rfl
theorem bw0_apply : bw0 (F := Ideal) x0 x1 x2 (ix4 0 0 l q) = ssAt (U x0 q l) (G x1 l) (S x2 q l) l 0 := by
  unfold bw0 ssAt
  rw [st21, fw0_apply, back0_apply]; rfl

theorem ss_case (w : FVec Ideal S1x1x128x128 .bf16) (k : Nat) (hw : ∀ q l : Fin 128, w (ix4 0 0 l q) = ssAt (U x0 q l) (G x1 l) (S x2 q l) l k)
    (y : S1x1x128x512.Idx) (j : S1x1x128x128.Idx) (h2 : (y 2).val = (j 2).val) (h3 : (y 3).val = 128 * k + (j 3).val) : w j =
    ssAt (U x0 (⟨(y 3).val % 128, Nat.mod_lt _ (by decide)⟩ : Fin 128) (y 2)) (G x1 (y 2)) (S x2 (⟨(y 3).val % 128, Nat.mod_lt _ (by decide)⟩ : Fin 128) (y 2)) (y 2) ((y 3).val / 128) := by
  have hj : (j 3).val < 128 := (j 3).isLt
  have z0 : j 0 = (0 : Fin 1) := Fin.ext (by have := (j 0).isLt; change _ < 1 at this; change (j 0).val = 0; omega)
  have z1 : j 1 = (0 : Fin 1) := Fin.ext (by have := (j 1).isLt; change _ < 1 at this; change (j 1).val = 0; omega)
  have e2 : y 2 = (j 2 : Fin 128) := Fin.ext h2
  have e3 : (⟨(y 3).val % 128, Nat.mod_lt _ (by decide)⟩ : Fin 128) = (j 3 : Fin 128) := Fin.ext (by change (y 3).val % 128 = (j 3).val; omega)
  have ek : (y 3).val / 128 = k := by omega
  have ej : j = ix4 (0 : Fin 1) (0 : Fin 1) (j 2) (j 3) := (eq_ix4 j).trans (congrArg₂ (fun a b => ix4 a b (j 2) (j 3)) z0 z1)
  rw [ek, e3]
  refine (congrArg w ej).trans ((hw (j 3) (j 2)).trans ?_)
  exact congrArg (fun a : Fin 128 => ssAt (U x0 (j 3) a) (G x1 a) (S x2 (j 3) a) a k) e2.symm

theorem ss_blk (y : S1x1x128x512.Idx) : out0_3 (F := Ideal) x0 x1 x2 y =
    ssAt (U x0 (⟨(y 3).val % 128, Nat.mod_lt _ (by decide)⟩ : Fin 128) (y 2)) (G x1 (y 2)) (S x2 (⟨(y 3).val % 128, Nat.mod_lt _ (by decide)⟩ : Fin 128) (y 2)) (y 2) ((y 3).val / 128) := by
  unfold out0_3
  canon_tiles j h
  · exact ss_case x0 x1 x2 _ 0 (bw0_apply x0 x1 x2) y j h2 (by omega)
  · exact ss_case x0 x1 x2 _ 1 (bw1_apply x0 x1 x2) y j h2 (by omega)
  · exact ss_case x0 x1 x2 _ 2 (bw2_apply x0 x1 x2) y j h2 (by omega)
  · exact ss_case x0 x1 x2 _ 3 (bw3_apply x0 x1 x2) y j h2 (by omega)

theorem sfin_apply : out0_4 (F := Ideal) x0 x1 x2 (ix4 0 0 q l) = sfAt (U x0 q l) (G x1 l) (S x2 q l) l := by
  unfold out0_4 sfAt
  frame_out
  rw [st1, pay13_apply, mid3, back0_apply, ub3_apply, gb3_apply, ub0_apply, gb0_apply]; rfl
end

theorem blk_U (c : Dev nD) (t : Fin cfg0.N) (ht : t.val < 64) (q l : Fin 128) : U (iblk m c 0 t) q l =
    upd (m ((c : Thread nD τ).loc main_arg0)) (⟨t.val / 4, by omega⟩ : Fin 16) (⟨t.val % 4, by omega⟩ : Fin 4) q l := by
  funext n
  unfold U upd
  blk_point [iblk, V, idx t]
theorem blk_G (c : Dev nD) (t : Fin cfg0.N) (ht : t.val < 64) (l : Fin 128) : G (iblk m c 1 t) l =
    gat (m ((c : Thread nD τ).loc main_arg1)) (⟨t.val / 4, by omega⟩ : Fin 16) (⟨t.val % 4, by omega⟩ : Fin 4) l := by
  funext n
  unfold G gat
  blk_point [iblk, V, idx t]
theorem blk_S (c : Dev nD) (t : Fin cfg0.N) (ht : t.val < 64) (q l : Fin 128) : S (iblk m c 2 t) q l =
    m ((c : Thread nD τ).loc main_arg2) (ix4 (⟨t.val / 4, by omega⟩ : Fin 16) (⟨t.val % 4, by omega⟩ : Fin 4) q l) := by
  unfold S
  blk_point [iblk, V, idx t]

theorem blk_ss (c : Dev nD) (t : Fin cfg0.N) (ht : t.val < 64) (q l : Fin 128) (n : Nat) :
    ssAt (U (iblk m c 0 t) q l) (G (iblk m c 1 t) l) (S (iblk m c 2 t) q l) l n =
      ssAt (upd (m ((c : Thread nD τ).loc main_arg0)) (⟨t.val / 4, by omega⟩ : Fin 16) (⟨t.val % 4, by omega⟩ : Fin 4) q l) (gat (m ((c : Thread nD τ).loc main_arg1)) (⟨t.val / 4, by omega⟩ : Fin 16) (⟨t.val % 4, by omega⟩ : Fin 4) l)
        (m ((c : Thread nD τ).loc main_arg2) (ix4 (⟨t.val / 4, by omega⟩ : Fin 16) (⟨t.val % 4, by omega⟩ : Fin 4) q l)) l n := by
  rw [blk_U m c t ht, blk_G m c t ht, blk_S m c t ht]
theorem blk_sf (c : Dev nD) (t : Fin cfg0.N) (ht : t.val < 64) (q l : Fin 128) :
    sfAt (U (iblk m c 0 t) q l) (G (iblk m c 1 t) l) (S (iblk m c 2 t) q l) l =
      sfAt (upd (m ((c : Thread nD τ).loc main_arg0)) (⟨t.val / 4, by omega⟩ : Fin 16) (⟨t.val % 4, by omega⟩ : Fin 4) q l) (gat (m ((c : Thread nD τ).loc main_arg1)) (⟨t.val / 4, by omega⟩ : Fin 16) (⟨t.val % 4, by omega⟩ : Fin 4) l)
        (m ((c : Thread nD τ).loc main_arg2) (ix4 (⟨t.val / 4, by omega⟩ : Fin 16) (⟨t.val % 4, by omega⟩ : Fin 4) q l)) l := by
  rw [blk_U m c t ht, blk_G m c t ht, blk_S m c t ht]

open Cert.RefScanCtxIdeal.Read in
theorem final_ss (c : Dev nD) : (dats m 0 c).arrAt 3 (cfgs 0).N = val_main_v83 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2.2
  have hy : (y 3).val < 512 := (y 3).isLt
  have e3 : (y 3 : Fin 512) = (⟨128 * (⟨(y 3).val / 128, by omega⟩ : Fin 4).val + (⟨(y 3).val % 128, Nat.mod_lt _ (by decide)⟩ : Fin 128).val, by dsimp only; omega⟩ : Fin 512) :=
    Fin.ext (by change (y 3).val = 128 * ((y 3).val / 128) + (y 3).val % 128; omega)
  have hb : (win0_3.blk t).view.emb y = ix4 (⟨t.val / 4, by omega⟩ : Fin 16) (⟨t.val % 4, by omega⟩ : Fin 4) (y 2) (y 3) := by
    blk_point [idx t]
  have hb' := hb.trans (congrArg (ix4 (⟨t.val / 4, by omega⟩ : Fin 16) (⟨t.val % 4, by omega⟩ : Fin 4) (y 2)) e3)
  blk_simp
  rw [after0_3]
  refine (ss_blk _ _ _ y).trans (Eq.trans ?_ ((ss_at _ _ _ (⟨t.val / 4, by omega⟩ : Fin 16) (⟨t.val % 4, by omega⟩ : Fin 4) (⟨(y 3).val % 128, Nat.mod_lt _ (by decide)⟩ : Fin 128)
    (y 2) (⟨(y 3).val / 128, by omega⟩ : Fin 4)).symm.trans (congrArg _ hb'.symm)))
  exact blk_ss m c t ht _ (y 2) _

open Cert.RefScanCtxIdeal.Read in
theorem final_sf (c : Dev nD) : (dats m 0 c).arrAt 4 (cfgs 0).N = val_main_v84 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (idx t).2.2.2.2.2
  have z0 : y 0 = (0 : Fin 1) := Fin.ext (by have := (y 0).isLt; change _ < 1 at this; change (y 0).val = 0; omega)
  have z1 : y 1 = (0 : Fin 1) := Fin.ext (by have := (y 1).isLt; change _ < 1 at this; change (y 1).val = 0; omega)
  have ey : y = ix4 (0 : Fin 1) (0 : Fin 1) (y 2) (y 3) := (eq_ix4 y).trans (congrArg₂ (fun a b => ix4 a b (y 2) (y 3)) z0 z1)
  have hb : (win0_4.blk t).view.emb y = ix4 (⟨t.val / 4, by omega⟩ : Fin 16) (⟨t.val % 4, by omega⟩ : Fin 4) (y 2) (y 3) := by
    blk_point [idx t]
  blk_simp
  rw [after0_4]
  refine (congrArg _ ey).trans ((sfin_apply _ _ _ (y 2) (y 3)).trans (Eq.trans ?_ ((sf_at _ _ _ (⟨t.val / 4, by omega⟩ : Fin 16) (⟨t.val % 4, by omega⟩ : Fin 4) (y 2) (y 3)).symm.trans (congrArg _ hb.symm))))
  exact blk_sf m c t ht (y 2) (y 3)

end Cert.ScanCtxIdeal.Sweep
end
-- ==== Proof.GlaIn.Ref.lean ====
/- The output gate projection reference read at an index. -/
module

public import proofs.«01_k».proof.Proof.Gen.RefGlaInIdeal.Run
public import proofs.«01_k».proof.Proof.Gen.RefGlaInIdeal.Read
public import Idealize.ShloMosaic.Lib.Pipeline.ValueKit

@[expose] public section

set_option maxRecDepth 16384

noncomputable section

open Idealize.ShloMosaic Idealize.ShloMosaic.TcCoe Idealize.SL.Sem

namespace Cert.Proof.GlaIn
open Cert.RefGlaInIdeal Cert.RefGlaInIdeal.Gen Cert.RefGlaInIdeal.Value Cert.RefGlaInIdeal.Read

/-- One entry of the output gate's projection: columns 1024 to 1535 of the combined input projection. -/
def gate (x0 : FVec Ideal S20480x1024 .bf16) (x1 : FVec Ideal S1024x6688 .f32) (r : Fin 20480) (q : Fin 512) : EReal :=
  ∑ k : Fin 1024, x0 (ix2 r k) * x1 (ix2 k ⟨1024 + q.val, by omega⟩)

theorem ref_apply (x0 : FVec Ideal S20480x1024 .bf16) (x1 : FVec Ideal S1024x6688 .f32) (r : Fin 20480) (q : Fin 512) :
    val_main_v3 (F := Ideal) x0 x1 (ix2 r q) = gate x0 x1 r q := by
  unfold gate
  pointwise [val_main_v0, val_main_v1, val_main_v2, val_main_v3]

end Cert.Proof.GlaIn
end
-- ==== Proof.GlaIn.Sweep.lean ====
/- The projection kernel's output gate: every point computes one tile of 1024 tokens. -/
module

public import proofs.«01_k».proof.Proof.Gen.GlaInIdeal.Frame
public import proofs.«01_k».proof.Proof.GlaIn.Ref

@[expose] public section

set_option maxRecDepth 16384

noncomputable section

open Idealize.ShloMosaic Idealize.ShloMosaic.TcCoe Idealize.SL.Sem
open Idealize.ShloMosaic.Pipeline (Dat)

namespace Cert.GlaInIdeal.Sweep
open Cert.GlaInIdeal Cert.GlaInIdeal.Gen
variable (m : (ℓ : Loc nD τ sig) → Buf (Elt Ideal) ℓ)

theorem idx : ∀ t : Fin cfg0.N, win0_0.index t = ![t.val, 0] ∧ win0_3.index t = ![0, 0] ∧ win0_7.index t = ![t.val, 0] ∧ t.val < 20 :=
  (by decide +kernel : ∀ t : Fin grid0.N, _)

theorem pay_apply (h : FVec Ideal S1024x1024 .bf16) (w : FVec Ideal S1024x512 .bf16) (p : Fin 1024) (q : Fin 512) :
    k0_pay40 (F := Ideal) h w (ix2 p q) = ∑ k : Fin 1024, h (ix2 p k) * w (ix2 k q) := by
  pointwise [k0_pay40]

open Cert.RefGlaInIdeal.Read in
theorem final (c : Dev nD) : (dats m 0 c).arrAt 7 (cfgs 0).N = val_main_v3 (F := Ideal)
    (m ((c : Thread nD τ).loc main_arg0)) (m ((c : Thread nD τ).loc main_arg1)) := by
  refine (dats m 0 c).arrAt_eq_of_covers 7 _ (by decide +kernel) fun t hf y => ?_
  have ht := (idx t).2.2.2
  have hlt : t.val * 1024 + (y 0).val < 20480 := by have := (y 0).isLt; change _ < 1024 at this; omega
  have hb : (win0_7.blk t).view.emb y = ix2 (⟨t.val * 1024 + (y 0).val, hlt⟩ : Fin 20480) (y 1) := by
    blk_point [idx t]
  blk_simp
  rw [after0_7]
  unfold outsAt0
  dsimp only
  unfold out0_A_7
  frame_out
  refine Eq.trans ?_ ((Cert.Proof.GlaIn.ref_apply _ _ ⟨t.val * 1024 + (y 0).val, hlt⟩ (y 1)).symm.trans (congrArg _ hb.symm))
  refine (congrArg _ (eq_ix2 y)).trans ((pay_apply _ _ (y 0) (y 1)).trans ?_)
  unfold Cert.Proof.GlaIn.gate
  blk_point [iblk, V, idx t]

end Cert.GlaInIdeal.Sweep
end
-- ==== Proof.Ada.Ref.lean ====
/- The modulation table reference read at an index. -/
module

public import proofs.«01_k».proof.Proof.Gen.RefAdaIdeal.Run
public import proofs.«01_k».proof.Proof.Gen.RefAdaIdeal.Read
public import Idealize.ShloMosaic.Lib.Pipeline.ValueKit

@[expose] public section

set_option maxRecDepth 16384

noncomputable section

open Idealize.ShloMosaic Idealize.ShloMosaic.TcCoe Idealize.SL.Sem

namespace Cert.Proof.Ada
open Cert.RefAdaIdeal Cert.RefAdaIdeal.Gen Cert.RefAdaIdeal.Value Cert.RefAdaIdeal.Read

/-- One entry of a layer's modulation table: the conditioning row through SiLU, times the layer's weights, plus its bias. -/
def table (x0 : FVec Ideal S8x1024 .f32) (x1 : FVec Ideal S4x1024x6144 .f32) (x2 : FVec Ideal S4x6144 .f32) (l : Fin 4) (r : Fin 8) (q : Fin 6144) : EReal :=
  (∑ k : Fin 1024, x0 (ix2 r k) * Ideal.div 1 (1 + Ideal.exp (-x0 (ix2 r k))) * x1 (ix3 l k q)) + x2 (ix2 l q)

theorem ref_apply (x0 : FVec Ideal S8x1024 .f32) (x1 : FVec Ideal S4x1024x6144 .f32) (x2 : FVec Ideal S4x6144 .f32) (l : Fin 4) (r : Fin 8) (q : Fin 6144) :
    val_main_v5 (F := Ideal) x0 x1 x2 (ix3 l r q) = table x0 x1 x2 l r q := by
  unfold table
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5]
  exact congrArg (· + _) (Finset.sum_congr rfl fun _ _ => mul_comm _ _)

end Cert.Proof.Ada
end
-- ==== Proof.Ada.Sweep.lean ====
/- The modulation table kernel: every point computes a quarter of one layer's columns. -/
module

public import proofs.«01_k».proof.Proof.Gen.AdaIdeal.Frame
public import proofs.«01_k».proof.Proof.Ada.Ref

@[expose] public section

set_option maxRecDepth 16384

noncomputable section

open Idealize.ShloMosaic Idealize.ShloMosaic.TcCoe Idealize.SL.Sem
open Idealize.ShloMosaic.Pipeline (Dat)

namespace Cert.AdaIdeal.Sweep
open Cert.AdaIdeal Cert.AdaIdeal.Gen
variable (m : (ℓ : Loc nD τ sig) → Buf (Elt Ideal) ℓ)

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ t.val < 16 :=
  (by decide +kernel : ∀ t : Fin grid0.N, _)

theorem pay_apply (x : FVec Ideal S8x1024 .f32) (w : FVec Ideal S1x1024x1536 .f32) (b : FVec Ideal S1x1x1536 .f32) (r : Fin 8) (q : Fin 1536) :
    k0_pay1 (F := Ideal) x w b (ix3 0 r q) =
      (∑ k : Fin 1024, x (ix2 r k) * Ideal.div 1 (1 + Ideal.exp (-x (ix2 r k))) * w (ix3 0 k q)) + b (ix3 0 0 q) := by
  pointwise [k0_pay1]
  simp only [zero_sub]

open Cert.RefAdaIdeal.Read in
theorem final (c : Dev nD) : (dats m 0 c).arrAt 3 (cfgs 0).N = val_main_v5 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2
  have h0 : y 0 = (0 : Fin 1) := Fin.ext (by have := (y 0).isLt; change _ < 1 at this; change (y 0).val = 0; omega)
  have hlt : t.val % 4 * 1536 + (y 2).val < 6144 := by have := (y 2).isLt; change _ < 1536 at this; omega
  have hb : (win0_3.blk t).view.emb y = ix3 (⟨t.val / 4, by omega⟩ : Fin 4) (y 1) (⟨t.val % 4 * 1536 + (y 2).val, hlt⟩ : Fin 6144) := by
    blk_point [idx t]
  blk_simp
  rw [after0_3]
  unfold out0_3
  frame_out
  refine Eq.trans ?_ ((Cert.Proof.Ada.ref_apply _ _ _ ⟨t.val / 4, by omega⟩ (y 1) ⟨t.val % 4 * 1536 + (y 2).val, hlt⟩).symm.trans (congrArg _ hb.symm))
  refine (congrArg _ ((eq_ix3 y).trans (congrArg (fun a => ix3 a (y 1) (y 2)) h0))).trans ((pay_apply _ _ _ (y 1) (y 2)).trans ?_)
  unfold Cert.Proof.Ada.table
  blk_point [iblk, V, idx t]

end Cert.AdaIdeal.Sweep
end
-- ==== Proof.Prenorm.Ref.lean ====
/- The first norm reference read at an index. -/
module

public import proofs.«01_k».proof.Proof.Gen.RefPrenormIdeal.Run
public import proofs.«01_k».proof.Proof.Gen.RefPrenormIdeal.Read
public import Idealize.ShloMosaic.Lib.Pipeline.ValueKit

@[expose] public section

set_option maxRecDepth 16384

noncomputable section

open Idealize.ShloMosaic Idealize.ShloMosaic.TcCoe Idealize.SL.Sem

namespace Cert.Proof.Prenorm
open Cert.RefPrenormIdeal Cert.RefPrenormIdeal.Gen Cert.RefPrenormIdeal.Value Cert.RefPrenormIdeal.Read

/-- One entry of the normed row, scaled and shifted by the modulation row of the token's request. -/
def normed (x0 : FVec Ideal S20480x1024 .f32) (x1 : FVec Ideal S8x6x1024 .f32) (x2 : FVec Ideal S1024 .f32) (r : Fin 20480) (q : Fin 1024) : EReal :=
  x0 (ix2 r q) * Ideal.rsqrt (Ideal.div (∑ x : Fin 1024, x0 (ix2 r x) * x0 (ix2 r x)) (Ideal.ofBits FTy.f32 1149239296#32) + Ideal.ofBits FTy.f32 897988541#32)
    * x2 (ix1 q) * (1 + x1 (ix3 ⟨r.val / 4096, by omega⟩ 1 q)) + x1 (ix3 ⟨r.val / 4096, by omega⟩ 0 q)

theorem ref_apply (x0 : FVec Ideal S20480x1024 .f32) (x1 : FVec Ideal S8x6x1024 .f32) (x2 : FVec Ideal S1024 .f32) (r : Fin 20480) (q : Fin 1024) :
    val_main_v27 (F := Ideal) x0 x1 x2 (ix2 r q) = normed x0 x1 x2 r q := by
  unfold normed
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_cst_2, val_main_v17, val_main_v18, val_main_v19, val_main_v20, val_main_v21, val_main_v22, val_main_v23, val_main_v24, val_main_v25, val_main_v26, val_main_v27]

end Cert.Proof.Prenorm
end
-- ==== Proof.Prenorm.Sweep.lean ====
/- The first norm kernel: every point norms one tile of 1024 tokens. -/
module

public import proofs.«01_k».proof.Proof.Gen.PrenormIdeal.Frame
public import proofs.«01_k».proof.Proof.Prenorm.Ref

@[expose] public section

set_option maxRecDepth 16384

noncomputable section

open Idealize.ShloMosaic Idealize.ShloMosaic.TcCoe Idealize.SL.Sem
open Idealize.ShloMosaic.Pipeline (Dat)

namespace Cert.PrenormIdeal.Sweep
open Cert.PrenormIdeal Cert.PrenormIdeal.Gen
variable (m : (ℓ : Loc nD τ sig) → Buf (Elt Ideal) ℓ)

theorem idx : ∀ t : Fin cfg0.N, win0_0.index t = ![t.val, 0] ∧ win0_1.index t = ![t.val / 4, 0, 0] ∧ win0_2.index t = ![0, 0]
    ∧ win0_3.index t = ![t.val, 0] ∧ t.val < 20 :=
  (by decide +kernel : ∀ t : Fin grid0.N, _)

theorem pay_apply (md : FVec Ideal S1x6x1024 .f32) (x : FVec Ideal S1024x1024 .f32) (n : FVec Ideal S1x1024 .f32) (p q : Fin 1024) :
    k0_pay1 (F := Ideal) md x n (ix2 p q) =
      x (ix2 p q) * Ideal.rsqrt (Ideal.div (∑ k : Fin 1024, x (ix2 p k) * x (ix2 p k)) (Ideal.ofBits FTy.f32 1149239296#32) + Ideal.ofBits FTy.f32 897988541#32)
        * n (ix2 0 q) * (1 + md (ix3 0 1 q)) + md (ix3 0 0 q) := by
  pointwise [k0_pay1]

open Cert.RefPrenormIdeal.Read in
theorem final (c : Dev nD) : (dats m 0 c).arrAt 3 (cfgs 0).N = val_main_v27 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2
  have hlt : t.val * 1024 + (y 0).val < 20480 := by have := (y 0).isLt; change _ < 1024 at this; omega
  have hb : (win0_3.blk t).view.emb y = ix2 (⟨t.val * 1024 + (y 0).val, hlt⟩ : Fin 20480) (y 1) := by
    blk_point [idx t]
  blk_simp
  rw [after0_3]
  unfold out0_3
  frame_out
  refine Eq.trans ?_ ((Cert.Proof.Prenorm.ref_apply _ _ _ ⟨t.val * 1024 + (y 0).val, hlt⟩ (y 1)).symm.trans (congrArg _ hb.symm))
  refine (congrArg _ (eq_ix2 y)).trans ((pay_apply _ _ _ (y 0) (y 1)).trans ?_)
  unfold Cert.Proof.Prenorm.normed
  blk_point [iblk, V, idx t]

end Cert.PrenormIdeal.Sweep
end
-- ==== Proof.DftCtx.Ref.lean ====
/- The context Fourier reference read at an index: two products along the 256 positions of a request. -/
module

public import proofs.«01_k».proof.Proof.Gen.RefDftCtxIdeal.Run
public import proofs.«01_k».proof.Proof.Gen.RefDftCtxIdeal.Read
public import Idealize.ShloMosaic.Lib.Pipeline.ValueKit

@[expose] public section

set_option maxRecDepth 16384

noncomputable section

open Idealize.ShloMosaic Idealize.ShloMosaic.TcCoe Idealize.SL.Sem

namespace Cert.Proof.DftCtx
open Cert.RefDftCtxIdeal Cert.RefDftCtxIdeal.Gen Cert.RefDftCtxIdeal.Value Cert.RefDftCtxIdeal.Read

/-- One entry of the transform along the positions: the cosines' product and the negated sines', of row `r`'s request. -/
def along (x0 : FVec Ideal S2x20480x512 .bf16) (x1 x2 : FVec Ideal S256x256 .bf16) (r : Fin 4096) (q : Fin 512) : EReal :=
  (∑ k : Fin 256, x1 (ix2 ⟨r.val % 256, by omega⟩ k) * x0 (ix3 0 ⟨r.val / 256 * 256 + k.val, by omega⟩ q))
    + ∑ k : Fin 256, x2 (ix2 ⟨r.val % 256, by omega⟩ k) * x0 (ix3 1 ⟨r.val / 256 * 256 + k.val, by omega⟩ q)

theorem ref_apply (x0 : FVec Ideal S2x20480x512 .bf16) (x1 x2 : FVec Ideal S256x256 .bf16) (r : Fin 4096) (q : Fin 512) :
    val_main_v15 (F := Ideal) x0 x1 x2 (ix2 r q) = along x0 x1 x2 r q := by
  unfold along
  pointwise [val_main_v0, val_main_v1, val_main_v2, val_main_v3, val_main_v4, val_main_v5, val_main_v6, val_main_v7, val_main_v8, val_main_v9, val_main_v10, val_main_v11, val_main_v12, val_main_v13, val_main_v14, val_main_v15]
  exact congrArg₂ (· + ·) (Finset.sum_congr rfl fun _ _ => mul_comm _ _) (Finset.sum_congr rfl fun _ _ => mul_comm _ _)

end Cert.Proof.DftCtx
end
-- ==== Proof.DftCtx.Sweep.lean ====
/- The context Fourier kernel: every point transforms one request of 256 positions. -/
module

public import proofs.«01_k».proof.Proof.Gen.DftCtxIdeal.Frame
public import proofs.«01_k».proof.Proof.DftCtx.Ref

@[expose] public section

set_option maxRecDepth 16384

noncomputable section

open Idealize.ShloMosaic Idealize.ShloMosaic.TcCoe Idealize.SL.Sem
open Idealize.ShloMosaic.Pipeline (Dat)

namespace Cert.DftCtxIdeal.Sweep
open Cert.DftCtxIdeal Cert.DftCtxIdeal.Gen
variable (m : (ℓ : Loc nD τ sig) → Buf (Elt Ideal) ℓ)

theorem idx : ∀ t : Fin cfg0.N, win0_0.index t = ![0, t.val, 0] ∧ win0_1.index t = ![0, 0] ∧ win0_2.index t = ![0, 0]
    ∧ win0_3.index t = ![t.val, 0] ∧ t.val < 16 :=
  (by decide +kernel : ∀ t : Fin grid0.N, _)

theorem pay_apply (c s : FVec Ideal S256x256 .bf16) (a b : FVec Ideal S1x256x512 .bf16) (p : Fin 256) (q : Fin 512) :
    k0_pay1 (F := Ideal) c a s b (ix2 p q) = (∑ k : Fin 256, c (ix2 p k) * a (ix3 0 k q)) + ∑ k : Fin 256, s (ix2 p k) * b (ix3 0 k q) := by
  pointwise [k0_pay1]

open Cert.RefDftCtxIdeal.Read in
theorem final (c : Dev nD) : (dats m 0 c).arrAt 3 (cfgs 0).N = val_main_v15 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2
  have hlt : t.val * 256 + (y 0).val < 4096 := by have := (y 0).isLt; change _ < 256 at this; omega
  have hb : (win0_3.blk t).view.emb y = ix2 (⟨t.val * 256 + (y 0).val, hlt⟩ : Fin 4096) (y 1) := by
    blk_point [idx t]
  blk_simp
  rw [after0_3]
  unfold out0_3
  frame_out
  refine Eq.trans ?_ ((Cert.Proof.DftCtx.ref_apply _ _ _ ⟨t.val * 256 + (y 0).val, hlt⟩ (y 1)).symm.trans (congrArg _ hb.symm))
  refine (congrArg _ (eq_ix2 y)).trans ((pay_apply _ _ _ _ (y 0) (y 1)).trans ?_)
  unfold Cert.Proof.DftCtx.along
  blk_point [iblk, V, idx t]

end Cert.DftCtxIdeal.Sweep
end
-- ==== Proof.lean ====
/- The claims about the certified calls: for each, the two frames, the reference's frame, the ideal twin, and the equality of results. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import proofs.«01_k».proof.Proof.Gen.RefFfnIdeal.Run
public import proofs.«01_k».proof.Proof.Gen.RefFfnIdeal.Read
public import proofs.«01_k».proof.Proof.Ffn.Sweep
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.RefFfnFinalIdeal
public import proofs.«01_k».proof.Proof.Gen.RefFfnFinalIdeal.Run
public import proofs.«01_k».proof.Proof.Gen.RefFfnFinalIdeal.Read
public import proofs.«01_k».proof.Proof.FfnFinal.Sweep
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.RefMixInIdeal
public import proofs.«01_k».proof.Proof.Gen.RefMixInIdeal.Run
public import proofs.«01_k».proof.Proof.Gen.RefMixInIdeal.Read
public import proofs.«01_k».proof.Proof.MixIn.Sweep
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.RefMixOutIdeal
public import proofs.«01_k».proof.Proof.Gen.RefMixOutIdeal.Run
public import proofs.«01_k».proof.Proof.Gen.RefMixOutIdeal.Read
public import proofs.«01_k».proof.Proof.MixOut.Sweep
public import proofs.«01_k».proof.Proof.Gen.ScanCtx
public import proofs.«01_k».proof.Proof.Gen.ScanCtx.Skeleton
public import proofs.«01_k».proof.Proof.Gen.ScanCtx.Launch
public import proofs.«01_k».proof.Proof.Gen.ScanCtx.Points
public import proofs.«01_k».proof.Proof.Gen.ScanCtx.Frame
public import proofs.«01_k».proof.Proof.Gen.ScanCtxIdeal
public import proofs.«01_k».proof.Proof.Gen.ScanCtxIdeal.Skeleton
public import proofs.«01_k».proof.Proof.Gen.ScanCtxIdeal.Launch
public import proofs.«01_k».proof.Proof.Gen.ScanCtxIdeal.Points
public import proofs.«01_k».proof.Proof.Gen.ScanCtxIdeal.Frame
public import proofs.«01_k».proof.Proof.Gen.RefScanCtxIdeal
public import proofs.«01_k».proof.Proof.Gen.RefScanCtxIdeal.Run
public import proofs.«01_k».proof.Proof.Gen.RefScanCtxIdeal.Read
public import proofs.«01_k».proof.Proof.ScanCtx.Sweep
public import proofs.«01_k».proof.Proof.ScanCtx.Frame
public import proofs.«01_k».proof.Proof.Gen.GlaIn
public import proofs.«01_k».proof.Proof.Gen.GlaIn.Skeleton
public import proofs.«01_k».proof.Proof.Gen.GlaIn.Launch
public import proofs.«01_k».proof.Proof.Gen.GlaIn.Points
public import proofs.«01_k».proof.Proof.Gen.GlaIn.Frame
public import proofs.«01_k».proof.Proof.Gen.GlaInIdeal
public import proofs.«01_k».proof.Proof.Gen.GlaInIdeal.Skeleton
public import proofs.«01_k».proof.Proof.Gen.GlaInIdeal.Launch
public import proofs.«01_k».proof.Proof.Gen.GlaInIdeal.Points
public import proofs.«01_k».proof.Proof.Gen.GlaInIdeal.Frame
public import proofs.«01_k».proof.Proof.Gen.RefGlaInIdeal
public import proofs.«01_k».proof.Proof.Gen.RefGlaInIdeal.Run
public import proofs.«01_k».proof.Proof.Gen.RefGlaInIdeal.Read
public import proofs.«01_k».proof.Proof.GlaIn.Sweep
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.RefAdaIdeal
public import proofs.«01_k».proof.Proof.Gen.RefAdaIdeal.Run
public import proofs.«01_k».proof.Proof.Gen.RefAdaIdeal.Read
public import proofs.«01_k».proof.Proof.Ada.Sweep
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.RefPrenormIdeal
public import proofs.«01_k».proof.Proof.Gen.RefPrenormIdeal.Run
public import proofs.«01_k».proof.Proof.Gen.RefPrenormIdeal.Read
public import proofs.«01_k».proof.Proof.Prenorm.Sweep
public import proofs.«01_k».proof.Proof.Gen.DftCtx
public import proofs.«01_k».proof.Proof.Gen.DftCtx.Skeleton
public import proofs.«01_k».proof.Proof.Gen.DftCtx.Launch
public import proofs.«01_k».proof.Proof.Gen.DftCtx.Points
public import proofs.«01_k».proof.Proof.Gen.DftCtx.Frame
public import proofs.«01_k».proof.Proof.Gen.DftCtxIdeal
public import proofs.«01_k».proof.Proof.Gen.DftCtxIdeal.Skeleton
public import proofs.«01_k».proof.Proof.Gen.DftCtxIdeal.Launch
public import proofs.«01_k».proof.Proof.Gen.DftCtxIdeal.Points
public import proofs.«01_k».proof.Proof.Gen.DftCtxIdeal.Frame
public import proofs.«01_k».proof.Proof.Gen.RefDftCtxIdeal
public import proofs.«01_k».proof.Proof.Gen.RefDftCtxIdeal.Run
public import proofs.«01_k».proof.Proof.Gen.RefDftCtxIdeal.Read
public import proofs.«01_k».proof.Proof.DftCtx.Sweep
public import Idealize.ShloMosaic.Lib.Quiescent
public import Idealize.ShloMosaic.Adequacy
public import Idealize.ShloMosaic.Init

@[expose] public section

noncomputable section

namespace Cert.Proof

open Idealize.ShloMosaic Idealize.SL.Sem

theorem algebraic_Ffn : Cert.algebraic_FfnIdeal_RefFfnIdeal := by
  pair_intro
  · run_from Cert.FfnIdeal.Gen.run_main m g
  · run_from Cert.RefFfnIdeal.Value.run m' g'
    · exact (Cert.RefFfnIdeal.Read.val_main_v40_eq ..).trans (Cert.FfnIdeal.Sweep.final_x m c).symm
    · obtain ⟨h0, h1, h2, h3, h4, h5, h6⟩ := hagree c
      refine (Cert.RefFfnIdeal.Read.val_main_v42_eq m' c).trans ?_
      rw [h0, h1, h2, h3, h4, h5, h6]
      exact (Cert.FfnIdeal.Sweep.final_h m c).symm

/-- The reference's run read at its arguments; it declares no semaphore. -/
theorem frame_RefFfn : Cert.quiescent_RefFfnIdeal := fun m ρ _ =>
  (θ_run Cert.RefFfnIdeal.defs _ _).mono (fun r h => ⟨fun c => (h c).2.2, sem_eq_zero_of_no_sems (by decide) r.2⟩)
    (Cert.RefFfnIdeal.Value.run (F := Ideal) m ρ)

theorem algebraic_FfnFinal : Cert.algebraic_FfnFinalIdeal_RefFfnFinalIdeal := by
  pair_intro
  · run_from Cert.FfnFinalIdeal.Gen.run_main m g
  · run_from Cert.RefFfnFinalIdeal.Value.run m' g'
    · obtain ⟨h0, h1, h2, h3, h4, h5, h6⟩ := hagree c
      refine (Cert.RefFfnFinalIdeal.Read.val_main_v28_eq m' c).trans ?_
      rw [h0, h1, h2, h3, h4, h6]
      exact (Cert.FfnFinalIdeal.Sweep.final_y m c).symm

/-- The reference's run read at its arguments; it declares no semaphore. -/
theorem frame_RefFfnFinal : Cert.quiescent_RefFfnFinalIdeal := fun m ρ _ =>
  (θ_run Cert.RefFfnFinalIdeal.defs _ _).mono (fun r h => ⟨fun c => (h c).2, sem_eq_zero_of_no_sems (by decide) r.2⟩)
    (Cert.RefFfnFinalIdeal.Value.run (F := Ideal) m ρ)

theorem algebraic_MixIn : Cert.algebraic_MixInIdeal_RefMixInIdeal := by
  pair_intro
  · run_from Cert.MixInIdeal.Gen.run_main m g
  · run_from Cert.RefMixInIdeal.Value.run m' g'
    · obtain ⟨h0, h1, h2, h3, h4⟩ := hagree c
      refine (Cert.RefMixInIdeal.Read.val_main_v77_eq ..).trans ?_
      rw [h3]
      exact (Cert.MixInIdeal.Sweep.final_ab m c).symm
    · refine (Cert.RefMixInIdeal.Read.val_main_v80_eq ..).trans ?_
      exact (Cert.MixInIdeal.Sweep.final_g0 m c).symm
    · refine (Cert.RefMixInIdeal.Read.val_main_v83_eq ..).trans ?_
      exact (Cert.MixInIdeal.Sweep.final_g2 m c).symm
    · obtain ⟨h0, h1, h2, h3, h4⟩ := hagree c
      refine (Cert.RefMixInIdeal.Read.val_main_v87_eq m' c).trans ?_
      rw [h0, h1, h2, h4]
      exact (Cert.MixInIdeal.Sweep.final_yb m c).symm

/-- The reference's run read at its arguments; it declares no semaphore. -/
theorem frame_RefMixIn : Cert.quiescent_RefMixInIdeal := fun m ρ _ =>
  (θ_run Cert.RefMixInIdeal.defs _ _).mono (fun r h => ⟨fun c => (h c).2.2.2.2, sem_eq_zero_of_no_sems (by decide) r.2⟩)
    (Cert.RefMixInIdeal.Value.run (F := Ideal) m ρ)

set_option maxHeartbeats 4000000 in
theorem algebraic_MixOut : Cert.algebraic_MixOutIdeal_RefMixOutIdeal := by
  pair_intro
  · run_from Cert.MixOutIdeal.Gen.run_main m g
    · exact hc.1 17
    · exact hc.1 18
  · run_from Cert.RefMixOutIdeal.Value.run m' g'
    · obtain ⟨h0, h1, h2, h3, h4, h5, h6, h7, h8, h9, h10, h11, h12, h13, h14, h15, h16⟩ := hagree c
      refine (Cert.RefMixOutIdeal.Read.val_main_v73_eq m' c).trans ?_
      rw [h0, h1, h2, h3, h4, h5, h6, h7, h8, h9, h10, h11, h12, h14, h15, h16]
      exact (Cert.MixOutIdeal.Sweep.final_x m c).symm
    · obtain ⟨h0, h1, h2, h3, h4, h5, h6, h7, h8, h9, h10, h11, h12, h13, h14, h15, h16⟩ := hagree c
      refine (Cert.RefMixOutIdeal.Read.val_main_v75_eq m' c).trans ?_
      rw [h0, h1, h2, h3, h4, h5, h6, h7, h8, h9, h10, h11, h12, h13, h14, h15, h16]
      exact (Cert.MixOutIdeal.Sweep.final_h m c).symm

/-- The reference's run read at its arguments; it declares no semaphore. -/
theorem frame_RefMixOut : Cert.quiescent_RefMixOutIdeal := fun m ρ _ =>
  (θ_run Cert.RefMixOutIdeal.defs _ _).mono (fun r h => ⟨fun c => (h c).2.2, sem_eq_zero_of_no_sems (by decide) r.2⟩)
    (Cert.RefMixOutIdeal.Value.run (F := Ideal) m ρ)

theorem algebraic_ScanCtx : Cert.algebraic_ScanCtxIdeal_RefScanCtxIdeal := by
  pair_intro
  · run_from Cert.ScanCtxIdeal.Gen.run_main m g
  · run_from Cert.RefScanCtxIdeal.Value.run m' g'
    · obtain ⟨h0, h1, h2⟩ := hagree c
      refine (Cert.RefScanCtxIdeal.Read.val_main_v83_eq m' c).trans ?_
      rw [h0, h1, h2]
      exact (Cert.ScanCtxIdeal.Sweep.final_ss m c).symm
    · obtain ⟨h0, h1, h2⟩ := hagree c
      refine (Cert.RefScanCtxIdeal.Read.val_main_v84_eq m' c).trans ?_
      rw [h0, h1, h2]
      exact (Cert.ScanCtxIdeal.Sweep.final_sf m c).symm

/-- The reference's run read at its arguments; it declares no semaphore. -/
theorem frame_RefScanCtx : Cert.quiescent_RefScanCtxIdeal := fun m ρ _ =>
  (θ_run Cert.RefScanCtxIdeal.defs _ _).mono (fun r h => ⟨fun c => (h c).2.2, sem_eq_zero_of_no_sems (by decide) r.2⟩)
    (Cert.RefScanCtxIdeal.Value.run (F := Ideal) m ρ)

set_option maxHeartbeats 4000000 in
theorem algebraic_GlaIn : Cert.algebraic_GlaInIdeal_RefGlaInIdeal := by
  pair_intro
  · run_from Cert.GlaInIdeal.Gen.run_main m g
  · run_from Cert.RefGlaInIdeal.Value.run m' g'
    · refine (Cert.RefGlaInIdeal.Read.val_main_v3_eq ..).trans ?_
      exact (Cert.GlaInIdeal.Sweep.final m c).symm

/-- The reference's run read at its arguments; it declares no semaphore. -/
theorem frame_RefGlaIn : Cert.quiescent_RefGlaInIdeal := fun m ρ _ =>
  (θ_run Cert.RefGlaInIdeal.defs _ _).mono (fun r h => ⟨fun c => (h c).2, sem_eq_zero_of_no_sems (by decide) r.2⟩)
    (Cert.RefGlaInIdeal.Value.run (F := Ideal) m ρ)

set_option maxHeartbeats 4000000 in
theorem algebraic_Ada : Cert.algebraic_AdaIdeal_RefAdaIdeal := by
  pair_intro
  · run_from Cert.AdaIdeal.Gen.run_main m g
  · run_from Cert.RefAdaIdeal.Value.run m' g'
    · refine (Cert.RefAdaIdeal.Read.val_main_v5_eq ..).trans ?_
      exact (Cert.AdaIdeal.Sweep.final m c).symm

/-- The reference's run read at its arguments; it declares no semaphore. -/
theorem frame_RefAda : Cert.quiescent_RefAdaIdeal := fun m ρ _ =>
  (θ_run Cert.RefAdaIdeal.defs _ _).mono (fun r h => ⟨fun c => (h c).2, sem_eq_zero_of_no_sems (by decide) r.2⟩)
    (Cert.RefAdaIdeal.Value.run (F := Ideal) m ρ)

set_option maxHeartbeats 4000000 in
theorem algebraic_Prenorm : Cert.algebraic_PrenormIdeal_RefPrenormIdeal := by
  pair_intro
  · run_from Cert.PrenormIdeal.Gen.run_main m g
  · run_from Cert.RefPrenormIdeal.Value.run m' g'
    · refine (Cert.RefPrenormIdeal.Read.val_main_v27_eq ..).trans ?_
      exact (Cert.PrenormIdeal.Sweep.final m c).symm

/-- The reference's run read at its arguments; it declares no semaphore. -/
theorem frame_RefPrenorm : Cert.quiescent_RefPrenormIdeal := fun m ρ _ =>
  (θ_run Cert.RefPrenormIdeal.defs _ _).mono (fun r h => ⟨fun c => (h c).2, sem_eq_zero_of_no_sems (by decide) r.2⟩)
    (Cert.RefPrenormIdeal.Value.run (F := Ideal) m ρ)

set_option maxHeartbeats 4000000 in
theorem algebraic_DftCtx : Cert.algebraic_DftCtxIdeal_RefDftCtxIdeal := by
  pair_intro
  · run_from Cert.DftCtxIdeal.Gen.run_main m g
  · run_from Cert.RefDftCtxIdeal.Value.run m' g'
    · refine (Cert.RefDftCtxIdeal.Read.val_main_v15_eq ..).trans ?_
      exact (Cert.DftCtxIdeal.Sweep.final m c).symm

/-- The reference's run read at its arguments; it declares no semaphore. -/
theorem frame_RefDftCtx : Cert.quiescent_RefDftCtxIdeal := fun m ρ _ =>
  (θ_run Cert.RefDftCtxIdeal.defs _ _).mono (fun r h => ⟨fun c => (h c).2, sem_eq_zero_of_no_sems (by decide) r.2⟩)
    (Cert.RefDftCtxIdeal.Value.run (F := Ideal) m ρ)

theorem claim : Cert.Claim := ⟨Cert.Ffn.Gen.facts, Cert.FfnIdeal.Gen.facts, Cert.RefFfnIdeal.Gen.facts,
  Cert.FfnFinal.Gen.facts, Cert.FfnFinalIdeal.Gen.facts, Cert.RefFfnFinalIdeal.Gen.facts,
  Cert.MixIn.Gen.facts, Cert.MixInIdeal.Gen.facts, Cert.RefMixInIdeal.Gen.facts,
  Cert.MixOut.Gen.facts, Cert.MixOutIdeal.Gen.facts, Cert.RefMixOutIdeal.Gen.facts,
  Cert.ScanCtx.Gen.facts, Cert.ScanCtxIdeal.Gen.facts, Cert.RefScanCtxIdeal.Gen.facts,
  Cert.GlaIn.Gen.facts, Cert.GlaInIdeal.Gen.facts, Cert.RefGlaInIdeal.Gen.facts,
  Cert.Ada.Gen.facts, Cert.AdaIdeal.Gen.facts, Cert.RefAdaIdeal.Gen.facts,
  Cert.Prenorm.Gen.facts, Cert.PrenormIdeal.Gen.facts, Cert.RefPrenormIdeal.Gen.facts,
  Cert.DftCtx.Gen.facts, Cert.DftCtxIdeal.Gen.facts, Cert.RefDftCtxIdeal.Gen.facts,
  fun m ρ _ => Cert.Ffn.Gen.frame m ρ, fun m ρ _ => Cert.FfnIdeal.Gen.frame m ρ, frame_RefFfn,
  fun m ρ _ => Cert.FfnFinal.Gen.frame m ρ, fun m ρ _ => Cert.FfnFinalIdeal.Gen.frame m ρ, frame_RefFfnFinal,
  fun m ρ _ => Cert.MixIn.Gen.frame m ρ, fun m ρ _ => Cert.MixInIdeal.Gen.frame m ρ, frame_RefMixIn,
  fun m ρ _ => Cert.MixOut.Gen.frame m ρ, fun m ρ _ => Cert.MixOutIdeal.Gen.frame m ρ, frame_RefMixOut,
  fun m ρ _ => Cert.ScanCtx.Gen.frame m ρ, fun m ρ _ => Cert.ScanCtxIdeal.Gen.frame m ρ, frame_RefScanCtx,
  fun m ρ _ => Cert.GlaIn.Gen.frame m ρ, fun m ρ _ => Cert.GlaInIdeal.Gen.frame m ρ, frame_RefGlaIn,
  fun m ρ _ => Cert.Ada.Gen.frame m ρ, fun m ρ _ => Cert.AdaIdeal.Gen.frame m ρ, frame_RefAda,
  fun m ρ _ => Cert.Prenorm.Gen.frame m ρ, fun m ρ _ => Cert.PrenormIdeal.Gen.frame m ρ, frame_RefPrenorm,
  fun m ρ _ => Cert.DftCtx.Gen.frame m ρ, fun m ρ _ => Cert.DftCtxIdeal.Gen.frame m ρ, frame_RefDftCtx,
  trivial, algebraic_Ffn, trivial, algebraic_FfnFinal, trivial, algebraic_MixIn, trivial, algebraic_MixOut, trivial, algebraic_ScanCtx, trivial, algebraic_GlaIn, trivial, algebraic_Ada, trivial, algebraic_Prenorm, trivial, algebraic_DftCtx⟩

end Cert.Proof

end
